-- ==== Defs.lean ====
def Pre_Kernel [hPre_admissible : Cert.Pre_admissible.Facts] (m : (ℓ : Loc Cert.Kernel.nD Cert.Kernel.τ Cert.Kernel.sig) → Buf (Elt Bits) ℓ) : Prop :=
  ∀ c : Dev Cert.Kernel.nD,
    (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_admissible : Cert.Pre_admissible.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_on_written [hKernelIdeal : Cert.KernelIdeal.Facts] [hReferenceIdeal : Cert.ReferenceIdeal.Facts] [hPre_admissible : Cert.Pre_admissible.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![2, 32, 1024, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 i = 1#1 → r.2.mem ((c.tc : Thread Cert.KernelIdeal.nD Cert.KernelIdeal.τ).loc Cert.KernelIdeal.main_v19_0) i = v0 c i)
          ∧ (∀ i : (⟨4, ![2, 16, 1024, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 i = 1#1 → r.2.mem ((c.tc : Thread Cert.KernelIdeal.nD Cert.KernelIdeal.τ).loc Cert.KernelIdeal.main_v19_1) i = v1 c i)
          ∧ (∀ i : (⟨4, ![2, 16, 1024, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 i = 1#1 → r.2.mem ((c.tc : Thread Cert.KernelIdeal.nD Cert.KernelIdeal.τ).loc Cert.KernelIdeal.main_v19_2) i = v2 c i)
          ∧ (∀ i : (⟨4, ![2, 32, 1152, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2 i = 1#1 → r.2.mem ((c.tc : Thread Cert.KernelIdeal.nD Cert.KernelIdeal.τ).loc Cert.KernelIdeal.main_v19_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![2, 32, 1024, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 i = 1#1 → r.2.mem ((c.tc : Thread Cert.ReferenceIdeal.nD Cert.ReferenceIdeal.τ).loc Cert.ReferenceIdeal.main_v60) i = v0 c i)
          ∧ (∀ i : (⟨4, ![2, 16, 1024, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 i = 1#1 → r.2.mem ((c.tc : Thread Cert.ReferenceIdeal.nD Cert.ReferenceIdeal.τ).loc Cert.ReferenceIdeal.main_v68) i = v1 c i)
          ∧ (∀ i : (⟨4, ![2, 16, 1024, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 i = 1#1 → r.2.mem ((c.tc : Thread Cert.ReferenceIdeal.nD Cert.ReferenceIdeal.τ).loc Cert.ReferenceIdeal.main_v71) i = v2 c i)
          ∧ (∀ i : (⟨4, ![2, 32, 1152, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2 i = 1#1 → r.2.mem ((c.tc : Thread Cert.ReferenceIdeal.nD Cert.ReferenceIdeal.τ).loc Cert.ReferenceIdeal.main_v106) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_admissible : Cert.Pre_admissible.Facts) (hOn_written : Cert.On_written.Facts),
    quiescent_Kernel (hKernel := hKernel) (hPre_admissible := hPre_admissible)
    ∧ quiescent_KernelIdeal (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_on_written (hKernelIdeal := hKernelIdeal) (hReferenceIdeal := hReferenceIdeal) (hPre_admissible := hPre_admissible) (hOn_written := hOn_written)
-- ==== On_written.lean ====
abbrev S2x1024x32x128 : Shape := ⟨4, ![2, 1024, 32, 128]⟩
abbrev S2x32 : Shape := ⟨2, ![2, 32]⟩
abbrev S2x1024x16x128 : Shape := ⟨4, ![2, 1024, 16, 128]⟩
abbrev S2x16 : Shape := ⟨2, ![2, 16]⟩
abbrev S2x1024x32 : Shape := ⟨3, ![2, 1024, 32]⟩
abbrev S2x1024 : Shape := ⟨2, ![2, 1024]⟩
abbrev S2x1024x1024 : Shape := ⟨3, ![2, 1024, 1024]⟩
abbrev S2x1152x128 : Shape := ⟨3, ![2, 1152, 128]⟩
abbrev S2x128 : Shape := ⟨2, ![2, 128]⟩
abbrev S1152 : Shape := ⟨1, ![1152]⟩
abbrev S1x1152 : Shape := ⟨2, ![1, 1152]⟩
abbrev S2x1 : Shape := ⟨2, ![2, 1]⟩
abbrev S_ : Shape := ⟨0, ![]⟩
abbrev S2x1152 : Shape := ⟨2, ![2, 1152]⟩
abbrev S2x32x1024x128 : Shape := ⟨4, ![2, 32, 1024, 128]⟩
abbrev S2x16x1024x128 : Shape := ⟨4, ![2, 16, 1024, 128]⟩
abbrev S2x1x1152x1 : Shape := ⟨4, ![2, 1, 1152, 1]⟩
abbrev S2x32x1152x128 : Shape := ⟨4, ![2, 32, 1152, 128]⟩

class Facts : Prop where
  bcast_S1152_S1x1152_1 : S1152.BroadcastsInDim S1x1152 (![1] : Fin 1 → Fin S1x1152.rank)
  slices_S2x128_S2x1_0_0 : S2x128.Slices ![0, 0] S2x1
  bcast_S_S2x1 : S_.BroadcastsInDim S2x1 (![] : Fin 0 → Fin S2x1.rank)
  bcast_S1x1152_S2x1152_0_1 : S1x1152.BroadcastsInDim S2x1152 (![0, 1] : Fin 2 → Fin S2x1152.rank)
  bcast_S2x1_S2x1152_0_1 : S2x1.BroadcastsInDim S2x1152 (![0, 1] : Fin 2 → Fin S2x1152.rank)
  bcast_S_S2x32x1024x128 : S_.BroadcastsInDim S2x32x1024x128 (![] : Fin 0 → Fin S2x32x1024x128.rank)
  bcast_S_S2x16x1024x128 : S_.BroadcastsInDim S2x16x1024x128 (![] : Fin 0 → Fin S2x16x1024x128.rank)
  bcast_S2x1152_S2x1x1152x1_0_2 : S2x1152.BroadcastsInDim S2x1x1152x1 (![0, 2] : Fin 2 → Fin S2x1x1152x1.rank)
  bcast_S2x1x1152x1_S2x32x1152x128_0_1_2_3 : S2x1x1152x1.BroadcastsInDim S2x32x1152x128 (![0, 1, 2, 3] : Fin 4 → Fin S2x32x1152x128.rank)

variable [Facts]

def fn {F : FTy → Type} [FloatOps F] (main_arg0 : FVec F S2x1024x32x128 .fp8e4m3) (main_arg1 : FVec F S2x32 .f32) (main_arg2 : FVec F S2x1024x16x128 .fp8e4m3) (main_arg3 : FVec F S2x16 .f32) (main_arg4 : FVec F S2x1024x16x128 .fp8e4m3) (main_arg5 : FVec F S2x16 .f32) (main_arg6 : FVec F S2x1024x32x128 .bf16) (main_arg7 : FVec F S2x1024x32 .f32) (main_arg8 : FVec F S2x1024x32x128 .fp8e5m2) (main_arg9 : FVec F S2x1024 .f32) (main_arg10 : FVec F S2x1024x1024 .f32) (main_arg11 : IVec S2x1152x128 32) (main_arg12 : FVec F S2x1152x128 .f32) (main_arg13 : IVec S2x128 32) (main_arg14 : IVec S2x128 32) : IVec S2x32x1024x128 1 × IVec S2x16x1024x128 1 × IVec S2x16x1024x128 1 × IVec S2x32x1152x128 1 :=
  let main_v0 : IVec S1152 32 := iotaInDim S1152 32 0
  let main_v1 : IVec S1x1152 32 := broadcastInDim S1x1152 ![1] bcast_S1152_S1x1152_1 main_v0
  let main_v2 : IVec S2x1 32 := (extractStridedSlice S2x1 ![0, 0] · slices_S2x128_S2x1_0_0) main_arg14
  let main_c : IVec S_ 32 := constantI S_ 32 0#32
  let main_v3 : IVec S2x1 32 := broadcastInDim S2x1 ![] bcast_S_S2x1 main_c
  let main_v4 : IVec S2x1 32 := maxsi main_v2 main_v3
  let main_c_0 : IVec S_ 32 := constantI S_ 32 8#32
  let main_v5 : IVec S2x1 32 := broadcastInDim S2x1 ![] bcast_S_S2x1 main_c_0
  let main_v6 : IVec S2x1 32 := muli main_v5 main_v4
  let main_c_1 : IVec S_ 32 := constantI S_ 32 1024#32
  let main_v7 : IVec S2x1 32 := broadcastInDim S2x1 ![] bcast_S_S2x1 main_c_1
  let main_v8 : IVec S2x1 32 := addi main_v7 main_v6
  let main_v9 : IVec S2x1152 32 := broadcastInDim S2x1152 ![0, 1] bcast_S1x1152_S2x1152_0_1 main_v1
  let main_v10 : IVec S2x1152 32 := broadcastInDim S2x1152 ![0, 1] bcast_S2x1_S2x1152_0_1 main_v8
  let main_v11 : IVec S2x1152 1 := cmpi .slt main_v9 main_v10
  let main_c_2 : IVec S_ 1 := constantI S_ 1 1#1
  let main_v12 : IVec S2x32x1024x128 1 := broadcastInDim S2x32x1024x128 ![] bcast_S_S2x32x1024x128 main_c_2
  let main_c_3 : IVec S_ 1 := constantI S_ 1 1#1
  let main_v13 : IVec S2x16x1024x128 1 := broadcastInDim S2x16x1024x128 ![] bcast_S_S2x16x1024x128 main_c_3
  let main_c_4 : IVec S_ 1 := constantI S_ 1 1#1
  let main_v14 : IVec S2x16x1024x128 1 := broadcastInDim S2x16x1024x128 ![] bcast_S_S2x16x1024x128 main_c_4
  let main_v15 : IVec S2x1x1152x1 1 := broadcastInDim S2x1x1152x1 ![0, 2] bcast_S2x1152_S2x1x1152x1_0_2 main_v11
  let main_v16 : IVec S2x32x1152x128 1 := broadcastInDim S2x32x1152x128 ![0, 1, 2, 3] bcast_S2x1x1152x1_S2x32x1152x128_0_1_2_3 main_v15
  (main_v12, main_v13, main_v14, main_v16)
-- ==== Pre_admissible.lean ====
abbrev S2x1024x32x128 : Shape := ⟨4, ![2, 1024, 32, 128]⟩
abbrev S2x32 : Shape := ⟨2, ![2, 32]⟩
abbrev S2x1024x16x128 : Shape := ⟨4, ![2, 1024, 16, 128]⟩
abbrev S2x16 : Shape := ⟨2, ![2, 16]⟩
abbrev S2x1024x32 : Shape := ⟨3, ![2, 1024, 32]⟩
abbrev S2x1024 : Shape := ⟨2, ![2, 1024]⟩
abbrev S2x1024x1024 : Shape := ⟨3, ![2, 1024, 1024]⟩
abbrev S2x1152x128 : Shape := ⟨3, ![2, 1152, 128]⟩
abbrev S2x128 : Shape := ⟨2, ![2, 128]⟩
abbrev S128 : Shape := ⟨1, ![128]⟩
abbrev S1x128 : Shape := ⟨2, ![1, 128]⟩
abbrev S2x1 : Shape := ⟨2, ![2, 1]⟩
abbrev S_ : Shape := ⟨0, ![]⟩

class Facts : Prop where
  bcast_S128_S1x128_1 : S128.BroadcastsInDim S1x128 (![1] : Fin 1 → Fin S1x128.rank)
  slices_S2x128_S2x1_0_0 : S2x128.Slices ![0, 0] S2x1
  bcast_S1x128_S2x128_0_1 : S1x128.BroadcastsInDim S2x128 (![0, 1] : Fin 2 → Fin S2x128.rank)
  bcast_S2x1_S2x128_0_1 : S2x1.BroadcastsInDim S2x128 (![0, 1] : Fin 2 → Fin S2x128.rank)
  bcast_S_S2x1 : S_.BroadcastsInDim S2x1 (![] : Fin 0 → Fin S2x1.rank)
  bcast_S_S2x128 : S_.BroadcastsInDim S2x128 (![] : Fin 0 → Fin S2x128.rank)
  reducesTo_S2x128_S_d0_1 : S2x128.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_

variable [Facts]

def fn_part1 {F : FTy → Type} [FloatOps F] (main_arg9 : FVec F S2x1024 .f32) (main_v18 : IVec S_ 1) (main_cst : FVec F S_ .f32) : IVec S_ 1 :=
  let main_v19 : FVec F S2x1024 .f32 := broadcastInDim S2x1024 ![] bcast_S_S2x1024 main_cst
  let main_v20 : IVec S2x1024 1 := cmpf .oge main_arg9 main_v19
  let main_cst_3 : FVec F S_ .f32 := constant S_ .f32 0x7F800000#32
  let main_v21 : FVec F S2x1024 .f32 := broadcastInDim S2x1024 ![] bcast_S_S2x1024 main_cst_3
  let main_v22 : IVec S2x1024 1 := cmpf .olt main_arg9 main_v21
  let main_v23 : IVec S2x1024 1 := andi main_v20 main_v22
  let main_c_4 : IVec S_ 1 := constantI S_ 1 1#1
  let main_v24 : IVec S_ 1 := (fun x v => Host.reduce IntOp.andi x v reducesTo_S2x1024_S_d0_1 h_S_) main_v23 main_c_4
  let main_v25 : IVec S_ 1 := andi main_v18 main_v24
  main_v25

def fn {F : FTy → Type} [FloatOps F] (main_arg0 : FVec F S2x1024x32x128 .fp8e4m3) (main_arg1 : FVec F S2x32 .f32) (main_arg2 : FVec F S2x1024x16x128 .fp8e4m3) (main_arg3 : FVec F S2x16 .f32) (main_arg4 : FVec F S2x1024x16x128 .fp8e4m3) (main_arg5 : FVec F S2x16 .f32) (main_arg6 : FVec F S2x1024x32x128 .bf16) (main_arg7 : FVec F S2x1024x32 .f32) (main_arg8 : FVec F S2x1024x32x128 .fp8e5m2) (main_arg9 : FVec F S2x1024 .f32) (main_arg10 : FVec F S2x1024x1024 .f32) (main_arg11 : IVec S2x1152x128 32) (main_arg12 : FVec F S2x1152x128 .f32) (main_arg13 : IVec S2x128 32) (main_arg14 : IVec S2x128 32) : IVec S_ 1 :=
  let main_v0 : IVec S128 32 := iotaInDim S128 32 0
  let main_v1 : IVec S1x128 32 := broadcastInDim S1x128 ![1] bcast_S128_S1x128_1 main_v0
  let main_v2 : IVec S2x1 32 := (extractStridedSlice S2x1 ![0, 0] · slices_S2x128_S2x1_0_0) main_arg14
  let main_v3 : IVec S2x128 32 := broadcastInDim S2x128 ![0, 1] bcast_S1x128_S2x128_0_1 main_v1
  let main_v4 : IVec S2x128 32 := broadcastInDim S2x128 ![0, 1] bcast_S2x1_S2x128_0_1 main_v2
  let main_v5 : IVec S2x128 1 := cmpi .slt main_v3 main_v4
  let main_v6 : IVec S2x1 32 := (extractStridedSlice S2x1 ![0, 0] · slices_S2x128_S2x1_0_0) main_arg14
  let main_c : IVec S_ 32 := constantI S_ 32 16#32
  let main_v7 : IVec S2x1 32 := broadcastInDim S2x1 ![] bcast_S_S2x1 main_c
  let main_v8 : IVec S2x1 1 := cmpi .sle main_v6 main_v7
  let main_v9 : IVec S2x128 1 := noti main_v5
  let main_c_0 : IVec S_ 32 := constantI S_ 32 0#32
  let main_v10 : IVec S2x128 32 := broadcastInDim S2x128 ![] bcast_S_S2x128 main_c_0
  let main_v11 : IVec S2x128 1 := cmpi .sge main_arg13 main_v10
  let main_c_1 : IVec S_ 32 := constantI S_ 32 128#32
  let main_v12 : IVec S2x128 32 := broadcastInDim S2x128 ![] bcast_S_S2x128 main_c_1
  let main_v13 : IVec S2x128 1 := cmpi .slt main_arg13 main_v12
  let main_v14 : IVec S2x128 1 := andi main_v11 main_v13
  let main_v15 : IVec S2x128 1 := ori main_v9 main_v14
  let main_v16 : IVec S2x128 1 := broadcastInDim S2x128 ![0, 1] bcast_S2x1_S2x128_0_1 main_v8
  let main_v17 : IVec S2x128 1 := andi main_v16 main_v15
  let main_c_2 : IVec S_ 1 := constantI S_ 1 1#1
  let main_v18 : IVec S_ 1 := (fun x v => Host.reduce IntOp.andi x v reducesTo_S2x128_S_d0_1 h_S_) main_v17 main_c_2
  let main_cst : FVec F S_ .f32 := constant S_ .f32 0x00000000#32
  fn_part1 (F := F) main_arg9 main_v18 main_cst
-- ==== Kernel.lean ====
abbrev S2x1024x32x128 : Shape := ⟨4, ![2, 1024, 32, 128]⟩
abbrev S2x32 : Shape := ⟨2, ![2, 32]⟩
abbrev S2x1024x16x128 : Shape := ⟨4, ![2, 1024, 16, 128]⟩
abbrev S2x16 : Shape := ⟨2, ![2, 16]⟩
abbrev S2x1024x32 : Shape := ⟨3, ![2, 1024, 32]⟩
abbrev S2x1024 : Shape := ⟨2, ![2, 1024]⟩
abbrev S2x1024x1024 : Shape := ⟨3, ![2, 1024, 1024]⟩
abbrev S2x1152x128 : Shape := ⟨3, ![2, 1152, 128]⟩
abbrev S2x128 : Shape := ⟨2, ![2, 128]⟩
abbrev S1x2x1x16 : Shape := ⟨4, ![1, 2, 1, 16]⟩
abbrev S1x2x2x16 : Shape := ⟨4, ![1, 2, 2, 16]⟩
abbrev S1x2x32 : Shape := ⟨3, ![1, 2, 32]⟩
abbrev S3x2x32 : Shape := ⟨3, ![3, 2, 32]⟩
abbrev S2x32x1024 : Shape := ⟨3, ![2, 32, 1024]⟩
abbrev S2x32x1x1024 : Shape := ⟨4, ![2, 32, 1, 1024]⟩
abbrev S2x1024x1 : Shape := ⟨3, ![2, 1024, 1]⟩
abbrev S2x1024x128 : Shape := ⟨3, ![2, 1024, 128]⟩
abbrev S2x32x1024x128 : Shape := ⟨4, ![2, 32, 1024, 128]⟩
abbrev S2x16x1024x128 : Shape := ⟨4, ![2, 16, 1024, 128]⟩
abbrev S2x32x1152x128 : Shape := ⟨4, ![2, 32, 1152, 128]⟩
abbrev S1x2x1024x128 : Shape := ⟨4, ![1, 2, 1024, 128]⟩
abbrev S1x1x1024x128 : Shape := ⟨4, ![1, 1, 1024, 128]⟩
abbrev S1x2x1x1024 : Shape := ⟨4, ![1, 2, 1, 1024]⟩
abbrev S1x1024x128 : Shape := ⟨3, ![1, 1024, 128]⟩
abbrev S1x1024x1024 : Shape := ⟨3, ![1, 1024, 1024]⟩
abbrev S1x1152x128 : Shape := ⟨3, ![1, 1152, 128]⟩
abbrev S1x2x1152x128 : Shape := ⟨4, ![1, 2, 1152, 128]⟩
abbrev S1024x1024 : Shape := ⟨2, ![1024, 1024]⟩
abbrev S128x1024 : Shape := ⟨2, ![128, 1024]⟩
abbrev S1x1x1 : Shape := ⟨3, ![1, 1, 1]⟩
abbrev S1024x128 : Shape := ⟨2, ![1024, 128]⟩
abbrev S1024 : Shape := ⟨1, ![1024]⟩
abbrev S1024x1 : Shape := ⟨2, ![1024, 1]⟩
abbrev S1x1x1x128 : Shape := ⟨4, ![1, 1, 1, 128]⟩
abbrev S1x128 : Shape := ⟨2, ![1, 128]⟩
abbrev S128x128 : Shape := ⟨2, ![128, 128]⟩
abbrev S1x128x128 : Shape := ⟨3, ![1, 128, 128]⟩
abbrev S256x128 : Shape := ⟨2, ![256, 128]⟩
abbrev S128x256 : Shape := ⟨2, ![128, 256]⟩
abbrev S256x256 : Shape := ⟨2, ![256, 256]⟩
abbrev S1x256x128 : Shape := ⟨3, ![1, 256, 128]⟩
abbrev S1x256x256 : Shape := ⟨3, ![1, 256, 256]⟩
abbrev S256x1024 : Shape := ⟨2, ![256, 1024]⟩
abbrev S1x1x256x128 : Shape := ⟨4, ![1, 1, 256, 128]⟩
abbrev S1024x256 : Shape := ⟨2, ![1024, 256]⟩
abbrev S1x8x128 : Shape := ⟨3, ![1, 8, 128]⟩
abbrev S8x128 : Shape := ⟨2, ![8, 128]⟩
abbrev S8x128x1 : Shape := ⟨3, ![8, 128, 1]⟩
abbrev S1x1x8x128 : Shape := ⟨4, ![1, 1, 8, 128]⟩
abbrev S1x1 : Shape := ⟨2, ![1, 1]⟩

abbrev nBuf : Space → Nat
  | .hbm => 38
  | .vmem => 34
  | .smem => 3
  | _ => 0

abbrev bufTy : (tb : Table) → Fin (tcTables nBuf tb) → BufTy
  | .hbm, ⟨0, _⟩ => ⟨S2x1024x32x128, .fp8e4m3⟩
  | .hbm, ⟨1, _⟩ => ⟨S2x32, .f32⟩
  | .hbm, ⟨2, _⟩ => ⟨S2x1024x16x128, .fp8e4m3⟩
  | .hbm, ⟨3, _⟩ => ⟨S2x16, .f32⟩
  | .hbm, ⟨4, _⟩ => ⟨S2x1024x16x128, .fp8e4m3⟩
  | .hbm, ⟨5, _⟩ => ⟨S2x16, .f32⟩
  | .hbm, ⟨6, _⟩ => ⟨S2x1024x32x128, .bf16⟩
  | .hbm, ⟨7, _⟩ => ⟨S2x1024x32, .f32⟩
  | .hbm, ⟨8, _⟩ => ⟨S2x1024x32x128, .fp8e5m2⟩
  | .hbm, ⟨9, _⟩ => ⟨S2x1024, .f32⟩
  | .hbm, ⟨10, _⟩ => ⟨S2x1024x1024, .f32⟩
  | .hbm, ⟨11, _⟩ => ⟨S2x1152x128, .i32⟩
  | .hbm, ⟨12, _⟩ => ⟨S2x1152x128, .f32⟩
  | .hbm, ⟨13, _⟩ => ⟨S2x128, .i32⟩
  | .hbm, ⟨14, _⟩ => ⟨S2x128, .i32⟩
  | .hbm, ⟨15, _⟩ => ⟨S1x2x1x16, .f32⟩
  | .hbm, ⟨16, _⟩ => ⟨S1x2x2x16, .f32⟩
  | .hbm, ⟨17, _⟩ => ⟨S2x32, .f32⟩
  | .hbm, ⟨18, _⟩ => ⟨S1x2x1x16, .f32⟩
  | .hbm, ⟨19, _⟩ => ⟨S1x2x2x16, .f32⟩
  | .hbm, ⟨20, _⟩ => ⟨S2x32, .f32⟩
  | .hbm, ⟨21, _⟩ => ⟨S1x2x32, .f32⟩
  | .hbm, ⟨22, _⟩ => ⟨S1x2x32, .f32⟩
  | .hbm, ⟨23, _⟩ => ⟨S1x2x32, .f32⟩
  | .hbm, ⟨24, _⟩ => ⟨S3x2x32, .f32⟩
  | .hbm, ⟨25, _⟩ => ⟨S2x32x1024, .f32⟩
  | .hbm, ⟨26, _⟩ => ⟨S2x32x1x1024, .f32⟩
  | .hbm, ⟨27, _⟩ => ⟨S2x1024x1, .f32⟩
  | .hbm, ⟨28, _⟩ => ⟨S2x1024x128, .f32⟩
  | .hbm, ⟨29, _⟩ => ⟨S2x32x1024x128, .fp8e4m3⟩
  | .hbm, ⟨30, _⟩ => ⟨S2x32x1024x128, .fp8e5m2⟩
  | .hbm, ⟨31, _⟩ => ⟨S2x32x1024x128, .bf16⟩
  | .hbm, ⟨32, _⟩ => ⟨S2x16x1024x128, .fp8e4m3⟩
  | .hbm, ⟨33, _⟩ => ⟨S2x16x1024x128, .fp8e4m3⟩
  | .hbm, ⟨34, _⟩ => ⟨S2x32x1024x128, .bf16⟩
  | .hbm, ⟨35, _⟩ => ⟨S2x16x1024x128, .bf16⟩
  | .hbm, ⟨36, _⟩ => ⟨S2x16x1024x128, .bf16⟩
  | .hbm, ⟨37, _⟩ => ⟨S2x32x1152x128, .f32⟩
  | .local _ .vmem, ⟨0, _⟩ => ⟨S1x2x1024x128, .fp8e4m3⟩
  | .local _ .vmem, ⟨1, _⟩ => ⟨S1x2x1024x128, .fp8e4m3⟩
  | .local _ .vmem, ⟨2, _⟩ => ⟨S1x2x1024x128, .fp8e5m2⟩
  | .local _ .vmem, ⟨3, _⟩ => ⟨S1x2x1024x128, .fp8e5m2⟩
  | .local _ .vmem, ⟨4, _⟩ => ⟨S1x2x1024x128, .bf16⟩
  | .local _ .vmem, ⟨5, _⟩ => ⟨S1x2x1024x128, .bf16⟩
  | .local _ .vmem, ⟨6, _⟩ => ⟨S1x1x1024x128, .fp8e4m3⟩
  | .local _ .vmem, ⟨7, _⟩ => ⟨S1x1x1024x128, .fp8e4m3⟩
  | .local _ .vmem, ⟨8, _⟩ => ⟨S1x1x1024x128, .fp8e4m3⟩
  | .local _ .vmem, ⟨9, _⟩ => ⟨S1x1x1024x128, .fp8e4m3⟩
  | .local _ .vmem, ⟨10, _⟩ => ⟨S1x2x1x1024, .f32⟩
  | .local _ .vmem, ⟨11, _⟩ => ⟨S1x2x1x1024, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1152x128, .i32⟩
  | .local _ .vmem, ⟨17, _⟩ => ⟨S1x1152x128, .i32⟩
  | .local _ .vmem, ⟨18, _⟩ => ⟨S1x1152x128, .f32⟩
  | .local _ .vmem, ⟨19, _⟩ => ⟨S1x1152x128, .f32⟩
  | .local _ .vmem, ⟨20, _⟩ => ⟨S1x2x1024x128, .bf16⟩
  | .local _ .vmem, ⟨21, _⟩ => ⟨S1x2x1024x128, .bf16⟩
  | .local _ .vmem, ⟨22, _⟩ => ⟨S1x1x1024x128, .bf16⟩
  | .local _ .vmem, ⟨23, _⟩ => ⟨S1x1x1024x128, .bf16⟩
  | .local _ .vmem, ⟨24, _⟩ => ⟨S1x1x1024x128, .bf16⟩
  | .local _ .vmem, ⟨25, _⟩ => ⟨S1x1x1024x128, .bf16⟩
  | .local _ .vmem, ⟨26, _⟩ => ⟨S1x2x1152x128, .f32⟩
  | .local _ .vmem, ⟨27, _⟩ => ⟨S1x2x1152x128, .f32⟩
  | .local _ .vmem, ⟨28, _⟩ => ⟨S1024x1024, .bf16⟩
  | .local _ .vmem, ⟨29, _⟩ => ⟨S1024x1024, .bf16⟩
  | .local _ .vmem, ⟨30, _⟩ => ⟨S1024x1024, .f32⟩
  | .local _ .vmem, ⟨31, _⟩ => ⟨S2x1024x128, .f32⟩
  | .local _ .vmem, ⟨32, _⟩ => ⟨S128x1024, .f32⟩
  | .local _ .vmem, ⟨33, _⟩ => ⟨S128x1024, .f32⟩
  | .local _ .smem, ⟨0, _⟩ => ⟨S3x2x32, .f32⟩
  | .local _ .smem, ⟨1, _⟩ => ⟨S2x128, .i32⟩
  | .local _ .smem, ⟨2, _⟩ => ⟨S2x128, .i32⟩
  | _, _ => ⟨S2x1024x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v19_3 : Ref sig .tc := ⟨.hbm, 37, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c1 : Index := 1#32
  let arg0 : BitVec 32 := BitVec.ofNat 32 (i 0).val
  let v0 : Index := Scalar.indexCast arg0
  let arg1 : BitVec 32 := BitVec.ofNat 32 (i 1).val
  let v1 : Index := Scalar.indexCast arg1
  ![1, v0.toNat, v1.toNat]
def k0_off2 (i : grid0.Coords) : Fin 3 → Nat :=
  let c2 : Index := 2#32
  let arg0 : BitVec 32 := BitVec.ofNat 32 (i 0).val
  let v3 : Index := Scalar.indexCast arg0
  let arg1 : BitVec 32 := BitVec.ofNat 32 (i 1).val
  let v4 : Index := Scalar.indexCast arg1
  ![2, v3.toNat, v4.toNat]
def k0_off3 (i : grid0.Coords) : Fin 3 → Nat :=
  let c0_7 : Index := 0#32
  let arg0 : BitVec 32 := BitVec.ofNat 32 (i 0).val
  let v16 : Index := Scalar.indexCast arg0
  let c2_i32 : BitVec 32 := 2#32
  let arg1 : BitVec 32 := BitVec.ofNat 32 (i 1).val
  let v14 : BitVec 32 := Scalar.muli c2_i32 arg1
  let c0_i32 : BitVec 32 := 0#32
  let v15 : BitVec 32 := Scalar.addi v14 c0_i32
  let v17 : Index := Scalar.indexCast v15
  ![0, v16.toNat, v17.toNat]
@[reducible] def k0_t1_loop : Scf.Loop 32 :=
  let c0_i32_482 : BitVec 32 := 0#32
  let c128_i32 : BitVec 32 := 128#32
  let v824 : BitVec 32 := Scalar.addi c0_i32_482 c128_i32
  let c1_i32 : BitVec 32 := 1#32
  ⟨c0_i32_482, v824, c1_i32⟩
def k0_mult1 (k0_t1 : Fin k0_t1_loop.trips) : BitVec 32 :=
  let c0_i32_482 : BitVec 32 := 0#32
  let c1_i32 : BitVec 32 := 1#32
  let arg25 : BitVec 32 := Scf.iv c0_i32_482 c1_i32 k0_t1
  let c8_i32 : BitVec 32 := 8#32
  let v1686 : BitVec 32 := Scalar.muli arg25 c8_i32
  v1686
def k0_off4 (k0_t1 : Fin k0_t1_loop.trips) : Fin 3 → Nat :=
  let c0_1017 : Index := 0#32
  let c0_i32_482 : BitVec 32 := 0#32
  let c1_i32 : BitVec 32 := 1#32
  let arg25 : BitVec 32 := Scf.iv c0_i32_482 c1_i32 k0_t1
  let c8_i32 : BitVec 32 := 8#32
  let v1686 : BitVec 32 := Scalar.muli arg25 c8_i32
  let v1687 : BitVec 32 := v1686
  let v1688 : Index := Scalar.indexCast v1687
  let c0_1018 : Index := 0#32
  ![0, v1688.toNat, 0]
def k0_off5 (k0_t1 : Fin k0_t1_loop.trips) : Fin 2 → Nat :=
  let c0_i32_482 : BitVec 32 := 0#32
  let c1_i32 : BitVec 32 := 1#32
  let arg25 : BitVec 32 := Scf.iv c0_i32_482 c1_i32 k0_t1
  let c8_i32 : BitVec 32 := 8#32
  let v1686 : BitVec 32 := Scalar.muli arg25 c8_i32
  let v1687 : BitVec 32 := v1686
  let v1696 : Index := Scalar.indexCast v1687
  let c0_1020 : Index := 0#32
  ![v1696.toNat, 0]
def k0_off6 (k0_t1 : Fin k0_t1_loop.trips) : Fin 2 → Nat :=
  let c0_i32_482 : BitVec 32 := 0#32
  let c1_i32 : BitVec 32 := 1#32
  let arg25 : BitVec 32 := Scf.iv c0_i32_482 c1_i32 k0_t1
  let c8_i32 : BitVec 32 := 8#32
  let v1686 : BitVec 32 := Scalar.muli arg25 c8_i32
  let v1687 : BitVec 32 := v1686
  let v1709 : Index := Scalar.indexCast v1687
  let c128_1024 : Index := 128#32
  ![v1709.toNat, 128]
def k0_off7 (k0_t1 : Fin k0_t1_loop.trips) : Fin 2 → Nat :=
  let c0_i32_482 : BitVec 32 := 0#32
  let c1_i32 : BitVec 32 := 1#32
  let arg25 : BitVec 32 := Scf.iv c0_i32_482 c1_i32 k0_t1
  let c8_i32 : BitVec 32 := 8#32
  let v1686 : BitVec 32 := Scalar.muli arg25 c8_i32
  let v1687 : BitVec 32 := v1686
  let v1722 : Index := Scalar.indexCast v1687
  let c256_1028 : Index := 256#32
  ![v1722.toNat, 256]
def k0_off8 (k0_t1 : Fin k0_t1_loop.trips) : Fin 2 → Nat :=
  let c0_i32_482 : BitVec 32 := 0#32
  let c1_i32 : BitVec 32 := 1#32
  let arg25 : BitVec 32 := Scf.iv c0_i32_482 c1_i32 k0_t1
  let c8_i32 : BitVec 32 := 8#32
  let v1686 : BitVec 32 := Scalar.muli arg25 c8_i32
  let v1687 : BitVec 32 := v1686
  let v1735 : Index := Scalar.indexCast v1687
  let c384_1032 : Index := 384#32
  ![v1735.toNat, 384]
def k0_off9 (k0_t1 : Fin k0_t1_loop.trips) : Fin 2 → Nat :=
  let c0_i32_482 : BitVec 32 := 0#32
  let c1_i32 : BitVec 32 := 1#32
  let arg25 : BitVec 32 := Scf.iv c0_i32_482 c1_i32 k0_t1
  let c8_i32 : BitVec 32 := 8#32
  let v1686 : BitVec 32 := Scalar.muli arg25 c8_i32
  let v1687 : BitVec 32 := v1686
  let v1748 : Index := Scalar.indexCast v1687
  let c512_1035 : Index := 512#32
  ![v1748.toNat, 512]
def k0_off10 (k0_t1 : Fin k0_t1_loop.trips) : Fin 2 → Nat :=
  let c0_i32_482 : BitVec 32 := 0#32
  let c1_i32 : BitVec 32 := 1#32
  let arg25 : BitVec 32 := Scf.iv c0_i32_482 c1_i32 k0_t1
  let c8_i32 : BitVec 32 := 8#32
  let v1686 : BitVec 32 := Scalar.muli arg25 c8_i32
  let v1687 : BitVec 32 := v1686
  let v1761 : Index := Scalar.indexCast v1687
  let c640_1038 : Index := 640#32
  ![v1761.toNat, 640]
def k0_off11 (k0_t1 : Fin k0_t1_loop.trips) : Fin 2 → Nat :=
  let c0_i32_482 : BitVec 32 := 0#32
  let c1_i32 : BitVec 32 := 1#32
  let arg25 : BitVec 32 := Scf.iv c0_i32_482 c1_i32 k0_t1
  let c8_i32 : BitVec 32 := 8#32
  let v1686 : BitVec 32 := Scalar.muli arg25 c8_i32
  let v1687 : BitVec 32 := v1686
  let v1774 : Index := Scalar.indexCast v1687
  let c768_1041 : Index := 768#32
  ![v1774.toNat, 768]
def k0_off12 (k0_t1 : Fin k0_t1_loop.trips) : Fin 2 → Nat :=
  let c0_i32_482 : BitVec 32 := 0#32
  let c1_i32 : BitVec 32 := 1#32
  let arg25 : BitVec 32 := Scf.iv c0_i32_482 c1_i32 k0_t1
  let c8_i32 : BitVec 32 := 8#32
  let v1686 : BitVec 32 := Scalar.muli arg25 c8_i32
  let v1687 : BitVec 32 := v1686
  let v1787 : Index := Scalar.indexCast v1687
  let c896_1044 : Index := 896#32
  ![v1787.toNat, 896]
def k0_off13 (k0_t1 : Fin k0_t1_loop.trips) : Fin 4 → Nat :=
  let c0_1050 : Index := 0#32
  let c0_1051 : Index := 0#32
  let c0_i32_482 : BitVec 32 := 0#32
  let c1_i32 : BitVec 32 := 1#32
  let arg25 : BitVec 32 := Scf.iv c0_i32_482 c1_i32 k0_t1
  let c8_i32 : BitVec 32 := 8#32
  let v1686 : BitVec 32 := Scalar.muli arg25 c8_i32
  let v1687 : BitVec 32 := v1686
  let v1804 : Index := Scalar.indexCast v1687
  let c0_1052 : Index := 0#32
  ![0, 0, v1804.toNat, 0]
def k0_off14 (i : grid0.Coords) : Fin 2 → Nat :=
  let arg0 : BitVec 32 := BitVec.ofNat 32 (i 0).val
  let v825 : Index := Scalar.indexCast arg0
  let c0_484 : Index := 0#32
  ![v825.toNat, 0]
@[reducible] def k0_t2_loop (v826 : BitVec 32) : Scf.Loop 32 :=
  let c0_i32_485 : BitVec 32 := 0#32
  let v827 : BitVec 32 := Scalar.subi v826 c0_i32_485
  let c1_i32_487 : BitVec 32 := 1#32
  let v829 : BitVec 32 := Scalar.divsi v827 c1_i32_487
  let v830 : BitVec 32 := Scalar.muli v829 c1_i32_487
  let v831 : BitVec 32 := Scalar.addi c0_i32_485 v830
  let c1_i32_488 : BitVec 32 := 1#32
  ⟨c0_i32_485, v831, c1_i32_488⟩

def k0_off15 (i : grid0.Coords) (v826 : BitVec 32) (k0_t2 : Fin (k0_t2_loop v826).trips) : Fin 2 → Nat :=
  let arg0 : BitVec 32 := BitVec.ofNat 32 (i 0).val
  let v1686 : Index := Scalar.indexCast arg0
  let c0_i32_485 : BitVec 32 := 0#32
  let c1_i32_488 : BitVec 32 := 1#32
  let arg25 : BitVec 32 := Scf.iv c0_i32_485 c1_i32_488 k0_t2
  let v1687 : Index := Scalar.indexCast arg25
  ![v1686.toNat, v1687.toNat]
def k0_mult2 (v1688 : BitVec 32) : BitVec 32 :=
  let c8_i32 : BitVec 32 := 8#32
  let v1689 : BitVec 32 := Scalar.muli v1688 c8_i32
  v1689

def k0_mult3 (v826 : BitVec 32) (k0_t2 : Fin (k0_t2_loop v826).trips) : BitVec 32 :=
  let c1024_i32 : BitVec 32 := 1024#32
  let c0_i32_485 : BitVec 32 := 0#32
  let c1_i32_488 : BitVec 32 := 1#32
  let arg25 : BitVec 32 := Scf.iv c0_i32_485 c1_i32_488 k0_t2
  let c8_i32_1017 : BitVec 32 := 8#32
  let v1691 : BitVec 32 := Scalar.muli arg25 c8_i32_1017
  let v1692 : BitVec 32 := Scalar.addi c1024_i32 v1691
  v1692
def k0_off16 (v826 : BitVec 32) (k0_t2 : Fin (k0_t2_loop v826).trips) : Fin 3 → Nat :=
  let c0_1018 : Index := 0#32
  let c1024_i32 : BitVec 32 := 1024#32
  let c0_i32_485 : BitVec 32 := 0#32
  let c1_i32_488 : BitVec 32 := 1#32
  let arg25 : BitVec 32 := Scf.iv c0_i32_485 c1_i32_488 k0_t2
  let c8_i32_1017 : BitVec 32 := 8#32
  let v1691 : BitVec 32 := Scalar.muli arg25 c8_i32_1017
  let v1692 : BitVec 32 := Scalar.addi c1024_i32 v1691
  let v1693 : BitVec 32 := v1692
  let v1694 : Index := Scalar.indexCast v1693
  let c0_1019 : Index := 0#32
  ![0, v1694.toNat, 0]
def k0_off17 (v1688 : BitVec 32) : Fin 2 → Nat :=
  let c8_i32 : BitVec 32 := 8#32
  let v1689 : BitVec 32 := Scalar.muli v1688 c8_i32
  let v1690 : BitVec 32 := v1689
  let v1702 : Index := Scalar.indexCast v1690
  let c0_1021 : Index := 0#32
  ![v1702.toNat, 0]
def k0_off18 (v1688 : BitVec 32) : Fin 2 → Nat :=
  let c8_i32 : BitVec 32 := 8#32
  let v1689 : BitVec 32 := Scalar.muli v1688 c8_i32
  let v1690 : BitVec 32 := v1689
  let v1715 : Index := Scalar.indexCast v1690
  let c128_1025 : Index := 128#32
  ![v1715.toNat, 128]
def k0_off19 (v1688 : BitVec 32) : Fin 2 → Nat :=
  let c8_i32 : BitVec 32 := 8#32
  let v1689 : BitVec 32 := Scalar.muli v1688 c8_i32
  let v1690 : BitVec 32 := v1689
  let v1728 : Index := Scalar.indexCast v1690
  let c256_1029 : Index := 256#32
  ![v1728.toNat, 256]
def k0_off20 (v1688 : BitVec 32) : Fin 2 → Nat :=
  let c8_i32 : BitVec 32 := 8#32
  let v1689 : BitVec 32 := Scalar.muli v1688 c8_i32
  let v1690 : BitVec 32 := v1689
  let v1741 : Index := Scalar.indexCast v1690
  let c384_1033 : Index := 384#32
  ![v1741.toNat, 384]
def k0_off21 (v1688 : BitVec 32) : Fin 2 → Nat :=
  let c8_i32 : BitVec 32 := 8#32
  let v1689 : BitVec 32 := Scalar.muli v1688 c8_i32
  let v1690 : BitVec 32 := v1689
  let v1754 : Index := Scalar.indexCast v1690
  let c512_1036 : Index := 512#32
  ![v1754.toNat, 512]
def k0_off22 (v1688 : BitVec 32) : Fin 2 → Nat :=
  let c8_i32 : BitVec 32 := 8#32
  let v1689 : BitVec 32 := Scalar.muli v1688 c8_i32
  let v1690 : BitVec 32 := v1689
  let v1767 : Index := Scalar.indexCast v1690
  let c640_1039 : Index := 640#32
  ![v1767.toNat, 640]
def k0_off23 (v1688 : BitVec 32) : Fin 2 → Nat :=
  let c8_i32 : BitVec 32 := 8#32
  let v1689 : BitVec 32 := Scalar.muli v1688 c8_i32
  let v1690 : BitVec 32 := v1689
  let v1780 : Index := Scalar.indexCast v1690
  let c768_1042 : Index := 768#32
  ![v1780.toNat, 768]
def k0_off24 (v1688 : BitVec 32) : Fin 2 → Nat :=
  let c8_i32 : BitVec 32 := 8#32
  let v1689 : BitVec 32 := Scalar.muli v1688 c8_i32
  let v1690 : BitVec 32 := v1689
  let v1793 : Index := Scalar.indexCast v1690
  let c896_1045 : Index := 896#32
  ![v1793.toNat, 896]

def k0_chk2 (v1688 : BitVec 32) : Prop :=
  (8 ∣ (k0_mult2 v1688).toNat) ∧
  (∀ a, (k0_off17 v1688) a + S8x128.size a ≤ S1024x1024.size a) ∧
  (∀ a, (k0_off18 v1688) a + S8x128.size a ≤ S1024x1024.size a) ∧
  (∀ a, (k0_off19 v1688) a + S8x128.size a ≤ S1024x1024.size a) ∧
  (∀ a, (k0_off20 v1688) a + S8x128.size a ≤ S1024x1024.size a) ∧
  (∀ a, (k0_off21 v1688) a + S8x128.size a ≤ S1024x1024.size a) ∧
  (∀ a, (k0_off22 v1688) a + S8x128.size a ≤ S1024x1024.size a) ∧
  (∀ a, (k0_off23 v1688) a + S8x128.size a ≤ S1024x1024.size a) ∧
  (∀ a, (k0_off24 v1688) a + S8x128.size a ≤ S1024x1024.size a)
theorem k0_mult2_dvd : ∀ (v1688 : BitVec 32) (k0_hw2 : k0_chk2 v1688), 8 ∣ (k0_mult2 v1688).toNat := fun v1688 k0_hw2 => k0_hw2.1
theorem k0_off17_inb : ∀ (v1688 : BitVec 32) (k0_hw2 : k0_chk2 v1688), ∀ a, (k0_off17 v1688) a + S8x128.size a ≤ S1024x1024.size a := fun v1688 k0_hw2 => k0_hw2.2.1
theorem k0_off18_inb : ∀ (v1688 : BitVec 32) (k0_hw2 : k0_chk2 v1688), ∀ a, (k0_off18 v1688) a + S8x128.size a ≤ S1024x1024.size a := fun v1688 k0_hw2 => k0_hw2.2.2.1
theorem k0_off19_inb : ∀ (v1688 : BitVec 32) (k0_hw2 : k0_chk2 v1688), ∀ a, (k0_off19 v1688) a + S8x128.size a ≤ S1024x1024.size a := fun v1688 k0_hw2 => k0_hw2.2.2.2.1
theorem k0_off20_inb : ∀ (v1688 : BitVec 32) (k0_hw2 : k0_chk2 v1688), ∀ a, (k0_off20 v1688) a + S8x128.size a ≤ S1024x1024.size a := fun v1688 k0_hw2 => k0_hw2.2.2.2.2.1
theorem k0_off21_inb : ∀ (v1688 : BitVec 32) (k0_hw2 : k0_chk2 v1688), ∀ a, (k0_off21 v1688) a + S8x128.size a ≤ S1024x1024.size a := fun v1688 k0_hw2 => k0_hw2.2.2.2.2.2.1
theorem k0_off22_inb : ∀ (v1688 : BitVec 32) (k0_hw2 : k0_chk2 v1688), ∀ a, (k0_off22 v1688) a + S8x128.size a ≤ S1024x1024.size a := fun v1688 k0_hw2 => k0_hw2.2.2.2.2.2.2.1
theorem k0_off23_inb : ∀ (v1688 : BitVec 32) (k0_hw2 : k0_chk2 v1688), ∀ a, (k0_off23 v1688) a + S8x128.size a ≤ S1024x1024.size a := fun v1688 k0_hw2 => k0_hw2.2.2.2.2.2.2.2.1
theorem k0_off24_inb : ∀ (v1688 : BitVec 32) (k0_hw2 : k0_chk2 v1688), ∀ a, (k0_off24 v1688) a + S8x128.size a ≤ S1024x1024.size a := fun v1688 k0_hw2 => k0_hw2.2.2.2.2.2.2.2.2

def k0_off25 (v826 : BitVec 32) (k0_t2 : Fin (k0_t2_loop v826).trips) : Fin 4 → Nat :=
  let c0_1051 : Index := 0#32
  let c0_1052 : Index := 0#32
  let c1024_i32 : BitVec 32 := 1024#32
  let c0_i32_485 : BitVec 32 := 0#32
  let c1_i32_488 : BitVec 32 := 1#32
  let arg25 : BitVec 32 := Scf.iv c0_i32_485 c1_i32_488 k0_t2
  let c8_i32_1017 : BitVec 32 := 8#32
  let v1691 : BitVec 32 := Scalar.muli arg25 c8_i32_1017
  let v1692 : BitVec 32 := Scalar.addi c1024_i32 v1691
  let v1693 : BitVec 32 := v1692
  let v1810 : Index := Scalar.indexCast v1693
  let c0_1053 : Index := 0#32
  ![0, 0, v1810.toNat, 0]
@[reducible] def k0_t3_loop (v826 : BitVec 32) : Scf.Loop 32 :=
  let c0_i32_485 : BitVec 32 := 0#32
  let v827 : BitVec 32 := Scalar.subi v826 c0_i32_485
  let c1_i32_487 : BitVec 32 := 1#32
  let v829 : BitVec 32 := Scalar.divsi v827 c1_i32_487
  let v830 : BitVec 32 := Scalar.muli v829 c1_i32_487
  let v831 : BitVec 32 := Scalar.addi c0_i32_485 v830
  let v828 : BitVec 32 := Scalar.addi c0_i32_485 v827
  let c1_i32_489 : BitVec 32 := 1#32
  ⟨v831, v828, c1_i32_489⟩
def k0_off26 (i : grid0.Coords) (v826 : BitVec 32) (k0_t3 : Fin (k0_t3_loop v826).trips) : Fin 2 → Nat :=
  let arg0 : BitVec 32 := BitVec.ofNat 32 (i 0).val
  let v1686 : Index := Scalar.indexCast arg0
  let c0_i32_485 : BitVec 32 := 0#32
  let v827 : BitVec 32 := Scalar.subi v826 c0_i32_485
  let c1_i32_487 : BitVec 32 := 1#32
  let v829 : BitVec 32 := Scalar.divsi v827 c1_i32_487
  let v830 : BitVec 32 := Scalar.muli v829 c1_i32_487
  let v831 : BitVec 32 := Scalar.addi c0_i32_485 v830
  let c1_i32_489 : BitVec 32 := 1#32
  let arg25 : BitVec 32 := Scf.iv v831 c1_i32_489 k0_t3
  let v1687 : Index := Scalar.indexCast arg25
  ![v1686.toNat, v1687.toNat]
def k0_mult4 (v1688 : BitVec 32) : BitVec 32 :=
  let c8_i32 : BitVec 32 := 8#32
  let v1689 : BitVec 32 := Scalar.muli v1688 c8_i32
  v1689

def k0_mult5 (v826 : BitVec 32) (k0_t3 : Fin (k0_t3_loop v826).trips) : BitVec 32 :=
  let c1024_i32 : BitVec 32 := 1024#32
  let c0_i32_485 : BitVec 32 := 0#32
  let v827 : BitVec 32 := Scalar.subi v826 c0_i32_485
  let c1_i32_487 : BitVec 32 := 1#32
  let v829 : BitVec 32 := Scalar.divsi v827 c1_i32_487
  let v830 : BitVec 32 := Scalar.muli v829 c1_i32_487
  let v831 : BitVec 32 := Scalar.addi c0_i32_485 v830
  let c1_i32_489 : BitVec 32 := 1#32
  let arg25 : BitVec 32 := Scf.iv v831 c1_i32_489 k0_t3
  let c8_i32_1017 : BitVec 32 := 8#32
  let v1691 : BitVec 32 := Scalar.muli arg25 c8_i32_1017
  let v1692 : BitVec 32 := Scalar.addi c1024_i32 v1691
  v1692
def k0_off27 (v826 : BitVec 32) (k0_t3 : Fin (k0_t3_loop v826).trips) : Fin 3 → Nat :=
  let c0_1018 : Index := 0#32
  let c1024_i32 : BitVec 32 := 1024#32
  let c0_i32_485 : BitVec 32 := 0#32
  let v827 : BitVec 32 := Scalar.subi v826 c0_i32_485
  let c1_i32_487 : BitVec 32 := 1#32
  let v829 : BitVec 32 := Scalar.divsi v827 c1_i32_487
  let v830 : BitVec 32 := Scalar.muli v829 c1_i32_487
  let v831 : BitVec 32 := Scalar.addi c0_i32_485 v830
  let c1_i32_489 : BitVec 32 := 1#32
  let arg25 : BitVec 32 := Scf.iv v831 c1_i32_489 k0_t3
  let c8_i32_1017 : BitVec 32 := 8#32
  let v1691 : BitVec 32 := Scalar.muli arg25 c8_i32_1017
  let v1692 : BitVec 32 := Scalar.addi c1024_i32 v1691
  let v1693 : BitVec 32 := v1692
  let v1694 : Index := Scalar.indexCast v1693
  let c0_1019 : Index := 0#32
  ![0, v1694.toNat, 0]
def k0_off28 (v1688 : BitVec 32) : Fin 2 → Nat :=
  let c8_i32 : BitVec 32 := 8#32
  let v1689 : BitVec 32 := Scalar.muli v1688 c8_i32
  let v1690 : BitVec 32 := v1689
  let v1702 : Index := Scalar.indexCast v1690
  let c0_1021 : Index := 0#32
  ![v1702.toNat, 0]
def k0_off29 (v1688 : BitVec 32) : Fin 2 → Nat :=
  let c8_i32 : BitVec 32 := 8#32
  let v1689 : BitVec 32 := Scalar.muli v1688 c8_i32
  let v1690 : BitVec 32 := v1689
  let v1715 : Index := Scalar.indexCast v1690
  let c128_1025 : Index := 128#32
  ![v1715.toNat, 128]
def k0_off30 (v1688 : BitVec 32) : Fin 2 → Nat :=
  let c8_i32 : BitVec 32 := 8#32
  let v1689 : BitVec 32 := Scalar.muli v1688 c8_i32
  let v1690 : BitVec 32 := v1689
  let v1728 : Index := Scalar.indexCast v1690
  let c256_1029 : Index := 256#32
  ![v1728.toNat, 256]
def k0_off31 (v1688 : BitVec 32) : Fin 2 → Nat :=
  let c8_i32 : BitVec 32 := 8#32
  let v1689 : BitVec 32 := Scalar.muli v1688 c8_i32
  let v1690 : BitVec 32 := v1689
  let v1741 : Index := Scalar.indexCast v1690
  let c384_1033 : Index := 384#32
  ![v1741.toNat, 384]
def k0_off32 (v1688 : BitVec 32) : Fin 2 → Nat :=
  let c8_i32 : BitVec 32 := 8#32
  let v1689 : BitVec 32 := Scalar.muli v1688 c8_i32
  let v1690 : BitVec 32 := v1689
  let v1754 : Index := Scalar.indexCast v1690
  let c512_1036 : Index := 512#32
  ![v1754.toNat, 512]
def k0_off33 (v1688 : BitVec 32) : Fin 2 → Nat :=
  let c8_i32 : BitVec 32 := 8#32
  let v1689 : BitVec 32 := Scalar.muli v1688 c8_i32
  let v1690 : BitVec 32 := v1689
  let v1767 : Index := Scalar.indexCast v1690
  let c640_1039 : Index := 640#32
  ![v1767.toNat, 640]
def k0_off34 (v1688 : BitVec 32) : Fin 2 → Nat :=
  let c8_i32 : BitVec 32 := 8#32
  let v1689 : BitVec 32 := Scalar.muli v1688 c8_i32
  let v1690 : BitVec 32 := v1689
  let v1780 : Index := Scalar.indexCast v1690
  let c768_1042 : Index := 768#32
  ![v1780.toNat, 768]
def k0_off35 (v1688 : BitVec 32) : Fin 2 → Nat :=
  let c8_i32 : BitVec 32 := 8#32
  let v1689 : BitVec 32 := Scalar.muli v1688 c8_i32
  let v1690 : BitVec 32 := v1689
  let v1793 : Index := Scalar.indexCast v1690
  let c896_1045 : Index := 896#32
  ![v1793.toNat, 896]

def k0_chk3 (v1688 : BitVec 32) : Prop :=
  (8 ∣ (k0_mult4 v1688).toNat) ∧
  (∀ a, (k0_off28 v1688) a + S8x128.size a ≤ S1024x1024.size a) ∧
  (∀ a, (k0_off29 v1688) a + S8x128.size a ≤ S1024x1024.size a) ∧
  (∀ a, (k0_off30 v1688) a + S8x128.size a ≤ S1024x1024.size a) ∧
  (∀ a, (k0_off31 v1688) a + S8x128.size a ≤ S1024x1024.size a) ∧
  (∀ a, (k0_off32 v1688) a + S8x128.size a ≤ S1024x1024.size a) ∧
  (∀ a, (k0_off33 v1688) a + S8x128.size a ≤ S1024x1024.size a) ∧
  (∀ a, (k0_off34 v1688) a + S8x128.size a ≤ S1024x1024.size a) ∧
  (∀ a, (k0_off35 v1688) a + S8x128.size a ≤ S1024x1024.size a)
theorem k0_mult4_dvd : ∀ (v1688 : BitVec 32) (k0_hw3 : k0_chk3 v1688), 8 ∣ (k0_mult4 v1688).toNat := fun v1688 k0_hw3 => k0_hw3.1
theorem k0_off28_inb : ∀ (v1688 : BitVec 32) (k0_hw3 : k0_chk3 v1688), ∀ a, (k0_off28 v1688) a + S8x128.size a ≤ S1024x1024.size a := fun v1688 k0_hw3 => k0_hw3.2.1
theorem k0_off29_inb : ∀ (v1688 : BitVec 32) (k0_hw3 : k0_chk3 v1688), ∀ a, (k0_off29 v1688) a + S8x128.size a ≤ S1024x1024.size a := fun v1688 k0_hw3 => k0_hw3.2.2.1
theorem k0_off30_inb : ∀ (v1688 : BitVec 32) (k0_hw3 : k0_chk3 v1688), ∀ a, (k0_off30 v1688) a + S8x128.size a ≤ S1024x1024.size a := fun v1688 k0_hw3 => k0_hw3.2.2.2.1
theorem k0_off31_inb : ∀ (v1688 : BitVec 32) (k0_hw3 : k0_chk3 v1688), ∀ a, (k0_off31 v1688) a + S8x128.size a ≤ S1024x1024.size a := fun v1688 k0_hw3 => k0_hw3.2.2.2.2.1
theorem k0_off32_inb : ∀ (v1688 : BitVec 32) (k0_hw3 : k0_chk3 v1688), ∀ a, (k0_off32 v1688) a + S8x128.size a ≤ S1024x1024.size a := fun v1688 k0_hw3 => k0_hw3.2.2.2.2.2.1
theorem k0_off33_inb : ∀ (v1688 : BitVec 32) (k0_hw3 : k0_chk3 v1688), ∀ a, (k0_off33 v1688) a + S8x128.size a ≤ S1024x1024.size a := fun v1688 k0_hw3 => k0_hw3.2.2.2.2.2.2.1
theorem k0_off34_inb : ∀ (v1688 : BitVec 32) (k0_hw3 : k0_chk3 v1688), ∀ a, (k0_off34 v1688) a + S8x128.size a ≤ S1024x1024.size a := fun v1688 k0_hw3 => k0_hw3.2.2.2.2.2.2.2.1
theorem k0_off35_inb : ∀ (v1688 : BitVec 32) (k0_hw3 : k0_chk3 v1688), ∀ a, (k0_off35 v1688) a + S8x128.size a ≤ S1024x1024.size a := fun v1688 k0_hw3 => k0_hw3.2.2.2.2.2.2.2.2

def k0_off36 (v826 : BitVec 32) (k0_t3 : Fin (k0_t3_loop v826).trips) : Fin 4 → Nat :=
  let c0_1051 : Index := 0#32
  let c0_1052 : Index := 0#32
  let c1024_i32 : BitVec 32 := 1024#32
  let c0_i32_485 : BitVec 32 := 0#32
  let v827 : BitVec 32 := Scalar.subi v826 c0_i32_485
  let c1_i32_487 : BitVec 32 := 1#32
  let v829 : BitVec 32 := Scalar.divsi v827 c1_i32_487
  let v830 : BitVec 32 := Scalar.muli v829 c1_i32_487
  let v831 : BitVec 32 := Scalar.addi c0_i32_485 v830
  let c1_i32_489 : BitVec 32 := 1#32
  let arg25 : BitVec 32 := Scf.iv v831 c1_i32_489 k0_t3
  let c8_i32_1017 : BitVec 32 := 8#32
  let v1691 : BitVec 32 := Scalar.muli arg25 c8_i32_1017
  let v1692 : BitVec 32 := Scalar.addi c1024_i32 v1691
  let v1693 : BitVec 32 := v1692
  let v1810 : Index := Scalar.indexCast v1693
  let c0_1053 : Index := 0#32
  ![0, 0, v1810.toNat, 0]

def k0_chk1 (i : grid0.Coords) (v826 : BitVec 32) : Prop :=
  ((k0_t2_loop v826).OK) ∧
  (∀ k0_t2 : Fin (k0_t2_loop v826).trips, ∀ a, (k0_off15 i v826 k0_t2) a + S1x1.size a ≤ S2x128.size a) ∧
  (∀ k0_t2 : Fin (k0_t2_loop v826).trips, 8 ∣ (k0_mult3 v826 k0_t2).toNat) ∧
  (∀ k0_t2 : Fin (k0_t2_loop v826).trips, ∀ a, (k0_off16 v826 k0_t2) a + S1x8x128.size a ≤ S1x1152x128.size a) ∧
  (∀ k0_t2 : Fin (k0_t2_loop v826).trips, ∀ a, (k0_off25 v826 k0_t2) a + S1x1x8x128.size a ≤ S1x2x1152x128.size a) ∧
  ((k0_t3_loop v826).OK) ∧
  (∀ k0_t3 : Fin (k0_t3_loop v826).trips, ∀ a, (k0_off26 i v826 k0_t3) a + S1x1.size a ≤ S2x128.size a) ∧
  (∀ k0_t3 : Fin (k0_t3_loop v826).trips, 8 ∣ (k0_mult5 v826 k0_t3).toNat) ∧
  (∀ k0_t3 : Fin (k0_t3_loop v826).trips, ∀ a, (k0_off27 v826 k0_t3) a + S1x8x128.size a ≤ S1x1152x128.size a) ∧
  (∀ k0_t3 : Fin (k0_t3_loop v826).trips, ∀ a, (k0_off36 v826 k0_t3) a + S1x1x8x128.size a ≤ S1x2x1152x128.size a)
theorem k0_t2_ok : ∀ (i : grid0.Coords) (v826 : BitVec 32) (k0_hw1 : k0_chk1 i v826), (k0_t2_loop v826).OK := fun i v826 k0_hw1 => k0_hw1.1
theorem k0_off15_inb : ∀ (i : grid0.Coords) (v826 : BitVec 32) (k0_hw1 : k0_chk1 i v826) (k0_t2 : Fin (k0_t2_loop v826).trips), ∀ a, (k0_off15 i v826 k0_t2) a + S1x1.size a ≤ S2x128.size a := fun i v826 k0_hw1 k0_t2 => k0_hw1.2.1 k0_t2
theorem k0_mult3_dvd : ∀ (i : grid0.Coords) (v826 : BitVec 32) (k0_hw1 : k0_chk1 i v826) (k0_t2 : Fin (k0_t2_loop v826).trips), 8 ∣ (k0_mult3 v826 k0_t2).toNat := fun i v826 k0_hw1 k0_t2 => k0_hw1.2.2.1 k0_t2
theorem k0_off16_inb : ∀ (i : grid0.Coords) (v826 : BitVec 32) (k0_hw1 : k0_chk1 i v826) (k0_t2 : Fin (k0_t2_loop v826).trips), ∀ a, (k0_off16 v826 k0_t2) a + S1x8x128.size a ≤ S1x1152x128.size a := fun i v826 k0_hw1 k0_t2 => k0_hw1.2.2.2.1 k0_t2
theorem k0_off25_inb : ∀ (i : grid0.Coords) (v826 : BitVec 32) (k0_hw1 : k0_chk1 i v826) (k0_t2 : Fin (k0_t2_loop v826).trips), ∀ a, (k0_off25 v826 k0_t2) a + S1x1x8x128.size a ≤ S1x2x1152x128.size a := fun i v826 k0_hw1 k0_t2 => k0_hw1.2.2.2.2.1 k0_t2
theorem k0_t3_ok : ∀ (i : grid0.Coords) (v826 : BitVec 32) (k0_hw1 : k0_chk1 i v826), (k0_t3_loop v826).OK := fun i v826 k0_hw1 => k0_hw1.2.2.2.2.2.1
theorem k0_off26_inb : ∀ (i : grid0.Coords) (v826 : BitVec 32) (k0_hw1 : k0_chk1 i v826) (k0_t3 : Fin (k0_t3_loop v826).trips), ∀ a, (k0_off26 i v826 k0_t3) a + S1x1.size a ≤ S2x128.size a := fun i v826 k0_hw1 k0_t3 => k0_hw1.2.2.2.2.2.2.1 k0_t3
theorem k0_mult5_dvd : ∀ (i : grid0.Coords) (v826 : BitVec 32) (k0_hw1 : k0_chk1 i v826) (k0_t3 : Fin (k0_t3_loop v826).trips), 8 ∣ (k0_mult5 v826 k0_t3).toNat := fun i v826 k0_hw1 k0_t3 => k0_hw1.2.2.2.2.2.2.2.1 k0_t3
theorem k0_off27_inb : ∀ (i : grid0.Coords) (v826 : BitVec 32) (k0_hw1 : k0_chk1 i v826) (k0_t3 : Fin (k0_t3_loop v826).trips), ∀ a, (k0_off27 v826 k0_t3) a + S1x8x128.size a ≤ S1x1152x128.size a := fun i v826 k0_hw1 k0_t3 => k0_hw1.2.2.2.2.2.2.2.2.1 k0_t3
theorem k0_off36_inb : ∀ (i : grid0.Coords) (v826 : BitVec 32) (k0_hw1 : k0_chk1 i v826) (k0_t3 : Fin (k0_t3_loop v826).trips), ∀ a, (k0_off36 v826 k0_t3) a + S1x1x8x128.size a ≤ S1x2x1152x128.size a := fun i v826 k0_hw1 k0_t3 => k0_hw1.2.2.2.2.2.2.2.2.2 k0_t3

def k0_off37 (i : grid0.Coords) : Fin 3 → Nat :=
  let c0_492 : Index := 0#32
  let arg0 : BitVec 32 := BitVec.ofNat 32 (i 0).val
  let v836 : Index := Scalar.indexCast arg0
  let c2_i32_490 : BitVec 32 := 2#32
  let arg1 : BitVec 32 := BitVec.ofNat 32 (i 1).val
  let v834 : BitVec 32 := Scalar.muli c2_i32_490 arg1
  let c1_i32_491 : BitVec 32 := 1#32
  let v835 : BitVec 32 := Scalar.addi v834 c1_i32_491
  let v837 : Index := Scalar.indexCast v835
  ![0, v836.toNat, v837.toNat]
@[reducible] def k0_t4_loop : Scf.Loop 32 :=
  let c0_i32_1007 : BitVec 32 := 0#32
  let c128_i32_1008 : BitVec 32 := 128#32
  let v1676 : BitVec 32 := Scalar.addi c0_i32_1007 c128_i32_1008
  let c1_i32_1009 : BitVec 32 := 1#32
  ⟨c0_i32_1007, v1676, c1_i32_1009⟩
def k0_mult6 (k0_t4 : Fin k0_t4_loop.trips) : BitVec 32 :=
  let c0_i32_1007 : BitVec 32 := 0#32
  let c1_i32_1009 : BitVec 32 := 1#32
  let arg25 : BitVec 32 := Scf.iv c0_i32_1007 c1_i32_1009 k0_t4
  let c8_i32 : BitVec 32 := 8#32
  let v1686 : BitVec 32 := Scalar.muli arg25 c8_i32
  v1686
def k0_off38 (k0_t4 : Fin k0_t4_loop.trips) : Fin 3 → Nat :=
  let c0_1017 : Index := 0#32
  let c0_i32_1007 : BitVec 32 := 0#32
  let c1_i32_1009 : BitVec 32 := 1#32
  let arg25 : BitVec 32 := Scf.iv c0_i32_1007 c1_i32_1009 k0_t4
  let c8_i32 : BitVec 32 := 8#32
  let v1686 : BitVec 32 := Scalar.muli arg25 c8_i32
  let v1687 : BitVec 32 := v1686
  let v1688 : Index := Scalar.indexCast v1687
  let c0_1018 : Index := 0#32
  ![0, v1688.toNat, 0]
def k0_off39 (k0_t4 : Fin k0_t4_loop.trips) : Fin 2 → Nat :=
  let c0_i32_1007 : BitVec 32 := 0#32
  let c1_i32_1009 : BitVec 32 := 1#32
  let arg25 : BitVec 32 := Scf.iv c0_i32_1007 c1_i32_1009 k0_t4
  let c8_i32 : BitVec 32 := 8#32
  let v1686 : BitVec 32 := Scalar.muli arg25 c8_i32
  let v1687 : BitVec 32 := v1686
  let v1696 : Index := Scalar.indexCast v1687
  let c0_1020 : Index := 0#32
  ![v1696.toNat, 0]
def k0_off40 (k0_t4 : Fin k0_t4_loop.trips) : Fin 2 → Nat :=
  let c0_i32_1007 : BitVec 32 := 0#32
  let c1_i32_1009 : BitVec 32 := 1#32
  let arg25 : BitVec 32 := Scf.iv c0_i32_1007 c1_i32_1009 k0_t4
  let c8_i32 : BitVec 32 := 8#32
  let v1686 : BitVec 32 := Scalar.muli arg25 c8_i32
  let v1687 : BitVec 32 := v1686
  let v1709 : Index := Scalar.indexCast v1687
  let c128_1024 : Index := 128#32
  ![v1709.toNat, 128]
def k0_off41 (k0_t4 : Fin k0_t4_loop.trips) : Fin 2 → Nat :=
  let c0_i32_1007 : BitVec 32 := 0#32
  let c1_i32_1009 : BitVec 32 := 1#32
  let arg25 : BitVec 32 := Scf.iv c0_i32_1007 c1_i32_1009 k0_t4
  let c8_i32 : BitVec 32 := 8#32
  let v1686 : BitVec 32 := Scalar.muli arg25 c8_i32
  let v1687 : BitVec 32 := v1686
  let v1722 : Index := Scalar.indexCast v1687
  let c256_1028 : Index := 256#32
  ![v1722.toNat, 256]
def k0_off42 (k0_t4 : Fin k0_t4_loop.trips) : Fin 2 → Nat :=
  let c0_i32_1007 : BitVec 32 := 0#32
  let c1_i32_1009 : BitVec 32 := 1#32
  let arg25 : BitVec 32 := Scf.iv c0_i32_1007 c1_i32_1009 k0_t4
  let c8_i32 : BitVec 32 := 8#32
  let v1686 : BitVec 32 := Scalar.muli arg25 c8_i32
  let v1687 : BitVec 32 := v1686
  let v1735 : Index := Scalar.indexCast v1687
  let c384_1032 : Index := 384#32
  ![v1735.toNat, 384]
def k0_off43 (k0_t4 : Fin k0_t4_loop.trips) : Fin 2 → Nat :=
  let c0_i32_1007 : BitVec 32 := 0#32
  let c1_i32_1009 : BitVec 32 := 1#32
  let arg25 : BitVec 32 := Scf.iv c0_i32_1007 c1_i32_1009 k0_t4
  let c8_i32 : BitVec 32 := 8#32
  let v1686 : BitVec 32 := Scalar.muli arg25 c8_i32
  let v1687 : BitVec 32 := v1686
  let v1748 : Index := Scalar.indexCast v1687
  let c512_1035 : Index := 512#32
  ![v1748.toNat, 512]
def k0_off44 (k0_t4 : Fin k0_t4_loop.trips) : Fin 2 → Nat :=
  let c0_i32_1007 : BitVec 32 := 0#32
  let c1_i32_1009 : BitVec 32 := 1#32
  let arg25 : BitVec 32 := Scf.iv c0_i32_1007 c1_i32_1009 k0_t4
  let c8_i32 : BitVec 32 := 8#32
  let v1686 : BitVec 32 := Scalar.muli arg25 c8_i32
  let v1687 : BitVec 32 := v1686
  let v1761 : Index := Scalar.indexCast v1687
  let c640_1038 : Index := 640#32
  ![v1761.toNat, 640]
def k0_off45 (k0_t4 : Fin k0_t4_loop.trips) : Fin 2 → Nat :=
  let c0_i32_1007 : BitVec 32 := 0#32
  let c1_i32_1009 : BitVec 32 := 1#32
  let arg25 : BitVec 32 := Scf.iv c0_i32_1007 c1_i32_1009 k0_t4
  let c8_i32 : BitVec 32 := 8#32
  let v1686 : BitVec 32 := Scalar.muli arg25 c8_i32
  let v1687 : BitVec 32 := v1686
  let v1774 : Index := Scalar.indexCast v1687
  let c768_1041 : Index := 768#32
  ![v1774.toNat, 768]
def k0_off46 (k0_t4 : Fin k0_t4_loop.trips) : Fin 2 → Nat :=
  let c0_i32_1007 : BitVec 32 := 0#32
  let c1_i32_1009 : BitVec 32 := 1#32
  let arg25 : BitVec 32 := Scf.iv c0_i32_1007 c1_i32_1009 k0_t4
  let c8_i32 : BitVec 32 := 8#32
  let v1686 : BitVec 32 := Scalar.muli arg25 c8_i32
  let v1687 : BitVec 32 := v1686
  let v1787 : Index := Scalar.indexCast v1687
  let c896_1044 : Index := 896#32
  ![v1787.toNat, 896]
def k0_off47 (k0_t4 : Fin k0_t4_loop.trips) : Fin 4 → Nat :=
  let c0_1050 : Index := 0#32
  let c1_1051 : Index := 1#32
  let c0_i32_1007 : BitVec 32 := 0#32
  let c1_i32_1009 : BitVec 32 := 1#32
  let arg25 : BitVec 32 := Scf.iv c0_i32_1007 c1_i32_1009 k0_t4
  let c8_i32 : BitVec 32 := 8#32
  let v1686 : BitVec 32 := Scalar.muli arg25 c8_i32
  let v1687 : BitVec 32 := v1686
  let v1804 : Index := Scalar.indexCast v1687
  let c0_1052 : Index := 0#32
  ![0, 1, v1804.toNat, 0]
def k0_off48 (i : grid0.Coords) : Fin 2 → Nat :=
  let arg0 : BitVec 32 := BitVec.ofNat 32 (i 0).val
  let v1677 : Index := Scalar.indexCast arg0
  let c0_1011 : Index := 0#32
  ![v1677.toNat, 0]
@[reducible] def k0_t5_loop (v1678 : BitVec 32) : Scf.Loop 32 :=
  let c0_i32_1012 : BitVec 32 := 0#32
  let v1679 : BitVec 32 := Scalar.subi v1678 c0_i32_1012
  let c1_i32_1014 : BitVec 32 := 1#32
  let v1681 : BitVec 32 := Scalar.divsi v1679 c1_i32_1014
  let v1682 : BitVec 32 := Scalar.muli v1681 c1_i32_1014
  let v1683 : BitVec 32 := Scalar.addi c0_i32_1012 v1682
  let c1_i32_1015 : BitVec 32 := 1#32
  ⟨c0_i32_1012, v1683, c1_i32_1015⟩

def k0_off49 (i : grid0.Coords) (v1678 : BitVec 32) (k0_t5 : Fin (k0_t5_loop v1678).trips) : Fin 2 → Nat :=
  let arg0 : BitVec 32 := BitVec.ofNat 32 (i 0).val
  let v1686 : Index := Scalar.indexCast arg0
  let c0_i32_1012 : BitVec 32 := 0#32
  let c1_i32_1015 : BitVec 32 := 1#32
  let arg25 : BitVec 32 := Scf.iv c0_i32_1012 c1_i32_1015 k0_t5
  let v1687 : Index := Scalar.indexCast arg25
  ![v1686.toNat, v1687.toNat]
def k0_mult7 (v1688 : BitVec 32) : BitVec 32 :=
  let c8_i32 : BitVec 32 := 8#32
  let v1689 : BitVec 32 := Scalar.muli v1688 c8_i32
  v1689

def k0_mult8 (v1678 : BitVec 32) (k0_t5 : Fin (k0_t5_loop v1678).trips) : BitVec 32 :=
  let c1024_i32 : BitVec 32 := 1024#32
  let c0_i32_1012 : BitVec 32 := 0#32
  let c1_i32_1015 : BitVec 32 := 1#32
  let arg25 : BitVec 32 := Scf.iv c0_i32_1012 c1_i32_1015 k0_t5
  let c8_i32_1017 : BitVec 32 := 8#32
  let v1691 : BitVec 32 := Scalar.muli arg25 c8_i32_1017
  let v1692 : BitVec 32 := Scalar.addi c1024_i32 v1691
  v1692
def k0_off50 (v1678 : BitVec 32) (k0_t5 : Fin (k0_t5_loop v1678).trips) : Fin 3 → Nat :=
  let c0_1018 : Index := 0#32
  let c1024_i32 : BitVec 32 := 1024#32
  let c0_i32_1012 : BitVec 32 := 0#32
  let c1_i32_1015 : BitVec 32 := 1#32
  let arg25 : BitVec 32 := Scf.iv c0_i32_1012 c1_i32_1015 k0_t5
  let c8_i32_1017 : BitVec 32 := 8#32
  let v1691 : BitVec 32 := Scalar.muli arg25 c8_i32_1017
  let v1692 : BitVec 32 := Scalar.addi c1024_i32 v1691
  let v1693 : BitVec 32 := v1692
  let v1694 : Index := Scalar.indexCast v1693
  let c0_1019 : Index := 0#32
  ![0, v1694.toNat, 0]
def k0_off51 (v1688 : BitVec 32) : Fin 2 → Nat :=
  let c8_i32 : BitVec 32 := 8#32
  let v1689 : BitVec 32 := Scalar.muli v1688 c8_i32
  let v1690 : BitVec 32 := v1689
  let v1702 : Index := Scalar.indexCast v1690
  let c0_1021 : Index := 0#32
  ![v1702.toNat, 0]
def k0_off52 (v1688 : BitVec 32) : Fin 2 → Nat :=
  let c8_i32 : BitVec 32 := 8#32
  let v1689 : BitVec 32 := Scalar.muli v1688 c8_i32
  let v1690 : BitVec 32 := v1689
  let v1715 : Index := Scalar.indexCast v1690
  let c128_1025 : Index := 128#32
  ![v1715.toNat, 128]
def k0_off53 (v1688 : BitVec 32) : Fin 2 → Nat :=
  let c8_i32 : BitVec 32 := 8#32
  let v1689 : BitVec 32 := Scalar.muli v1688 c8_i32
  let v1690 : BitVec 32 := v1689
  let v1728 : Index := Scalar.indexCast v1690
  let c256_1029 : Index := 256#32
  ![v1728.toNat, 256]
def k0_off54 (v1688 : BitVec 32) : Fin 2 → Nat :=
  let c8_i32 : BitVec 32 := 8#32
  let v1689 : BitVec 32 := Scalar.muli v1688 c8_i32
  let v1690 : BitVec 32 := v1689
  let v1741 : Index := Scalar.indexCast v1690
  let c384_1033 : Index := 384#32
  ![v1741.toNat, 384]
def k0_off55 (v1688 : BitVec 32) : Fin 2 → Nat :=
  let c8_i32 : BitVec 32 := 8#32
  let v1689 : BitVec 32 := Scalar.muli v1688 c8_i32
  let v1690 : BitVec 32 := v1689
  let v1754 : Index := Scalar.indexCast v1690
  let c512_1036 : Index := 512#32
  ![v1754.toNat, 512]
def k0_off56 (v1688 : BitVec 32) : Fin 2 → Nat :=
  let c8_i32 : BitVec 32 := 8#32
  let v1689 : BitVec 32 := Scalar.muli v1688 c8_i32
  let v1690 : BitVec 32 := v1689
  let v1767 : Index := Scalar.indexCast v1690
  let c640_1039 : Index := 640#32
  ![v1767.toNat, 640]
def k0_off57 (v1688 : BitVec 32) : Fin 2 → Nat :=
  let c8_i32 : BitVec 32 := 8#32
  let v1689 : BitVec 32 := Scalar.muli v1688 c8_i32
  let v1690 : BitVec 32 := v1689
  let v1780 : Index := Scalar.indexCast v1690
  let c768_1042 : Index := 768#32
  ![v1780.toNat, 768]
def k0_off58 (v1688 : BitVec 32) : Fin 2 → Nat :=
  let c8_i32 : BitVec 32 := 8#32
  let v1689 : BitVec 32 := Scalar.muli v1688 c8_i32
  let v1690 : BitVec 32 := v1689
  let v1793 : Index := Scalar.indexCast v1690
  let c896_1045 : Index := 896#32
  ![v1793.toNat, 896]

def k0_chk5 (v1688 : BitVec 32) : Prop :=
  (8 ∣ (k0_mult7 v1688).toNat) ∧
  (∀ a, (k0_off51 v1688) a + S8x128.size a ≤ S1024x1024.size a) ∧
  (∀ a, (k0_off52 v1688) a + S8x128.size a ≤ S1024x1024.size a) ∧
  (∀ a, (k0_off53 v1688) a + S8x128.size a ≤ S1024x1024.size a) ∧
  (∀ a, (k0_off54 v1688) a + S8x128.size a ≤ S1024x1024.size a) ∧
  (∀ a, (k0_off55 v1688) a + S8x128.size a ≤ S1024x1024.size a) ∧
  (∀ a, (k0_off56 v1688) a + S8x128.size a ≤ S1024x1024.size a) ∧
  (∀ a, (k0_off57 v1688) a + S8x128.size a ≤ S1024x1024.size a) ∧
  (∀ a, (k0_off58 v1688) a + S8x128.size a ≤ S1024x1024.size a)
theorem k0_mult7_dvd : ∀ (v1688 : BitVec 32) (k0_hw5 : k0_chk5 v1688), 8 ∣ (k0_mult7 v1688).toNat := fun v1688 k0_hw5 => k0_hw5.1
theorem k0_off51_inb : ∀ (v1688 : BitVec 32) (k0_hw5 : k0_chk5 v1688), ∀ a, (k0_off51 v1688) a + S8x128.size a ≤ S1024x1024.size a := fun v1688 k0_hw5 => k0_hw5.2.1
theorem k0_off52_inb : ∀ (v1688 : BitVec 32) (k0_hw5 : k0_chk5 v1688), ∀ a, (k0_off52 v1688) a + S8x128.size a ≤ S1024x1024.size a := fun v1688 k0_hw5 => k0_hw5.2.2.1
theorem k0_off53_inb : ∀ (v1688 : BitVec 32) (k0_hw5 : k0_chk5 v1688), ∀ a, (k0_off53 v1688) a + S8x128.size a ≤ S1024x1024.size a := fun v1688 k0_hw5 => k0_hw5.2.2.2.1
theorem k0_off54_inb : ∀ (v1688 : BitVec 32) (k0_hw5 : k0_chk5 v1688), ∀ a, (k0_off54 v1688) a + S8x128.size a ≤ S1024x1024.size a := fun v1688 k0_hw5 => k0_hw5.2.2.2.2.1
theorem k0_off55_inb : ∀ (v1688 : BitVec 32) (k0_hw5 : k0_chk5 v1688), ∀ a, (k0_off55 v1688) a + S8x128.size a ≤ S1024x1024.size a := fun v1688 k0_hw5 => k0_hw5.2.2.2.2.2.1
theorem k0_off56_inb : ∀ (v1688 : BitVec 32) (k0_hw5 : k0_chk5 v1688), ∀ a, (k0_off56 v1688) a + S8x128.size a ≤ S1024x1024.size a := fun v1688 k0_hw5 => k0_hw5.2.2.2.2.2.2.1
theorem k0_off57_inb : ∀ (v1688 : BitVec 32) (k0_hw5 : k0_chk5 v1688), ∀ a, (k0_off57 v1688) a + S8x128.size a ≤ S1024x1024.size a := fun v1688 k0_hw5 => k0_hw5.2.2.2.2.2.2.2.1
theorem k0_off58_inb : ∀ (v1688 : BitVec 32) (k0_hw5 : k0_chk5 v1688), ∀ a, (k0_off58 v1688) a + S8x128.size a ≤ S1024x1024.size a := fun v1688 k0_hw5 => k0_hw5.2.2.2.2.2.2.2.2

def k0_off59 (v1678 : BitVec 32) (k0_t5 : Fin (k0_t5_loop v1678).trips) : Fin 4 → Nat :=
  let c0_1051 : Index := 0#32
  let c1_1052 : Index := 1#32
  let c1024_i32 : BitVec 32 := 1024#32
  let c0_i32_1012 : BitVec 32 := 0#32
  let c1_i32_1015 : BitVec 32 := 1#32
  let arg25 : BitVec 32 := Scf.iv c0_i32_1012 c1_i32_1015 k0_t5
  let c8_i32_1017 : BitVec 32 := 8#32
  let v1691 : BitVec 32 := Scalar.muli arg25 c8_i32_1017
  let v1692 : BitVec 32 := Scalar.addi c1024_i32 v1691
  let v1693 : BitVec 32 := v1692
  let v1810 : Index := Scalar.indexCast v1693
  let c0_1053 : Index := 0#32
  ![0, 1, v1810.toNat, 0]
@[reducible] def k0_t6_loop (v1678 : BitVec 32) : Scf.Loop 32 :=
  let c0_i32_1012 : BitVec 32 := 0#32
  let v1679 : BitVec 32 := Scalar.subi v1678 c0_i32_1012
  let c1_i32_1014 : BitVec 32 := 1#32
  let v1681 : BitVec 32 := Scalar.divsi v1679 c1_i32_1014
  let v1682 : BitVec 32 := Scalar.muli v1681 c1_i32_1014
  let v1683 : BitVec 32 := Scalar.addi c0_i32_1012 v1682
  let v1680 : BitVec 32 := Scalar.addi c0_i32_1012 v1679
  let c1_i32_1016 : BitVec 32 := 1#32
  ⟨v1683, v1680, c1_i32_1016⟩
def k0_off60 (i : grid0.Coords) (v1678 : BitVec 32) (k0_t6 : Fin (k0_t6_loop v1678).trips) : Fin 2 → Nat :=
  let arg0 : BitVec 32 := BitVec.ofNat 32 (i 0).val
  let v1686 : Index := Scalar.indexCast arg0
  let c0_i32_1012 : BitVec 32 := 0#32
  let v1679 : BitVec 32 := Scalar.subi v1678 c0_i32_1012
  let c1_i32_1014 : BitVec 32 := 1#32
  let v1681 : BitVec 32 := Scalar.divsi v1679 c1_i32_1014
  let v1682 : BitVec 32 := Scalar.muli v1681 c1_i32_1014
  let v1683 : BitVec 32 := Scalar.addi c0_i32_1012 v1682
  let c1_i32_1016 : BitVec 32 := 1#32
  let arg25 : BitVec 32 := Scf.iv v1683 c1_i32_1016 k0_t6
  let v1687 : Index := Scalar.indexCast arg25
  ![v1686.toNat, v1687.toNat]
def k0_mult9 (v1688 : BitVec 32) : BitVec 32 :=
  let c8_i32 : BitVec 32 := 8#32
  let v1689 : BitVec 32 := Scalar.muli v1688 c8_i32
  v1689

def k0_mult10 (v1678 : BitVec 32) (k0_t6 : Fin (k0_t6_loop v1678).trips) : BitVec 32 :=
  let c1024_i32 : BitVec 32 := 1024#32
  let c0_i32_1012 : BitVec 32 := 0#32
  let v1679 : BitVec 32 := Scalar.subi v1678 c0_i32_1012
  let c1_i32_1014 : BitVec 32 := 1#32
  let v1681 : BitVec 32 := Scalar.divsi v1679 c1_i32_1014
  let v1682 : BitVec 32 := Scalar.muli v1681 c1_i32_1014
  let v1683 : BitVec 32 := Scalar.addi c0_i32_1012 v1682
  let c1_i32_1016 : BitVec 32 := 1#32
  let arg25 : BitVec 32 := Scf.iv v1683 c1_i32_1016 k0_t6
  let c8_i32_1017 : BitVec 32 := 8#32
  let v1691 : BitVec 32 := Scalar.muli arg25 c8_i32_1017
  let v1692 : BitVec 32 := Scalar.addi c1024_i32 v1691
  v1692
def k0_off61 (v1678 : BitVec 32) (k0_t6 : Fin (k0_t6_loop v1678).trips) : Fin 3 → Nat :=
  let c0_1018 : Index := 0#32
  let c1024_i32 : BitVec 32 := 1024#32
  let c0_i32_1012 : BitVec 32 := 0#32
  let v1679 : BitVec 32 := Scalar.subi v1678 c0_i32_1012
  let c1_i32_1014 : BitVec 32 := 1#32
  let v1681 : BitVec 32 := Scalar.divsi v1679 c1_i32_1014
  let v1682 : BitVec 32 := Scalar.muli v1681 c1_i32_1014
  let v1683 : BitVec 32 := Scalar.addi c0_i32_1012 v1682
  let c1_i32_1016 : BitVec 32 := 1#32
  let arg25 : BitVec 32 := Scf.iv v1683 c1_i32_1016 k0_t6
  let c8_i32_1017 : BitVec 32 := 8#32
  let v1691 : BitVec 32 := Scalar.muli arg25 c8_i32_1017
  let v1692 : BitVec 32 := Scalar.addi c1024_i32 v1691
  let v1693 : BitVec 32 := v1692
  let v1694 : Index := Scalar.indexCast v1693
  let c0_1019 : Index := 0#32
  ![0, v1694.toNat, 0]
def k0_off62 (v1688 : BitVec 32) : Fin 2 → Nat :=
  let c8_i32 : BitVec 32 := 8#32
  let v1689 : BitVec 32 := Scalar.muli v1688 c8_i32
  let v1690 : BitVec 32 := v1689
  let v1702 : Index := Scalar.indexCast v1690
  let c0_1021 : Index := 0#32
  ![v1702.toNat, 0]
def k0_off63 (v1688 : BitVec 32) : Fin 2 → Nat :=
  let c8_i32 : BitVec 32 := 8#32
  let v1689 : BitVec 32 := Scalar.muli v1688 c8_i32
  let v1690 : BitVec 32 := v1689
  let v1715 : Index := Scalar.indexCast v1690
  let c128_1025 : Index := 128#32
  ![v1715.toNat, 128]
def k0_off64 (v1688 : BitVec 32) : Fin 2 → Nat :=
  let c8_i32 : BitVec 32 := 8#32
  let v1689 : BitVec 32 := Scalar.muli v1688 c8_i32
  let v1690 : BitVec 32 := v1689
  let v1728 : Index := Scalar.indexCast v1690
  let c256_1029 : Index := 256#32
  ![v1728.toNat, 256]
def k0_off65 (v1688 : BitVec 32) : Fin 2 → Nat :=
  let c8_i32 : BitVec 32 := 8#32
  let v1689 : BitVec 32 := Scalar.muli v1688 c8_i32
  let v1690 : BitVec 32 := v1689
  let v1741 : Index := Scalar.indexCast v1690
  let c384_1033 : Index := 384#32
  ![v1741.toNat, 384]
def k0_off66 (v1688 : BitVec 32) : Fin 2 → Nat :=
  let c8_i32 : BitVec 32 := 8#32
  let v1689 : BitVec 32 := Scalar.muli v1688 c8_i32
  let v1690 : BitVec 32 := v1689
  let v1754 : Index := Scalar.indexCast v1690
  let c512_1036 : Index := 512#32
  ![v1754.toNat, 512]
def k0_off67 (v1688 : BitVec 32) : Fin 2 → Nat :=
  let c8_i32 : BitVec 32 := 8#32
  let v1689 : BitVec 32 := Scalar.muli v1688 c8_i32
  let v1690 : BitVec 32 := v1689
  let v1767 : Index := Scalar.indexCast v1690
  let c640_1039 : Index := 640#32
  ![v1767.toNat, 640]
def k0_off68 (v1688 : BitVec 32) : Fin 2 → Nat :=
  let c8_i32 : BitVec 32 := 8#32
  let v1689 : BitVec 32 := Scalar.muli v1688 c8_i32
  let v1690 : BitVec 32 := v1689
  let v1780 : Index := Scalar.indexCast v1690
  let c768_1042 : Index := 768#32
  ![v1780.toNat, 768]
def k0_off69 (v1688 : BitVec 32) : Fin 2 → Nat :=
  let c8_i32 : BitVec 32 := 8#32
  let v1689 : BitVec 32 := Scalar.muli v1688 c8_i32
  let v1690 : BitVec 32 := v1689
  let v1793 : Index := Scalar.indexCast v1690
  let c896_1045 : Index := 896#32
  ![v1793.toNat, 896]

def k0_chk6 (v1688 : BitVec 32) : Prop :=
  (8 ∣ (k0_mult9 v1688).toNat) ∧
  (∀ a, (k0_off62 v1688) a + S8x128.size a ≤ S1024x1024.size a) ∧
  (∀ a, (k0_off63 v1688) a + S8x128.size a ≤ S1024x1024.size a) ∧
  (∀ a, (k0_off64 v1688) a + S8x128.size a ≤ S1024x1024.size a) ∧
  (∀ a, (k0_off65 v1688) a + S8x128.size a ≤ S1024x1024.size a) ∧
  (∀ a, (k0_off66 v1688) a + S8x128.size a ≤ S1024x1024.size a) ∧
  (∀ a, (k0_off67 v1688) a + S8x128.size a ≤ S1024x1024.size a) ∧
  (∀ a, (k0_off68 v1688) a + S8x128.size a ≤ S1024x1024.size a) ∧
  (∀ a, (k0_off69 v1688) a + S8x128.size a ≤ S1024x1024.size a)
theorem k0_mult9_dvd : ∀ (v1688 : BitVec 32) (k0_hw6 : k0_chk6 v1688), 8 ∣ (k0_mult9 v1688).toNat := fun v1688 k0_hw6 => k0_hw6.1
theorem k0_off62_inb : ∀ (v1688 : BitVec 32) (k0_hw6 : k0_chk6 v1688), ∀ a, (k0_off62 v1688) a + S8x128.size a ≤ S1024x1024.size a := fun v1688 k0_hw6 => k0_hw6.2.1
theorem k0_off63_inb : ∀ (v1688 : BitVec 32) (k0_hw6 : k0_chk6 v1688), ∀ a, (k0_off63 v1688) a + S8x128.size a ≤ S1024x1024.size a := fun v1688 k0_hw6 => k0_hw6.2.2.1
theorem k0_off64_inb : ∀ (v1688 : BitVec 32) (k0_hw6 : k0_chk6 v1688), ∀ a, (k0_off64 v1688) a + S8x128.size a ≤ S1024x1024.size a := fun v1688 k0_hw6 => k0_hw6.2.2.2.1
theorem k0_off65_inb : ∀ (v1688 : BitVec 32) (k0_hw6 : k0_chk6 v1688), ∀ a, (k0_off65 v1688) a + S8x128.size a ≤ S1024x1024.size a := fun v1688 k0_hw6 => k0_hw6.2.2.2.2.1
theorem k0_off66_inb : ∀ (v1688 : BitVec 32) (k0_hw6 : k0_chk6 v1688), ∀ a, (k0_off66 v1688) a + S8x128.size a ≤ S1024x1024.size a := fun v1688 k0_hw6 => k0_hw6.2.2.2.2.2.1
theorem k0_off67_inb : ∀ (v1688 : BitVec 32) (k0_hw6 : k0_chk6 v1688), ∀ a, (k0_off67 v1688) a + S8x128.size a ≤ S1024x1024.size a := fun v1688 k0_hw6 => k0_hw6.2.2.2.2.2.2.1
theorem k0_off68_inb : ∀ (v1688 : BitVec 32) (k0_hw6 : k0_chk6 v1688), ∀ a, (k0_off68 v1688) a + S8x128.size a ≤ S1024x1024.size a := fun v1688 k0_hw6 => k0_hw6.2.2.2.2.2.2.2.1
theorem k0_off69_inb : ∀ (v1688 : BitVec 32) (k0_hw6 : k0_chk6 v1688), ∀ a, (k0_off69 v1688) a + S8x128.size a ≤ S1024x1024.size a := fun v1688 k0_hw6 => k0_hw6.2.2.2.2.2.2.2.2

def k0_off70 (v1678 : BitVec 32) (k0_t6 : Fin (k0_t6_loop v1678).trips) : Fin 4 → Nat :=
  let c0_1051 : Index := 0#32
  let c1_1052 : Index := 1#32
  let c1024_i32 : BitVec 32 := 1024#32
  let c0_i32_1012 : BitVec 32 := 0#32
  let v1679 : BitVec 32 := Scalar.subi v1678 c0_i32_1012
  let c1_i32_1014 : BitVec 32 := 1#32
  let v1681 : BitVec 32 := Scalar.divsi v1679 c1_i32_1014
  let v1682 : BitVec 32 := Scalar.muli v1681 c1_i32_1014
  let v1683 : BitVec 32 := Scalar.addi c0_i32_1012 v1682
  let c1_i32_1016 : BitVec 32 := 1#32
  let arg25 : BitVec 32 := Scf.iv v1683 c1_i32_1016 k0_t6
  let c8_i32_1017 : BitVec 32 := 8#32
  let v1691 : BitVec 32 := Scalar.muli arg25 c8_i32_1017
  let v1692 : BitVec 32 := Scalar.addi c1024_i32 v1691
  let v1693 : BitVec 32 := v1692
  let v1810 : Index := Scalar.indexCast v1693
  let c0_1053 : Index := 0#32
  ![0, 1, v1810.toNat, 0]

def k0_chk4 (i : grid0.Coords) (v1678 : BitVec 32) : Prop :=
  ((k0_t5_loop v1678).OK) ∧
  (∀ k0_t5 : Fin (k0_t5_loop v1678).trips, ∀ a, (k0_off49 i v1678 k0_t5) a + S1x1.size a ≤ S2x128.size a) ∧
  (∀ k0_t5 : Fin (k0_t5_loop v1678).trips, 8 ∣ (k0_mult8 v1678 k0_t5).toNat) ∧
  (∀ k0_t5 : Fin (k0_t5_loop v1678).trips, ∀ a, (k0_off50 v1678 k0_t5) a + S1x8x128.size a ≤ S1x1152x128.size a) ∧
  (∀ k0_t5 : Fin (k0_t5_loop v1678).trips, ∀ a, (k0_off59 v1678 k0_t5) a + S1x1x8x128.size a ≤ S1x2x1152x128.size a) ∧
  ((k0_t6_loop v1678).OK) ∧
  (∀ k0_t6 : Fin (k0_t6_loop v1678).trips, ∀ a, (k0_off60 i v1678 k0_t6) a + S1x1.size a ≤ S2x128.size a) ∧
  (∀ k0_t6 : Fin (k0_t6_loop v1678).trips, 8 ∣ (k0_mult10 v1678 k0_t6).toNat) ∧
  (∀ k0_t6 : Fin (k0_t6_loop v1678).trips, ∀ a, (k0_off61 v1678 k0_t6) a + S1x8x128.size a ≤ S1x1152x128.size a) ∧
  (∀ k0_t6 : Fin (k0_t6_loop v1678).trips, ∀ a, (k0_off70 v1678 k0_t6) a + S1x1x8x128.size a ≤ S1x2x1152x128.size a)
theorem k0_t5_ok : ∀ (i : grid0.Coords) (v1678 : BitVec 32) (k0_hw4 : k0_chk4 i v1678), (k0_t5_loop v1678).OK := fun i v1678 k0_hw4 => k0_hw4.1
theorem k0_off49_inb : ∀ (i : grid0.Coords) (v1678 : BitVec 32) (k0_hw4 : k0_chk4 i v1678) (k0_t5 : Fin (k0_t5_loop v1678).trips), ∀ a, (k0_off49 i v1678 k0_t5) a + S1x1.size a ≤ S2x128.size a := fun i v1678 k0_hw4 k0_t5 => k0_hw4.2.1 k0_t5
theorem k0_mult8_dvd : ∀ (i : grid0.Coords) (v1678 : BitVec 32) (k0_hw4 : k0_chk4 i v1678) (k0_t5 : Fin (k0_t5_loop v1678).trips), 8 ∣ (k0_mult8 v1678 k0_t5).toNat := fun i v1678 k0_hw4 k0_t5 => k0_hw4.2.2.1 k0_t5
theorem k0_off50_inb : ∀ (i : grid0.Coords) (v1678 : BitVec 32) (k0_hw4 : k0_chk4 i v1678) (k0_t5 : Fin (k0_t5_loop v1678).trips), ∀ a, (k0_off50 v1678 k0_t5) a + S1x8x128.size a ≤ S1x1152x128.size a := fun i v1678 k0_hw4 k0_t5 => k0_hw4.2.2.2.1 k0_t5
theorem k0_off59_inb : ∀ (i : grid0.Coords) (v1678 : BitVec 32) (k0_hw4 : k0_chk4 i v1678) (k0_t5 : Fin (k0_t5_loop v1678).trips), ∀ a, (k0_off59 v1678 k0_t5) a + S1x1x8x128.size a ≤ S1x2x1152x128.size a := fun i v1678 k0_hw4 k0_t5 => k0_hw4.2.2.2.2.1 k0_t5
theorem k0_t6_ok : ∀ (i : grid0.Coords) (v1678 : BitVec 32) (k0_hw4 : k0_chk4 i v1678), (k0_t6_loop v1678).OK := fun i v1678 k0_hw4 => k0_hw4.2.2.2.2.2.1
theorem k0_off60_inb : ∀ (i : grid0.Coords) (v1678 : BitVec 32) (k0_hw4 : k0_chk4 i v1678) (k0_t6 : Fin (k0_t6_loop v1678).trips), ∀ a, (k0_off60 i v1678 k0_t6) a + S1x1.size a ≤ S2x128.size a := fun i v1678 k0_hw4 k0_t6 => k0_hw4.2.2.2.2.2.2.1 k0_t6
theorem k0_mult10_dvd : ∀ (i : grid0.Coords) (v1678 : BitVec 32) (k0_hw4 : k0_chk4 i v1678) (k0_t6 : Fin (k0_t6_loop v1678).trips), 8 ∣ (k0_mult10 v1678 k0_t6).toNat := fun i v1678 k0_hw4 k0_t6 => k0_hw4.2.2.2.2.2.2.2.1 k0_t6
theorem k0_off61_inb : ∀ (i : grid0.Coords) (v1678 : BitVec 32) (k0_hw4 : k0_chk4 i v1678) (k0_t6 : Fin (k0_t6_loop v1678).trips), ∀ a, (k0_off61 v1678 k0_t6) a + S1x8x128.size a ≤ S1x1152x128.size a := fun i v1678 k0_hw4 k0_t6 => k0_hw4.2.2.2.2.2.2.2.2.1 k0_t6
theorem k0_off70_inb : ∀ (i : grid0.Coords) (v1678 : BitVec 32) (k0_hw4 : k0_chk4 i v1678) (k0_t6 : Fin (k0_t6_loop v1678).trips), ∀ a, (k0_off70 v1678 k0_t6) a + S1x1x8x128.size a ≤ S1x2x1152x128.size a := fun i v1678 k0_hw4 k0_t6 => k0_hw4.2.2.2.2.2.2.2.2.2 k0_t6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S3x2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x1024x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x1024x128 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1152x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1152x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x2x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x1152x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x1024x32x128 : Shape := ⟨4, ![2, 1024, 32, 128]⟩
abbrev S2x32 : Shape := ⟨2, ![2, 32]⟩
abbrev S2x1024x16x128 : Shape := ⟨4, ![2, 1024, 16, 128]⟩
abbrev S2x16 : Shape := ⟨2, ![2, 16]⟩
abbrev S2x1024x32 : Shape := ⟨3, ![2, 1024, 32]⟩
abbrev S2x1024 : Shape := ⟨2, ![2, 1024]⟩
abbrev S2x1024x1024 : Shape := ⟨3, ![2, 1024, 1024]⟩
abbrev S2x1152x128 : Shape := ⟨3, ![2, 1152, 128]⟩
abbrev S2x128 : Shape := ⟨2, ![2, 128]⟩
abbrev S2x1024x16x2x128 : Shape := ⟨5, ![2, 1024, 16, 2, 128]⟩
abbrev S2x16x2 : Shape := ⟨3, ![2, 16, 2]⟩
abbrev S2x16x1 : Shape := ⟨3, ![2, 16, 1]⟩
abbrev S2x16x1024x1024x2 : Shape := ⟨5, ![2, 16, 1024, 1024, 2]⟩
abbrev S2x16x2x1024x1024 : Shape := ⟨5, ![2, 16, 2, 1024, 1024]⟩
abbrev S_ : Shape := ⟨0, ![]⟩
abbrev S2x16x2x1x1 : Shape := ⟨5, ![2, 16, 2, 1, 1]⟩
abbrev S2x1024x16x2 : Shape := ⟨4, ![2, 1024, 16, 2]⟩
abbrev S2x16x2x1024 : Shape := ⟨4, ![2, 16, 2, 1024]⟩
abbrev S2x1x1x1024x1024 : Shape := ⟨5, ![2, 1, 1, 1024, 1024]⟩
abbrev S2x16x2x1024x1 : Shape := ⟨5, ![2, 16, 2, 1024, 1]⟩
abbrev S2x1x1x1024 : Shape := ⟨4, ![2, 1, 1, 1024]⟩
abbrev S2x16x1x1 : Shape := ⟨4, ![2, 16, 1, 1]⟩
abbrev S2x16x1x1024 : Shape := ⟨4, ![2, 16, 1, 1024]⟩
abbrev S2x16x1x1024x1 : Shape := ⟨5, ![2, 16, 1, 1024, 1]⟩
abbrev S2x1024x1x1x1 : Shape := ⟨5, ![2, 1024, 1, 1, 1]⟩
abbrev S2x1x1x1024x1 : Shape := ⟨5, ![2, 1, 1, 1024, 1]⟩
abbrev S2x16x2x1024x128 : Shape := ⟨5, ![2, 16, 2, 1024, 128]⟩
abbrev S2x16x1x1x1 : Shape := ⟨5, ![2, 16, 1, 1, 1]⟩
abbrev S2x32x1024x128 : Shape := ⟨4, ![2, 32, 1024, 128]⟩
abbrev S2x16x1024x128 : Shape := ⟨4, ![2, 16, 1024, 128]⟩
abbrev S2x32x1024x1024 : Shape := ⟨4, ![2, 32, 1024, 1024]⟩
abbrev S8 : Shape := ⟨1, ![8]⟩
abbrev S1x1x8 : Shape := ⟨3, ![1, 1, 8]⟩
abbrev S2x16x8 : Shape := ⟨3, ![2, 16, 8]⟩
abbrev S1024 : Shape := ⟨1, ![1024]⟩
abbrev S2x1152 : Shape := ⟨2, ![2, 1152]⟩
abbrev S2x1152x1 : Shape := ⟨3, ![2, 1152, 1]⟩
abbrev S1x1x1024 : Shape := ⟨3, ![1, 1, 1024]⟩
abbrev S2x1152x1024 : Shape := ⟨3, ![2, 1152, 1024]⟩
abbrev S2x1152x128x1 : Shape := ⟨4, ![2, 1152, 128, 1]⟩
abbrev S1x1x1x1024 : Shape := ⟨4, ![1, 1, 1, 1024]⟩
abbrev S2x1152x128x1024 : Shape := ⟨4, ![2, 1152, 128, 1024]⟩
abbrev S2x32x1024x1152 : Shape := ⟨4, ![2, 32, 1024, 1152]⟩
abbrev S2x32x1152x1024 : Shape := ⟨4, ![2, 32, 1152, 1024]⟩
abbrev S2x1152x32x128 : Shape := ⟨4, ![2, 1152, 32, 128]⟩
abbrev S2x32x1152x128 : Shape := ⟨4, ![2, 32, 1152, 128]⟩
abbrev S2x1x1152x128 : Shape := ⟨4, ![2, 1, 1152, 128]⟩

abbrev nBuf : Space → Nat
  | .hbm => 133
  | .vmem => 10
  | .smem => 0
  | _ => 0

abbrev hbmTy0_0 (i : Nat) : BufTy := match i % 128 with
  | 0 => ⟨S2x1024x32x128, .fp8e4m3⟩
  | 1 => ⟨S2x32, .f32⟩
  | 2 => ⟨S2x1024x16x128, .fp8e4m3⟩
  | 3 => ⟨S2x16, .f32⟩
  | 4 => ⟨S2x1024x16x128, .fp8e4m3⟩
  | 5 => ⟨S2x16, .f32⟩
  | 6 => ⟨S2x1024x32x128, .bf16⟩
  | 7 => ⟨S2x1024x32, .f32⟩
  | 8 => ⟨S2x1024x32x128, .fp8e5m2⟩
  | 9 => ⟨S2x1024, .f32⟩
  | 10 => ⟨S2x1024x1024, .f32⟩
  | 11 => ⟨S2x1152x128, .i32⟩
  | 12 => ⟨S2x1152x128, .f32⟩
  | 13 => ⟨S2x128, .i32⟩
  | 14 => ⟨S2x128, .i32⟩
  | 15 => ⟨S2x1024x32x128, .f32⟩
  | 16 => ⟨S2x1024x16x128, .f32⟩
  | 17 => ⟨S2x1024x16x128, .f32⟩
  | 18 => ⟨S2x1024x32x128, .f32⟩
  | 19 => ⟨S2x1024x1024, .f32⟩
  | 20 => ⟨S2x1024x16x2x128, .f32⟩
  | 21 => ⟨S2x1024x16x2x128, .f32⟩
  | 22 => ⟨S2x16x2, .f32⟩
  | 23 => ⟨S2x16x1, .f32⟩
  | 24 => ⟨S2x16x1, .f32⟩
  | 25 => ⟨S2x16x1024x1024x2, .f32⟩
  | 26 => ⟨S2x16x2x1024x1024, .f32⟩
  | 27 => ⟨S_, .f32⟩
  | 28 => ⟨S2x16x2, .f32⟩
  | 29 => ⟨S2x16x2, .f32⟩
  | 30 => ⟨S2x16x2, .f32⟩
  | 31 => ⟨S2x16x2, .f32⟩
  | 32 => ⟨S2x16x2x1x1, .f32⟩
  | 33 => ⟨S2x16x2x1024x1024, .f32⟩
  | 34 => ⟨S2x16x2x1024x1024, .f32⟩
  | 35 => ⟨S2x1024x16x2, .f32⟩
  | 36 => ⟨S2x16x2x1024, .f32⟩
  | 37 => ⟨S2x1x1x1024x1024, .f32⟩
  | 38 => ⟨S2x16x2x1024x1, .f32⟩
  | 39 => ⟨S2x16x2x1024x1024, .f32⟩
  | 40 => ⟨S2x16x2x1024x1024, .f32⟩
  | 41 => ⟨S2x16x2x1024x1024, .f32⟩
  | 42 => ⟨S2x16x2x1024x1024, .f32⟩
  | 43 => ⟨S2x16x2x1024x1024, .f32⟩
  | 44 => ⟨S2x16x1024x1024x2, .f32⟩
  | 45 => ⟨S2x16x2x1024x1024, .f32⟩
  | 46 => ⟨S2x1x1x1024, .f32⟩
  | 47 => ⟨S2x16x1x1, .f32⟩
  | 48 => ⟨S2x16x1x1024, .f32⟩
  | 49 => ⟨S2x16x1x1024, .f32⟩
  | 50 => ⟨S2x16x1x1024, .f32⟩
  | 51 => ⟨S2x16x1x1024x1, .f32⟩
  | 52 => ⟨S2x16x2x1024x1024, .f32⟩
  | 53 => ⟨S2x16x2x1024x1024, .f32⟩
  | 54 => ⟨S2x1024x1x1x1, .f32⟩
  | 55 => ⟨S2x1024x16x2x128, .f32⟩
  | 56 => ⟨S2x1024x16x2x128, .f32⟩
  | 57 => ⟨S2x1024x16x2x128, .bf16⟩
  | 58 => ⟨S2x1024x16x2x128, .f32⟩
  | 59 => ⟨S2x1024x16x2x128, .f32⟩
  | 60 => ⟨S_, .f32⟩
  | 61 => ⟨S2x1024x16x2, .f32⟩
  | 62 => ⟨S2x16x2x1024, .f32⟩
  | 63 => ⟨S2x16x2x1024x1, .f32⟩
  | 64 => ⟨S2x16x2x1024x1024, .f32⟩
  | 65 => ⟨S2x16x2x1024x1024, .f32⟩
  | 66 => ⟨S2x16x2x1024x1024, .f32⟩
  | 67 => ⟨S2x16x2x1024x1024, .bf16⟩
  | 68 => ⟨S2x16x2x1024x1024, .f32⟩
  | 69 => ⟨S2x1x1x1024x1, .f32⟩
  | 70 => ⟨S2x16x2x1024x1024, .f32⟩
  | 71 => ⟨S2x16x2x1024x1024, .f32⟩
  | 72 => ⟨S2x16x2x1024x1024, .bf16⟩
  | 73 => ⟨S2x16x2x1024x1024, .f32⟩
  | 74 => ⟨S2x16x2x1024x128, .f32⟩
  | 75 => ⟨S_, .f32⟩
  | 76 => ⟨S2x16, .f32⟩
  | 77 => ⟨S2x16, .f32⟩
  | 78 => ⟨S2x16x1x1x1, .f32⟩
  | 79 => ⟨S2x16x2x1024x128, .f32⟩
  | 80 => ⟨S2x16x2x1024x128, .f32⟩
  | 81 => ⟨S2x16x2x1024x128, .bf16⟩
  | 82 => ⟨S2x32x1024x128, .bf16⟩
  | 83 => ⟨S2x16x2x1024x128, .f32⟩
  | 84 => ⟨S_, .f32⟩
  | 85 => ⟨S2x16x2, .f32⟩
  | 86 => ⟨S2x16x2, .f32⟩
  | 87 => ⟨S2x16x2x1x1, .f32⟩
  | 88 => ⟨S2x16x2x1024x128, .f32⟩
  | 89 => ⟨S2x16x2x1024x128, .f32⟩
  | 90 => ⟨S_, .f32⟩
  | 91 => ⟨S2x16x1024x128, .f32⟩
  | 92 => ⟨S2x16x1024x128, .bf16⟩
  | 93 => ⟨S2x16x2x1024x128, .f32⟩
  | 94 => ⟨S_, .f32⟩
  | 95 => ⟨S2x16x1024x128, .f32⟩
  | 96 => ⟨S2x16x1024x128, .bf16⟩
  | 97 => ⟨S2x32x1024x1024, .f32⟩
  | 98 => ⟨S2x16, .i32⟩
  | 99 => ⟨S2x16x1, .i32⟩
  | 100 => ⟨S_, .i32⟩
  | 101 => ⟨S2x16x1, .i32⟩
  | 102 => ⟨S2x16x1, .i32⟩
  | 103 => ⟨S8, .i32⟩
  | 104 => ⟨S1x1x8, .i32⟩
  | 105 => ⟨S2x16x8, .i32⟩
  | 106 => ⟨S2x16x8, .i32⟩
  | 107 => ⟨S2x16x8, .i32⟩
  | 108 => ⟨S2x128, .i32⟩
  | 109 => ⟨S1024, .i32⟩
  | 110 => ⟨S2x1024, .i32⟩
  | 111 => ⟨S2x1152, .i32⟩
  | 112 => ⟨S2x1152x1, .i32⟩
  | 113 => ⟨S1024, .i32⟩
  | 114 => ⟨S1x1x1024, .i32⟩
  | 115 => ⟨S2x1152x1024, .i32⟩
  | 116 => ⟨S2x1152x1024, .i32⟩
  | 117 => ⟨S2x1152x1024, .i1⟩
  | 118 => ⟨S2x1152x1024, .f32⟩
  | 119 => ⟨S2x1152x128x1, .i32⟩
  | 120 => ⟨S1024, .i32⟩
  | 121 => ⟨S1x1x1x1024, .i32⟩
  | 122 => ⟨S2x1152x128x1024, .i32⟩
  | 123 => ⟨S2x1152x128x1024, .i32⟩
  | 124 => ⟨S2x1152x128x1024, .i1⟩
  | 125 => ⟨S2x1152x128x1024, .f32⟩
  | 126 => ⟨S2x32x1024x1152, .f32⟩
  | 127 => ⟨S2x32x1152x1024, .f32⟩
  | _ => ⟨S2x1024x32x128, .fp8e4m3⟩

abbrev hbmTy0_1 (i : Nat) : BufTy := match i % 128 with
  | 0 => ⟨S2x1152x32x128, .f32⟩
  | 1 => ⟨S2x32x1152x128, .f32⟩
  | 2 => ⟨S2x1x1152x128, .f32⟩
  | 3 => ⟨S2x32x1152x128, .f32⟩
  | 4 => ⟨S2x32x1152x128, .f32⟩
  | _ => ⟨S2x1024x32x128, .fp8e4m3⟩

abbrev hbmTy (i : Nat) : BufTy := match i / 128 with
  | 0 => hbmTy0_0 i
  | 1 => hbmTy0_1 i
  | _ => ⟨S2x1024x32x128, .fp8e4m3⟩

abbrev bufTy : (tb : Table) → Fin (tcTables nBuf tb) → BufTy
  | .hbm, ⟨i, _⟩ => hbmTy i
  | .local _ .vmem, ⟨0, _⟩ => ⟨S2x1024x32x128, .fp8e4m3⟩
  | .local _ .vmem, ⟨1, _⟩ => ⟨S2x1024x16x128, .fp8e4m3⟩
  | .local _ .vmem, ⟨2, _⟩ => ⟨S2x1024x16x128, .fp8e4m3⟩
  | .local _ .vmem, ⟨3, _⟩ => ⟨S2x1024x32x128, .fp8e5m2⟩
  | .local _ .vmem, ⟨4, _⟩ => ⟨S2x1024x1024, .f32⟩
  | .local _ .vmem, ⟨5, _⟩ => ⟨S2x1024x32x128, .f32⟩
  | .local _ .vmem, ⟨6, _⟩ => ⟨S2x1024x16x128, .f32⟩
  | .local _ .vmem, ⟨7, _⟩ => ⟨S2x1024x16x128, .f32⟩
  | .local _ .vmem, ⟨8, _⟩ => ⟨S2x1024x32x128, .f32⟩
  | .local _ .vmem, ⟨9, _⟩ => ⟨S2x1024x1024, .f32⟩
  | _, _ => ⟨S2x1024x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_1 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_2 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_3 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_4 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x1024x32x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x16x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x16x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x32x128 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelLoops.lean ====
module

public import proofs.«01_k».proof.Proof.Gen.Kernel.Loops

@[expose] public section

set_option maxRecDepth 16384
set_option maxHeartbeats 4000000

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The group number trip `k` reads from the table of extra groups. -/
abbrev k0_word2 (arg3 : Memref sig .tc .smem S2x128 .i32) (i : grid0.Coords) (v826 : Elt F .i32) (k0_hw1 : k0_chk1 i v826) (X_arg3 : BufTy.Contents (Elt F) arg3.view.ty) (k : Fin (k0_t2_loop v826).trips) : Elt F .i32 :=
  View.readAt (Elt F) arg3.view (Rect.unit (s := S2x128) (k0_off15 i v826 k) S1x1.size (k0_off15_inb i v826 k0_hw1 k)).toLoadRect X_arg3 (Shape.Idx.first (numel1_S1x1.symm ▸ Nat.one_pos))

/-- One trip: what it reads stays, and what it writes into arg18 is a list of pieces. -/
@[irreducible] def trip_k0_t2 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t2_loop v826).trips, k0_chk2 (k0_word2 (F := F) arg3 i v826 k0_hw1 X_arg3 k)) (k : Fin (k0_t2_loop v826).trips) :
    { L_arg18 : List (View.Piece (Elt F) S1x2x1152x128 .f32) // ∀ (E : Set ℕ) (acc : BitVec 32) (f_arg18 : BufTy.Contents (Elt F) arg18.view.ty),
      (iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} f_arg18)) : sProp (MT nD τ sig Unit (Elt F) ℕ (UR sig nD τ) ℕ))
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 k acc)
          (fun _ => iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} (arg18.view.writes (Elt F) f_arg18 L_arg18)))) } := by
  have hw' := hwL k
  refine ⟨?_, fun E acc f_arg18 => ?run⟩
  case run =>
    unfold k0_t2_body
    iintro ⟨HR_arg3, HR_arg13, HR_arg14, HR_arg21, HW_arg18⟩
    sl_exec
    sl_step
    sl_close

/-- Trip `k`'s pieces in front of the pieces before it. -/
@[irreducible] def pb_k0_t2Step (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t2_loop v826).trips, k0_chk2 (k0_word2 (F := F) arg3 i v826 k0_hw1 X_arg3 k)) (k : ℕ) (prev : List (View.Piece (Elt F) S1x2x1152x128 .f32)) : List (View.Piece (Elt F) S1x2x1152x128 .f32) :=
  if h : k < (k0_t2_loop v826).trips then
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL ⟨k, h⟩).1 ++ prev
  else prev

/-- The pieces of the trips before `k`, last first. -/
def pb_k0_t2 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t2_loop v826).trips, k0_chk2 (k0_word2 (F := F) arg3 i v826 k0_hw1 X_arg3 k)) : ℕ → List (View.Piece (Elt F) S1x2x1152x128 .f32)
  | 0 => []
  | k + 1 => pb_k0_t2Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k)

theorem pb_k0_t2_succ (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t2_loop v826).trips, k0_chk2 (k0_word2 (F := F) arg3 i v826 k0_hw1 X_arg3 k)) (k : Fin (k0_t2_loop v826).trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL (k.val + 1)
      = (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k).1 ++ pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k.val := by
  rw [pb_k0_t2.eq_2]; unfold pb_k0_t2Step; exact dif_pos k.isLt

/-- Before trip `k`: the read buffers at their contents, arg18 with the pieces of the trips before
   `k` written over its contents at loop entry. -/
abbrev inv_k0_t2 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t2_loop v826).trips, k0_chk2 (k0_word2 (F := F) arg3 i v826 k0_hw1 X_arg3 k)) (G_arg18 : BufTy.Contents (Elt F) arg18.view.ty) (k : ℕ) (_u : BitVec 32) : sProp (MT nD τ sig Unit (Elt F) ℕ (UR sig nD τ) ℕ) :=
  iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (∃ f, (arg18.view.loc (c : Thread nD τ) ↦[arg18.view.set]{fullShare} f) ∗ ⌜f = arg18.view.writes (Elt F) G_arg18 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k)⌝))

set_option warn.classDefReducibility false in
/-- The loop by its invariant. -/
@[sl_loop] def loopInv_k0_t2 (𝒱 : Variants) (c : Dev nD) (bd : Option 𝒱.V) (E : Set ℕ) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (init : BitVec 32) (G_arg18 : BufTy.Contents (Elt F) arg18.view.ty) (hwL : ∀ k : Fin (k0_t2_loop v826).trips, k0_chk2 (k0_word2 (F := F) arg3 i v826 k0_hw1 X_arg3 k)) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 init where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL G_arg18
  step k acc := by
    iintro ⟨HR_arg3, HR_arg13, HR_arg14, HR_arg21, ⟨%f_arg18, HW_arg18, %h_arg18⟩⟩
    iapply (wp_wand_r Idealize.ShloMosaic.frame (wpE (defs₀ (F := F)) 𝒱 (c : Thread nD τ) bd) E)
    isplitl [HR_arg3 HR_arg13 HR_arg14 HR_arg21 HW_arg18]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k).2 E acc f_arg18)
      isplitl [HR_arg3]; · iexact HR_arg3
      isplitl [HR_arg13]; · iexact HR_arg13
      isplitl [HR_arg14]; · iexact HR_arg14
      isplitl [HR_arg21]; · iexact HR_arg21
      iexact HW_arg18
    · iintro %_ ⟨HR_arg3, HR_arg13, HR_arg14, HR_arg21, HW_arg18⟩
      isplitl [HR_arg3]; · iexact HR_arg3
      isplitl [HR_arg13]; · iexact HR_arg13
      isplitl [HR_arg14]; · iexact HR_arg14
      isplitl [HR_arg21]; · iexact HR_arg21
      rw [pb_k0_t2_succ]
      iexists _; isplitl [HW_arg18]; · iexact HW_arg18
      ipureintro; rw [h_arg18, ← View.writes_append]

/-- The group number trip `k` reads from the table of extra groups. -/
abbrev k0_word3 (arg3 : Memref sig .tc .smem S2x128 .i32) (i : grid0.Coords) (v826 : Elt F .i32) (k0_hw1 : k0_chk1 i v826) (X_arg3 : BufTy.Contents (Elt F) arg3.view.ty) (k : Fin (k0_t3_loop v826).trips) : Elt F .i32 :=
  View.readAt (Elt F) arg3.view (Rect.unit (s := S2x128) (k0_off26 i v826 k) S1x1.size (k0_off26_inb i v826 k0_hw1 k)).toLoadRect X_arg3 (Shape.Idx.first (numel1_S1x1.symm ▸ Nat.one_pos))

/-- One trip: what it reads stays, and what it writes into arg18 is a list of pieces. -/
@[irreducible] def trip_k0_t3 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t3_loop v826).trips, k0_chk3 (k0_word3 (F := F) arg3 i v826 k0_hw1 X_arg3 k)) (k : Fin (k0_t3_loop v826).trips) :
    { L_arg18 : List (View.Piece (Elt F) S1x2x1152x128 .f32) // ∀ (E : Set ℕ) (acc : BitVec 32) (f_arg18 : BufTy.Contents (Elt F) arg18.view.ty),
      (iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} f_arg18)) : sProp (MT nD τ sig Unit (Elt F) ℕ (UR sig nD τ) ℕ))
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 k acc)
          (fun _ => iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} (arg18.view.writes (Elt F) f_arg18 L_arg18)))) } := by
  have hw' := hwL k
  refine ⟨?_, fun E acc f_arg18 => ?run⟩
  case run =>
    unfold k0_t3_body
    iintro ⟨HR_arg3, HR_arg13, HR_arg14, HR_arg21, HW_arg18⟩
    sl_exec
    sl_step
    sl_close

/-- Trip `k`'s pieces in front of the pieces before it. -/
@[irreducible] def pb_k0_t3Step (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t3_loop v826).trips, k0_chk3 (k0_word3 (F := F) arg3 i v826 k0_hw1 X_arg3 k)) (k : ℕ) (prev : List (View.Piece (Elt F) S1x2x1152x128 .f32)) : List (View.Piece (Elt F) S1x2x1152x128 .f32) :=
  if h : k < (k0_t3_loop v826).trips then
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL ⟨k, h⟩).1 ++ prev
  else prev

/-- The pieces of the trips before `k`, last first. -/
def pb_k0_t3 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t3_loop v826).trips, k0_chk3 (k0_word3 (F := F) arg3 i v826 k0_hw1 X_arg3 k)) : ℕ → List (View.Piece (Elt F) S1x2x1152x128 .f32)
  | 0 => []
  | k + 1 => pb_k0_t3Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k (pb_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k)

theorem pb_k0_t3_succ (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t3_loop v826).trips, k0_chk3 (k0_word3 (F := F) arg3 i v826 k0_hw1 X_arg3 k)) (k : Fin (k0_t3_loop v826).trips) :
    pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL (k.val + 1)
      = (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k).1 ++ pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k.val := by
  rw [pb_k0_t3.eq_2]; unfold pb_k0_t3Step; exact dif_pos k.isLt

/-- Before trip `k`: the read buffers at their contents, arg18 with the pieces of the trips before
   `k` written over its contents at loop entry. -/
abbrev inv_k0_t3 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t3_loop v826).trips, k0_chk3 (k0_word3 (F := F) arg3 i v826 k0_hw1 X_arg3 k)) (G_arg18 : BufTy.Contents (Elt F) arg18.view.ty) (k : ℕ) (_u : BitVec 32) : sProp (MT nD τ sig Unit (Elt F) ℕ (UR sig nD τ) ℕ) :=
  iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (∃ f, (arg18.view.loc (c : Thread nD τ) ↦[arg18.view.set]{fullShare} f) ∗ ⌜f = arg18.view.writes (Elt F) G_arg18 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k)⌝))

set_option warn.classDefReducibility false in
/-- The loop by its invariant. -/
@[sl_loop] def loopInv_k0_t3 (𝒱 : Variants) (c : Dev nD) (bd : Option 𝒱.V) (E : Set ℕ) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (init : BitVec 32) (G_arg18 : BufTy.Contents (Elt F) arg18.view.ty) (hwL : ∀ k : Fin (k0_t3_loop v826).trips, k0_chk3 (k0_word3 (F := F) arg3 i v826 k0_hw1 X_arg3 k)) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 init where
  inv := inv_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL G_arg18
  step k acc := by
    iintro ⟨HR_arg3, HR_arg13, HR_arg14, HR_arg21, ⟨%f_arg18, HW_arg18, %h_arg18⟩⟩
    iapply (wp_wand_r Idealize.ShloMosaic.frame (wpE (defs₀ (F := F)) 𝒱 (c : Thread nD τ) bd) E)
    isplitl [HR_arg3 HR_arg13 HR_arg14 HR_arg21 HW_arg18]
    · iapply ((trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k).2 E acc f_arg18)
      isplitl [HR_arg3]; · iexact HR_arg3
      isplitl [HR_arg13]; · iexact HR_arg13
      isplitl [HR_arg14]; · iexact HR_arg14
      isplitl [HR_arg21]; · iexact HR_arg21
      iexact HW_arg18
    · iintro %_ ⟨HR_arg3, HR_arg13, HR_arg14, HR_arg21, HW_arg18⟩
      isplitl [HR_arg3]; · iexact HR_arg3
      isplitl [HR_arg13]; · iexact HR_arg13
      isplitl [HR_arg14]; · iexact HR_arg14
      isplitl [HR_arg21]; · iexact HR_arg21
      rw [pb_k0_t3_succ]
      iexists _; isplitl [HW_arg18]; · iexact HW_arg18
      ipureintro; rw [h_arg18, ← View.writes_append]

/-- The group number trip `k` reads from the table of extra groups. -/
abbrev k0_word5 (arg3 : Memref sig .tc .smem S2x128 .i32) (i : grid0.Coords) (v1678 : Elt F .i32) (k0_hw4 : k0_chk4 i v1678) (X_arg3 : BufTy.Contents (Elt F) arg3.view.ty) (k : Fin (k0_t5_loop v1678).trips) : Elt F .i32 :=
  View.readAt (Elt F) arg3.view (Rect.unit (s := S2x128) (k0_off49 i v1678 k) S1x1.size (k0_off49_inb i v1678 k0_hw4 k)).toLoadRect X_arg3 (Shape.Idx.first (numel1_S1x1.symm ▸ Nat.one_pos))

/-- One trip: what it reads stays, and what it writes into arg18 is a list of pieces. -/
@[irreducible] def trip_k0_t5 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t5_loop v1678).trips, k0_chk5 (k0_word5 (F := F) arg3 i v1678 k0_hw4 X_arg3 k)) (k : Fin (k0_t5_loop v1678).trips) :
    { L_arg18 : List (View.Piece (Elt F) S1x2x1152x128 .f32) // ∀ (E : Set ℕ) (acc : BitVec 32) (f_arg18 : BufTy.Contents (Elt F) arg18.view.ty),
      (iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} f_arg18)) : sProp (MT nD τ sig Unit (Elt F) ℕ (UR sig nD τ) ℕ))
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 k acc)
          (fun _ => iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} (arg18.view.writes (Elt F) f_arg18 L_arg18)))) } := by
  have hw' := hwL k
  refine ⟨?_, fun E acc f_arg18 => ?run⟩
  case run =>
    unfold k0_t5_body
    iintro ⟨HR_arg3, HR_arg13, HR_arg14, HR_arg21, HW_arg18⟩
    sl_exec
    sl_step
    sl_close

/-- Trip `k`'s pieces in front of the pieces before it. -/
@[irreducible] def pb_k0_t5Step (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t5_loop v1678).trips, k0_chk5 (k0_word5 (F := F) arg3 i v1678 k0_hw4 X_arg3 k)) (k : ℕ) (prev : List (View.Piece (Elt F) S1x2x1152x128 .f32)) : List (View.Piece (Elt F) S1x2x1152x128 .f32) :=
  if h : k < (k0_t5_loop v1678).trips then
    (trip_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL ⟨k, h⟩).1 ++ prev
  else prev

/-- The pieces of the trips before `k`, last first. -/
def pb_k0_t5 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t5_loop v1678).trips, k0_chk5 (k0_word5 (F := F) arg3 i v1678 k0_hw4 X_arg3 k)) : ℕ → List (View.Piece (Elt F) S1x2x1152x128 .f32)
  | 0 => []
  | k + 1 => pb_k0_t5Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k (pb_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k)

theorem pb_k0_t5_succ (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t5_loop v1678).trips, k0_chk5 (k0_word5 (F := F) arg3 i v1678 k0_hw4 X_arg3 k)) (k : Fin (k0_t5_loop v1678).trips) :
    pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL (k.val + 1)
      = (trip_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k).1 ++ pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k.val := by
  rw [pb_k0_t5.eq_2]; unfold pb_k0_t5Step; exact dif_pos k.isLt

/-- Before trip `k`: the read buffers at their contents, arg18 with the pieces of the trips before
   `k` written over its contents at loop entry. -/
abbrev inv_k0_t5 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t5_loop v1678).trips, k0_chk5 (k0_word5 (F := F) arg3 i v1678 k0_hw4 X_arg3 k)) (G_arg18 : BufTy.Contents (Elt F) arg18.view.ty) (k : ℕ) (_u : BitVec 32) : sProp (MT nD τ sig Unit (Elt F) ℕ (UR sig nD τ) ℕ) :=
  iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (∃ f, (arg18.view.loc (c : Thread nD τ) ↦[arg18.view.set]{fullShare} f) ∗ ⌜f = arg18.view.writes (Elt F) G_arg18 (pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k)⌝))

set_option warn.classDefReducibility false in
/-- The loop by its invariant. -/
@[sl_loop] def loopInv_k0_t5 (𝒱 : Variants) (c : Dev nD) (bd : Option 𝒱.V) (E : Set ℕ) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (init : BitVec 32) (G_arg18 : BufTy.Contents (Elt F) arg18.view.ty) (hwL : ∀ k : Fin (k0_t5_loop v1678).trips, k0_chk5 (k0_word5 (F := F) arg3 i v1678 k0_hw4 X_arg3 k)) :
    LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 init where
  inv := inv_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL G_arg18
  step k acc := by
    iintro ⟨HR_arg3, HR_arg13, HR_arg14, HR_arg21, ⟨%f_arg18, HW_arg18, %h_arg18⟩⟩
    iapply (wp_wand_r Idealize.ShloMosaic.frame (wpE (defs₀ (F := F)) 𝒱 (c : Thread nD τ) bd) E)
    isplitl [HR_arg3 HR_arg13 HR_arg14 HR_arg21 HW_arg18]
    · iapply ((trip_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k).2 E acc f_arg18)
      isplitl [HR_arg3]; · iexact HR_arg3
      isplitl [HR_arg13]; · iexact HR_arg13
      isplitl [HR_arg14]; · iexact HR_arg14
      isplitl [HR_arg21]; · iexact HR_arg21
      iexact HW_arg18
    · iintro %_ ⟨HR_arg3, HR_arg13, HR_arg14, HR_arg21, HW_arg18⟩
      isplitl [HR_arg3]; · iexact HR_arg3
      isplitl [HR_arg13]; · iexact HR_arg13
      isplitl [HR_arg14]; · iexact HR_arg14
      isplitl [HR_arg21]; · iexact HR_arg21
      rw [pb_k0_t5_succ]
      iexists _; isplitl [HW_arg18]; · iexact HW_arg18
      ipureintro; rw [h_arg18, ← View.writes_append]

/-- The group number trip `k` reads from the table of extra groups. -/
abbrev k0_word6 (arg3 : Memref sig .tc .smem S2x128 .i32) (i : grid0.Coords) (v1678 : Elt F .i32) (k0_hw4 : k0_chk4 i v1678) (X_arg3 : BufTy.Contents (Elt F) arg3.view.ty) (k : Fin (k0_t6_loop v1678).trips) : Elt F .i32 :=
  View.readAt (Elt F) arg3.view (Rect.unit (s := S2x128) (k0_off60 i v1678 k) S1x1.size (k0_off60_inb i v1678 k0_hw4 k)).toLoadRect X_arg3 (Shape.Idx.first (numel1_S1x1.symm ▸ Nat.one_pos))

/-- One trip: what it reads stays, and what it writes into arg18 is a list of pieces. -/
@[irreducible] def trip_k0_t6 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t6_loop v1678).trips, k0_chk6 (k0_word6 (F := F) arg3 i v1678 k0_hw4 X_arg3 k)) (k : Fin (k0_t6_loop v1678).trips) :
    { L_arg18 : List (View.Piece (Elt F) S1x2x1152x128 .f32) // ∀ (E : Set ℕ) (acc : BitVec 32) (f_arg18 : BufTy.Contents (Elt F) arg18.view.ty),
      (iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} f_arg18)) : sProp (MT nD τ sig Unit (Elt F) ℕ (UR sig nD τ) ℕ))
      ⊢ wp frame (wpE (defs₀ (F := F)) 𝒱 (c : Thread nD τ) bd) E (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 k acc)
          (fun _ => iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} (arg18.view.writes (Elt F) f_arg18 L_arg18)))) } := by
  have hw' := hwL k
  refine ⟨?_, fun E acc f_arg18 => ?run⟩
  case run =>
    unfold k0_t6_body
    iintro ⟨HR_arg3, HR_arg13, HR_arg14, HR_arg21, HW_arg18⟩
    sl_exec
    sl_step
    sl_close

/-- Trip `k`'s pieces in front of the pieces before it. -/
@[irreducible] def pb_k0_t6Step (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t6_loop v1678).trips, k0_chk6 (k0_word6 (F := F) arg3 i v1678 k0_hw4 X_arg3 k)) (k : ℕ) (prev : List (View.Piece (Elt F) S1x2x1152x128 .f32)) : List (View.Piece (Elt F) S1x2x1152x128 .f32) :=
  if h : k < (k0_t6_loop v1678).trips then
    (trip_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL ⟨k, h⟩).1 ++ prev
  else prev

/-- The pieces of the trips before `k`, last first. -/
def pb_k0_t6 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t6_loop v1678).trips, k0_chk6 (k0_word6 (F := F) arg3 i v1678 k0_hw4 X_arg3 k)) : ℕ → List (View.Piece (Elt F) S1x2x1152x128 .f32)
  | 0 => []
  | k + 1 => pb_k0_t6Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k (pb_k0_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k)

theorem pb_k0_t6_succ (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t6_loop v1678).trips, k0_chk6 (k0_word6 (F := F) arg3 i v1678 k0_hw4 X_arg3 k)) (k : Fin (k0_t6_loop v1678).trips) :
    pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL (k.val + 1)
      = (trip_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k).1 ++ pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k.val := by
  rw [pb_k0_t6.eq_2]; unfold pb_k0_t6Step; exact dif_pos k.isLt

/-- Before trip `k`: the read buffers at their contents, arg18 with the pieces of the trips before
   `k` written over its contents at loop entry. -/
abbrev inv_k0_t6 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t6_loop v1678).trips, k0_chk6 (k0_word6 (F := F) arg3 i v1678 k0_hw4 X_arg3 k)) (G_arg18 : BufTy.Contents (Elt F) arg18.view.ty) (k : ℕ) (_u : BitVec 32) : sProp (MT nD τ sig Unit (Elt F) ℕ (UR sig nD τ) ℕ) :=
  iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (∃ f, (arg18.view.loc (c : Thread nD τ) ↦[arg18.view.set]{fullShare} f) ∗ ⌜f = arg18.view.writes (Elt F) G_arg18 (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k)⌝))

set_option warn.classDefReducibility false in
/-- The loop by its invariant. -/
@[sl_loop] def loopInv_k0_t6 (𝒱 : Variants) (c : Dev nD) (bd : Option 𝒱.V) (E : Set ℕ) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (init : BitVec 32) (G_arg18 : BufTy.Contents (Elt F) arg18.view.ty) (hwL : ∀ k : Fin (k0_t6_loop v1678).trips, k0_chk6 (k0_word6 (F := F) arg3 i v1678 k0_hw4 X_arg3 k)) :
    LoopInvTy_k0_t6 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 init where
  inv := inv_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL G_arg18
  step k acc := by
    iintro ⟨HR_arg3, HR_arg13, HR_arg14, HR_arg21, ⟨%f_arg18, HW_arg18, %h_arg18⟩⟩
    iapply (wp_wand_r Idealize.ShloMosaic.frame (wpE (defs₀ (F := F)) 𝒱 (c : Thread nD τ) bd) E)
    isplitl [HR_arg3 HR_arg13 HR_arg14 HR_arg21 HW_arg18]
    · iapply ((trip_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k).2 E acc f_arg18)
      isplitl [HR_arg3]; · iexact HR_arg3
      isplitl [HR_arg13]; · iexact HR_arg13
      isplitl [HR_arg14]; · iexact HR_arg14
      isplitl [HR_arg21]; · iexact HR_arg21
      iexact HW_arg18
    · iintro %_ ⟨HR_arg3, HR_arg13, HR_arg14, HR_arg21, HW_arg18⟩
      isplitl [HR_arg3]; · iexact HR_arg3
      isplitl [HR_arg13]; · iexact HR_arg13
      isplitl [HR_arg14]; · iexact HR_arg14
      isplitl [HR_arg21]; · iexact HR_arg21
      rw [pb_k0_t6_succ]
      iexists _; isplitl [HW_arg18]; · iexact HW_arg18
      ipureintro; rw [h_arg18, ← View.writes_append]

end Cert.Kernel.Proof
-- ==== Proof.KernelRun.lean ====
module

public import proofs.«01_k».proof.Proof.KernelLoops
public import proofs.«01_k».proof.Proof.Gen.Kernel.Frame
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of extra groups, as the body reads it. -/
abbrev k0_n14 (arg4 : Memref sig .tc .smem S2x128 .i32) (i : grid0.Coords) (X_arg4 : BufTy.Contents (Elt F) arg4.view.ty) : Elt F .i32 :=
  View.readAt (Elt F) arg4.view (Rect.unit (s := S2x128) (k0_off14 i) S1x1.size (k0_off14_inb i)).toLoadRect X_arg4 (Shape.Idx.first (numel1_S1x1.symm ▸ Nat.one_pos))

/-- The number of extra groups, as the body reads it. -/
abbrev k0_n48 (arg4 : Memref sig .tc .smem S2x128 .i32) (i : grid0.Coords) (X_arg4 : BufTy.Contents (Elt F) arg4.view.ty) : Elt F .i32 :=
  View.readAt (Elt F) arg4.view (Rect.unit (s := S2x128) (k0_off48 i) S1x1.size (k0_off48_inb i)).toLoadRect X_arg4 (Shape.Idx.first (numel1_S1x1.symm ▸ Nat.one_pos))

-- (the run's proof term is large: the definition's epilogue — `abstractNestedProofs` — walks it past the default budget)
set_option maxHeartbeats 3028000 in
/-- What the body leaves in each output buffer, as pieces (last first), with the proof that the body runs
    to the continuation holding the inputs as they were and each output with its pieces written. -/
noncomputable def kernelRun (c : Dev nD) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole)
    (x0 : Vec F S3x2x32 .f32) (x1 : Vec F S2x128 .i32) (x2 : Vec F S2x128 .i32) (x3 : Vec F S1x2x1024x128 .fp8e4m3) (x4 : Vec F S1x2x1024x128 .fp8e5m2) (x5 : Vec F S1x2x1024x128 .bf16) (x6 : Vec F S1x1x1024x128 .fp8e4m3) (x7 : Vec F S1x1x1024x128 .fp8e4m3) (x8 : Vec F S1x2x1x1024 .f32) (x9 : Vec F S1x1024x128 .f32) (x10 : Vec F S1x1024x1024 .f32) (x11 : Vec F S1x1152x128 .i32) (x12 : Vec F S1x1152x128 .f32)
    (hw1 : k0_chk1 i (k0_n14 (F := F) arg4 i (harg4.unread x2))) (hw4 : k0_chk4 i (k0_n48 (F := F) arg4 i (harg4.unread x2)))
    (hw2 : ∀ k, k0_chk2 (k0_word2 (F := F) arg3 i (k0_n14 (F := F) arg4 i (harg4.unread x2)) hw1 (harg3.unread x1) k))
    (hw3 : ∀ k, k0_chk3 (k0_word3 (F := F) arg3 i (k0_n14 (F := F) arg4 i (harg4.unread x2)) hw1 (harg3.unread x1) k))
    (hw5 : ∀ k, k0_chk5 (k0_word5 (F := F) arg3 i (k0_n48 (F := F) arg4 i (harg4.unread x2)) hw4 (harg3.unread x1) k))
    (hw6 : ∀ k, k0_chk6 (k0_word6 (F := F) arg3 i (k0_n48 (F := F) arg4 i (harg4.unread x2)) hw4 (harg3.unread x1) k)) :
    Σ' (L13 : List (View.Piece (Elt F) S1x2x1024x128 .bf16)), Σ' (L14 : List (View.Piece (Elt F) S1x1x1024x128 .bf16)), Σ' (L15 : List (View.Piece (Elt F) S1x1x1024x128 .bf16)), Σ' (L16 : List (View.Piece (Elt F) S1x2x1152x128 .f32)), Σ' (LT0 : List (View.Piece (Elt F) S1024x1024 .bf16)), Σ' (LT1 : List (View.Piece (Elt F) S1024x1024 .bf16)), Σ' (LT3 : List (View.Piece (Elt F) S2x1024x128 .f32)), Σ' (LT4 : List (View.Piece (Elt F) S128x1024 .f32)), { LT5 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LT0) ∗ (∃ f, arg20.view.loc (c : Thread nD τ) ↦[arg20.view.set]{fullShare} arg20.view.writes (Elt F) f LT1) ∗ (∃ d, owns (c : Thread nD τ) arg21 fullShare d) ∗ (∃ f, arg22.view.loc (c : Thread nD τ) ↦[arg22.view.set]{fullShare} arg22.view.writes (Elt F) f LT3) ∗ (∃ f, arg23.view.loc (c : Thread nD τ) ↦[arg23.view.set]{fullShare} arg23.view.writes (Elt F) f LT4) ∗ (∃ f, arg24.view.loc (c : Thread nD τ) ↦[arg24.view.set]{fullShare} arg24.view.writes (Elt F) f LT5)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, fun E K => ?run⟩
  case run =>
    simp only [cc0_attn_eq_skeleton]; unfold cc0_attn_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexists _; iexact HS1
    isplitl [HS2]
    · iexists _, _; isplitr; swap; · iexact HS2
      ipureintro; rfl
    isplitl [HS3]; · iexists _; iexact HS3
    isplitl [HS4]; · iexists _; iexact HS4
    iexists _; iexact HS5

end Cert.Kernel.Proof
-- ==== Proof.KernelBody.lean ====
module

public import proofs.«01_k».proof.Proof.KernelRun
public import proofs.«01_k».proof.Proof.Gen.Kernel.Frame
public import proofs.«01_k».proof.Proof.Gen.Kernel.Points
public import Idealize.ShloMosaic.Lib.Pipeline.FrameBody
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 13, through which its contents are stated (`View.read_writes_of_cover`: the
    choice does not matter). -/
abbrev VO0_13 : View sig .tc .vmem S1x2x1024x128 .bf16 := (Memref.whole cc0_stg13_0 : Memref sig .tc .vmem S1x2x1024x128 .bf16).view
/-- One staging buffer of output window 14, through which its contents are stated (`View.read_writes_of_cover`: the
    choice does not matter). -/
abbrev VO0_14 : View sig .tc .vmem S1x1x1024x128 .bf16 := (Memref.whole cc0_stg14_0 : Memref sig .tc .vmem S1x1x1024x128 .bf16).view
/-- One staging buffer of output window 15, through which its contents are stated (`View.read_writes_of_cover`: the
    choice does not matter). -/
abbrev VO0_15 : View sig .tc .vmem S1x1x1024x128 .bf16 := (Memref.whole cc0_stg15_0 : Memref sig .tc .vmem S1x1x1024x128 .bf16).view
/-- One staging buffer of output window 16, through which its contents are stated (`View.read_writes_of_cover`: the
    choice does not matter). -/
abbrev VO0_16 : View sig .tc .vmem S1x2x1152x128 .f32 := (Memref.whole cc0_stg16_0 : Memref sig .tc .vmem S1x2x1152x128 .f32).view
/-- Each window's current staging memref at point `t`, spelled as the pipeline passes it (`bodyAt0`), and its wholeness. -/
abbrev ms0_0 (t : Fin cfg0.N) : Memref sig .tc .smem S3x2x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S2x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x1024x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x1024x128 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1152x128 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1152x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2x1024x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x1024x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x1024x128 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x2x1152x128 .f32 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .f32 := Memref.whole cc0_scratch2
abbrev scM0_3 : Memref sig .tc .vmem S2x1024x128 .f32 := Memref.whole cc0_scratch3
abbrev scM0_4 : Memref sig .tc .vmem S128x1024 .f32 := Memref.whole cc0_scratch4
abbrev scM0_5 : Memref sig .tc .vmem S128x1024 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The body's stores into output 13 tile its block. -/
theorem cover0_13 (c : Dev nD) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole)
    (x0 : Vec F S3x2x32 .f32) (x1 : Vec F S2x128 .i32) (x2 : Vec F S2x128 .i32) (x3 : Vec F S1x2x1024x128 .fp8e4m3) (x4 : Vec F S1x2x1024x128 .fp8e5m2) (x5 : Vec F S1x2x1024x128 .bf16) (x6 : Vec F S1x1x1024x128 .fp8e4m3) (x7 : Vec F S1x1x1024x128 .fp8e4m3) (x8 : Vec F S1x2x1x1024 .f32) (x9 : Vec F S1x1024x128 .f32) (x10 : Vec F S1x1024x1024 .f32) (x11 : Vec F S1x1152x128 .i32) (x12 : Vec F S1x1152x128 .f32)
    (hw1 : k0_chk1 i (k0_n14 (F := F) arg4 i (harg4.unread x2))) (hw4 : k0_chk4 i (k0_n48 (F := F) arg4 i (harg4.unread x2)))
    (hw2 : ∀ k, k0_chk2 (k0_word2 (F := F) arg3 i (k0_n14 (F := F) arg4 i (harg4.unread x2)) hw1 (harg3.unread x1) k))
    (hw3 : ∀ k, k0_chk3 (k0_word3 (F := F) arg3 i (k0_n14 (F := F) arg4 i (harg4.unread x2)) hw1 (harg3.unread x1) k))
    (hw5 : ∀ k, k0_chk5 (k0_word5 (F := F) arg3 i (k0_n48 (F := F) arg4 i (harg4.unread x2)) hw4 (harg3.unread x1) k))
    (hw6 : ∀ k, k0_chk6 (k0_word6 (F := F) arg3 i (k0_n48 (F := F) arg4 i (harg4.unread x2)) hw4 (harg3.unread x1) k)) (y : S1x2x1024x128.Idx) :
    ∃ pc ∈ (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).1 S1x1x256x128.size (by sl_kernel_rfl) y

/-- The body's stores into output 14 tile its block. -/
theorem cover0_14 (c : Dev nD) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole)
    (x0 : Vec F S3x2x32 .f32) (x1 : Vec F S2x128 .i32) (x2 : Vec F S2x128 .i32) (x3 : Vec F S1x2x1024x128 .fp8e4m3) (x4 : Vec F S1x2x1024x128 .fp8e5m2) (x5 : Vec F S1x2x1024x128 .bf16) (x6 : Vec F S1x1x1024x128 .fp8e4m3) (x7 : Vec F S1x1x1024x128 .fp8e4m3) (x8 : Vec F S1x2x1x1024 .f32) (x9 : Vec F S1x1024x128 .f32) (x10 : Vec F S1x1024x1024 .f32) (x11 : Vec F S1x1152x128 .i32) (x12 : Vec F S1x1152x128 .f32)
    (hw1 : k0_chk1 i (k0_n14 (F := F) arg4 i (harg4.unread x2))) (hw4 : k0_chk4 i (k0_n48 (F := F) arg4 i (harg4.unread x2)))
    (hw2 : ∀ k, k0_chk2 (k0_word2 (F := F) arg3 i (k0_n14 (F := F) arg4 i (harg4.unread x2)) hw1 (harg3.unread x1) k))
    (hw3 : ∀ k, k0_chk3 (k0_word3 (F := F) arg3 i (k0_n14 (F := F) arg4 i (harg4.unread x2)) hw1 (harg3.unread x1) k))
    (hw5 : ∀ k, k0_chk5 (k0_word5 (F := F) arg3 i (k0_n48 (F := F) arg4 i (harg4.unread x2)) hw4 (harg3.unread x1) k))
    (hw6 : ∀ k, k0_chk6 (k0_word6 (F := F) arg3 i (k0_n48 (F := F) arg4 i (harg4.unread x2)) hw4 (harg3.unread x1) k)) (y : S1x1x1024x128.Idx) :
    ∃ pc ∈ (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).2.1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).2.1 S1x1x256x128.size (by sl_kernel_rfl) y

/-- The body's stores into output 15 tile its block. -/
theorem cover0_15 (c : Dev nD) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole)
    (x0 : Vec F S3x2x32 .f32) (x1 : Vec F S2x128 .i32) (x2 : Vec F S2x128 .i32) (x3 : Vec F S1x2x1024x128 .fp8e4m3) (x4 : Vec F S1x2x1024x128 .fp8e5m2) (x5 : Vec F S1x2x1024x128 .bf16) (x6 : Vec F S1x1x1024x128 .fp8e4m3) (x7 : Vec F S1x1x1024x128 .fp8e4m3) (x8 : Vec F S1x2x1x1024 .f32) (x9 : Vec F S1x1024x128 .f32) (x10 : Vec F S1x1024x1024 .f32) (x11 : Vec F S1x1152x128 .i32) (x12 : Vec F S1x1152x128 .f32)
    (hw1 : k0_chk1 i (k0_n14 (F := F) arg4 i (harg4.unread x2))) (hw4 : k0_chk4 i (k0_n48 (F := F) arg4 i (harg4.unread x2)))
    (hw2 : ∀ k, k0_chk2 (k0_word2 (F := F) arg3 i (k0_n14 (F := F) arg4 i (harg4.unread x2)) hw1 (harg3.unread x1) k))
    (hw3 : ∀ k, k0_chk3 (k0_word3 (F := F) arg3 i (k0_n14 (F := F) arg4 i (harg4.unread x2)) hw1 (harg3.unread x1) k))
    (hw5 : ∀ k, k0_chk5 (k0_word5 (F := F) arg3 i (k0_n48 (F := F) arg4 i (harg4.unread x2)) hw4 (harg3.unread x1) k))
    (hw6 : ∀ k, k0_chk6 (k0_word6 (F := F) arg3 i (k0_n48 (F := F) arg4 i (harg4.unread x2)) hw4 (harg3.unread x1) k)) (y : S1x1x1024x128.Idx) :
    ∃ pc ∈ (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).2.2.1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).2.2.1 S1x1x256x128.size (by sl_kernel_rfl) y

/-- What the body assumes of the numbers it reads at point `t`: every address computed from them is in bounds. -/
structure Hyps (c : Dev nD) (t : Fin cfg0.N) : Prop where
  hw1 : k0_chk1 (grid0.coords t) (k0_n14 (F := F) (ms0_2 t) (grid0.coords t) ((hs0_2 t).unread (iblk m c 2 t)))
  hw4 : k0_chk4 (grid0.coords t) (k0_n48 (F := F) (ms0_2 t) (grid0.coords t) ((hs0_2 t).unread (iblk m c 2 t)))
  hw2 : ∀ k, k0_chk2 (k0_word2 (F := F) (ms0_1 t) (grid0.coords t) (k0_n14 (F := F) (ms0_2 t) (grid0.coords t) ((hs0_2 t).unread (iblk m c 2 t))) hw1 ((hs0_1 t).unread (iblk m c 1 t)) k)
  hw3 : ∀ k, k0_chk3 (k0_word3 (F := F) (ms0_1 t) (grid0.coords t) (k0_n14 (F := F) (ms0_2 t) (grid0.coords t) ((hs0_2 t).unread (iblk m c 2 t))) hw1 ((hs0_1 t).unread (iblk m c 1 t)) k)
  hw5 : ∀ k, k0_chk5 (k0_word5 (F := F) (ms0_1 t) (grid0.coords t) (k0_n48 (F := F) (ms0_2 t) (grid0.coords t) ((hs0_2 t).unread (iblk m c 2 t))) hw4 ((hs0_1 t).unread (iblk m c 1 t)) k)
  hw6 : ∀ k, k0_chk6 (k0_word6 (F := F) (ms0_1 t) (grid0.coords t) (k0_n48 (F := F) (ms0_2 t) (grid0.coords t) ((hs0_2 t).unread (iblk m c 2 t))) hw4 ((hs0_1 t).unread (iblk m c 1 t)) k)

variable (H : ∀ (c : Dev nD) (t : Fin cfg0.N), Hyps m c t)

/-- The body's run at point `t`. -/
abbrev runAt (c : Dev nD) (t : Fin cfg0.N) :=
  kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (H c t).hw1 (H c t).hw4 (H c t).hw2 (H c t).hw3 (H c t).hw5 (H c t).hw6

/-- What the run leaves in output 13's block. -/
def out0_13 (c : Dev nD) (t : Fin cfg0.N) : Vec F S1x2x1024x128 .bf16 :=
  VO0_13.read (Elt F) (VO0_13.writes (Elt F) VO0_13.junk (runAt m H c t).1)

/-- What the run leaves in output 14's block. -/
def out0_14 (c : Dev nD) (t : Fin cfg0.N) : Vec F S1x1x1024x128 .bf16 :=
  VO0_14.read (Elt F) (VO0_14.writes (Elt F) VO0_14.junk (runAt m H c t).2.1)

/-- What the run leaves in output 15's block. -/
def out0_15 (c : Dev nD) (t : Fin cfg0.N) : Vec F S1x1x1024x128 .bf16 :=
  VO0_15.read (Elt F) (VO0_15.writes (Elt F) VO0_15.junk (runAt m H c t).2.2.1)

/-- The last output's block: the stores of the run over anything. -/
def Leaves16 (c : Dev nD) (t : Fin cfg0.N) (X : Vec F S1x2x1152x128 .f32) : Prop :=
  ∃ f, X = (ms0_16 t).view.read (Elt F) ((ms0_16 t).view.writes (Elt F) f (runAt m H c t).2.2.2.1)

/-- The windows held to a predicate: the last output alone, whose unused slots the body does not write. -/
def marked : Fin cfg0.W → Bool := fun w => decide (w = 16)

/-- The predicate on the last output's block. -/
def Rl (c : Dev nD) (w : Fin cfg0.W) (t : Fin cfg0.N) : ((cfg0.win w).block.Idx → Elt F (cfg0.win w).elt) → Prop :=
  match w with
    | ⟨16, _⟩ => fun X => Leaves16 m H c t X
    | _ => fun _ => True

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 m H c t
    | ⟨14, _⟩ => out0_14 m H c t
    | ⟨15, _⟩ => out0_15 m H c t
    | ⟨16, _⟩ => Pipeline.Dat.unnamed (cfg := cfg0) 16 t
    | ⟨_ + 17, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m H 0 c).A w = V m c (Pipeline.arrRef spec0 w) := by
  dsimp only [dats]

/-- What the body leaves, window by window (the proof data's `match` reduced by `dsimp`). -/
theorem after0_0 (c : Dev nD) (t : Fin cfg0.N) : (dats m H 0 c).after 0 t = iblk m c 0 t := by dsimp only [dats]
theorem after0_1 (c : Dev nD) (t : Fin cfg0.N) : (dats m H 0 c).after 1 t = iblk m c 1 t := by dsimp only [dats]
theorem after0_2 (c : Dev nD) (t : Fin cfg0.N) : (dats m H 0 c).after 2 t = iblk m c 2 t := by dsimp only [dats]
theorem after0_3 (c : Dev nD) (t : Fin cfg0.N) : (dats m H 0 c).after 3 t = iblk m c 3 t := by dsimp only [dats]
theorem after0_4 (c : Dev nD) (t : Fin cfg0.N) : (dats m H 0 c).after 4 t = iblk m c 4 t := by dsimp only [dats]
theorem after0_5 (c : Dev nD) (t : Fin cfg0.N) : (dats m H 0 c).after 5 t = iblk m c 5 t := by dsimp only [dats]
theorem after0_6 (c : Dev nD) (t : Fin cfg0.N) : (dats m H 0 c).after 6 t = iblk m c 6 t := by dsimp only [dats]
theorem after0_7 (c : Dev nD) (t : Fin cfg0.N) : (dats m H 0 c).after 7 t = iblk m c 7 t := by dsimp only [dats]
theorem after0_8 (c : Dev nD) (t : Fin cfg0.N) : (dats m H 0 c).after 8 t = iblk m c 8 t := by dsimp only [dats]
theorem after0_9 (c : Dev nD) (t : Fin cfg0.N) : (dats m H 0 c).after 9 t = iblk m c 9 t := by dsimp only [dats]
theorem after0_10 (c : Dev nD) (t : Fin cfg0.N) : (dats m H 0 c).after 10 t = iblk m c 10 t := by dsimp only [dats]
theorem after0_11 (c : Dev nD) (t : Fin cfg0.N) : (dats m H 0 c).after 11 t = iblk m c 11 t := by dsimp only [dats]
theorem after0_12 (c : Dev nD) (t : Fin cfg0.N) : (dats m H 0 c).after 12 t = iblk m c 12 t := by dsimp only [dats]
theorem after0_13 (c : Dev nD) (t : Fin cfg0.N) : (dats m H 0 c).after 13 t = out0_13 m H c t := by dsimp only [dats]
theorem after0_14 (c : Dev nD) (t : Fin cfg0.N) : (dats m H 0 c).after 14 t = out0_14 m H c t := by dsimp only [dats]
theorem after0_15 (c : Dev nD) (t : Fin cfg0.N) : (dats m H 0 c).after 15 t = out0_15 m H c t := by dsimp only [dats]

/-- Each input's current staging buffer holds its block at every point, fetched there or not (`beforeK_W_of`). -/
theorem before0_0 (c : Dev nD) (t : Fin cfg0.N) (d) : (dats m H 0 c).before 0 t d = iblk m c 0 t :=
  before0_0_of m (dats m H 0 c) (A_eq m H c 0) (after0_0 m H c) t d
theorem before0_1 (c : Dev nD) (t : Fin cfg0.N) (d) : (dats m H 0 c).before 1 t d = iblk m c 1 t :=
  before0_1_of m (dats m H 0 c) (A_eq m H c 1) (after0_1 m H c) t d
theorem before0_2 (c : Dev nD) (t : Fin cfg0.N) (d) : (dats m H 0 c).before 2 t d = iblk m c 2 t :=
  before0_2_of m (dats m H 0 c) (A_eq m H c 2) (after0_2 m H c) t d
theorem before0_3 (c : Dev nD) (t : Fin cfg0.N) (d) : (dats m H 0 c).before 3 t d = iblk m c 3 t :=
  before0_3_of m (dats m H 0 c) (A_eq m H c 3) (after0_3 m H c) t d
theorem before0_4 (c : Dev nD) (t : Fin cfg0.N) (d) : (dats m H 0 c).before 4 t d = iblk m c 4 t :=
  before0_4_of m (dats m H 0 c) (A_eq m H c 4) (after0_4 m H c) t d
theorem before0_5 (c : Dev nD) (t : Fin cfg0.N) (d) : (dats m H 0 c).before 5 t d = iblk m c 5 t :=
  before0_5_of m (dats m H 0 c) (A_eq m H c 5) (after0_5 m H c) t d
theorem before0_6 (c : Dev nD) (t : Fin cfg0.N) (d) : (dats m H 0 c).before 6 t d = iblk m c 6 t :=
  before0_6_of m (dats m H 0 c) (A_eq m H c 6) (after0_6 m H c) t d
theorem before0_7 (c : Dev nD) (t : Fin cfg0.N) (d) : (dats m H 0 c).before 7 t d = iblk m c 7 t :=
  before0_7_of m (dats m H 0 c) (A_eq m H c 7) (after0_7 m H c) t d
theorem before0_8 (c : Dev nD) (t : Fin cfg0.N) (d) : (dats m H 0 c).before 8 t d = iblk m c 8 t :=
  before0_8_of m (dats m H 0 c) (A_eq m H c 8) (after0_8 m H c) t d
theorem before0_9 (c : Dev nD) (t : Fin cfg0.N) (d) : (dats m H 0 c).before 9 t d = iblk m c 9 t :=
  before0_9_of m (dats m H 0 c) (A_eq m H c 9) (after0_9 m H c) t d
theorem before0_10 (c : Dev nD) (t : Fin cfg0.N) (d) : (dats m H 0 c).before 10 t d = iblk m c 10 t :=
  before0_10_of m (dats m H 0 c) (A_eq m H c 10) (after0_10 m H c) t d
theorem before0_11 (c : Dev nD) (t : Fin cfg0.N) (d) : (dats m H 0 c).before 11 t d = iblk m c 11 t :=
  before0_11_of m (dats m H 0 c) (A_eq m H c 11) (after0_11 m H c) t d
theorem before0_12 (c : Dev nD) (t : Fin cfg0.N) (d) : (dats m H 0 c).before 12 t d = iblk m c 12 t :=
  before0_12_of m (dats m H 0 c) (A_eq m H c 12) (after0_12 m H c) t d

/-! ## The body obligation, at a generic point -/

/-- What the body is called with at point `t` (Lib/Pipeline.lean `BodyObligation`'s precondition, the windows one by one), -/
def bodyPre (c : Dev nD) (t : Fin cfg0.N) : sProp 𝕄 :=
  iprop((dats m H 0 c).Φ t.castSucc ∗ (dats m H 0 c).owesAt () t.castSucc
    ∗ (∃ d, owns (c : Thread nD τ) (ms0_0 t) fullShare ((dats m H 0 c).before 0 t d))
    ∗ (∃ d, owns (c : Thread nD τ) (ms0_1 t) fullShare ((dats m H 0 c).before 1 t d))
    ∗ (∃ d, owns (c : Thread nD τ) (ms0_2 t) fullShare ((dats m H 0 c).before 2 t d))
    ∗ (∃ d, owns (c : Thread nD τ) (ms0_3 t) fullShare ((dats m H 0 c).before 3 t d))
    ∗ (∃ d, owns (c : Thread nD τ) (ms0_4 t) fullShare ((dats m H 0 c).before 4 t d))
    ∗ (∃ d, owns (c : Thread nD τ) (ms0_5 t) fullShare ((dats m H 0 c).before 5 t d))
    ∗ (∃ d, owns (c : Thread nD τ) (ms0_6 t) fullShare ((dats m H 0 c).before 6 t d))
    ∗ (∃ d, owns (c : Thread nD τ) (ms0_7 t) fullShare ((dats m H 0 c).before 7 t d))
    ∗ (∃ d, owns (c : Thread nD τ) (ms0_8 t) fullShare ((dats m H 0 c).before 8 t d))
    ∗ (∃ d, owns (c : Thread nD τ) (ms0_9 t) fullShare ((dats m H 0 c).before 9 t d))
    ∗ (∃ d, owns (c : Thread nD τ) (ms0_10 t) fullShare ((dats m H 0 c).before 10 t d))
    ∗ (∃ d, owns (c : Thread nD τ) (ms0_11 t) fullShare ((dats m H 0 c).before 11 t d))
    ∗ (∃ d, owns (c : Thread nD τ) (ms0_12 t) fullShare ((dats m H 0 c).before 12 t d))
    ∗ (∃ d, owns (c : Thread nD τ) (ms0_13 t) fullShare ((dats m H 0 c).before 13 t d))
    ∗ (∃ d, owns (c : Thread nD τ) (ms0_14 t) fullShare ((dats m H 0 c).before 14 t d))
    ∗ (∃ d, owns (c : Thread nD τ) (ms0_15 t) fullShare ((dats m H 0 c).before 15 t d))
    ∗ (∃ Y, ⌜((dats m H 0 c).toRRel marked (Rl m H c)).Finds 16 t Y⌝ ∗ owns (c : Thread nD τ) (ms0_16 t) fullShare Y))

/-- and what it returns. -/
def bodyPost (c : Dev nD) (t : Fin cfg0.N) : sProp 𝕄 :=
  iprop((dats m H 0 c).Φ t.succ ∗ (dats m H 0 c).owesAt () t.succ
    ∗ owns (c : Thread nD τ) (ms0_0 t) fullShare ((dats m H 0 c).after 0 t)
    ∗ owns (c : Thread nD τ) (ms0_1 t) fullShare ((dats m H 0 c).after 1 t)
    ∗ owns (c : Thread nD τ) (ms0_2 t) fullShare ((dats m H 0 c).after 2 t)
    ∗ owns (c : Thread nD τ) (ms0_3 t) fullShare ((dats m H 0 c).after 3 t)
    ∗ owns (c : Thread nD τ) (ms0_4 t) fullShare ((dats m H 0 c).after 4 t)
    ∗ owns (c : Thread nD τ) (ms0_5 t) fullShare ((dats m H 0 c).after 5 t)
    ∗ owns (c : Thread nD τ) (ms0_6 t) fullShare ((dats m H 0 c).after 6 t)
    ∗ owns (c : Thread nD τ) (ms0_7 t) fullShare ((dats m H 0 c).after 7 t)
    ∗ owns (c : Thread nD τ) (ms0_8 t) fullShare ((dats m H 0 c).after 8 t)
    ∗ owns (c : Thread nD τ) (ms0_9 t) fullShare ((dats m H 0 c).after 9 t)
    ∗ owns (c : Thread nD τ) (ms0_10 t) fullShare ((dats m H 0 c).after 10 t)
    ∗ owns (c : Thread nD τ) (ms0_11 t) fullShare ((dats m H 0 c).after 11 t)
    ∗ owns (c : Thread nD τ) (ms0_12 t) fullShare ((dats m H 0 c).after 12 t)
    ∗ owns (c : Thread nD τ) (ms0_13 t) fullShare ((dats m H 0 c).after 13 t)
    ∗ owns (c : Thread nD τ) (ms0_14 t) fullShare ((dats m H 0 c).after 14 t)
    ∗ owns (c : Thread nD τ) (ms0_15 t) fullShare ((dats m H 0 c).after 15 t)
    ∗ (∃ X, ⌜Rl m H c 16 t X⌝ ∗ owns (c : Thread nD τ) (ms0_16 t) fullShare X))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m H c t ⊢ wp frame (wpE (defs₀ (F := F)) Variants.none c none) Set.univ (bodyAt0 t) (fun _ => bodyPost m H c t) := by
  unfold bodyPre bodyPost bodyAt0
  simp only [before0_0, before0_1, before0_2, before0_3, before0_4, before0_5, before0_6, before0_7, before0_8, before0_9, before0_10, before0_11, before0_12]
  rw [show (dats m H 0 c).Φ t.succ = (dats m H 0 c).Φ t.castSucc from rfl,
    show (dats m H 0 c).owesAt () t.succ = (dats m H 0 c).owesAt () t.castSucc from rfl,
    after0_0, after0_1, after0_2, after0_3, after0_4, after0_5, after0_6, after0_7, after0_8, after0_9, after0_10, after0_11, after0_12, after0_13, after0_14, after0_15]
  rw [show (dats m H 0 c).Φ t.castSucc = Pipeline.ΦA spec0 c from rfl, PhiA0_eq]
  unfold out0_13 out0_14 out0_15; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, -, H16⟩⟩
  iapply ((runAt m H c t).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, ⟨%e13, H13⟩, ⟨%e14, H14⟩, ⟨%e15, H15⟩, ⟨%e16, H16⟩, ⟨%fT0, HS0⟩, ⟨%fT1, HS1⟩, HS2, ⟨%fT3, HS3⟩, ⟨%fT4, HS4⟩, ⟨%fT5, HS5⟩⟩
  isplitl [HS0 HS1 HS2 HS3 HS4 HS5 Hg]
  · isplitl [HS0 HS1 HS2 HS3 HS4 HS5]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexact HS2
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover0_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  iexists _; isplitr
  swap
  · unfold owns; iexists _; isplitr
    swap; · iexact H16
    ipureintro; rfl
  ipureintro; exact ⟨_, rfl⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationRel (dats (F := F) m H 0 c) (defs₀ (F := F)) Variants.none () Set.univ marked (Rl m H c) := fun t => by
  rw [bigSep_W0, bigSep_W0, defs₀_row]
  exact triple_restated (sound_body m H c t) rfl .rfl fun _ => .rfl

set_option backward.isDefEq.respectTransparency.types false in
/-- The launch: every window's array and every other buffer as the proof data say, every semaphore counter at zero. -/
theorem run_main_quiescent : θ_run defs (onTc (τ := τ) (main (F := F))) (s₀ m ρ)
    (fun r => Pipeline.RDat.FramePost (cfgs 0) (fun c => (dats m H 0 c).toRRel marked (Rl m H c)) (V m) r ∧ r.2.sem = fun _ => 0) :=
  Pipeline.RDat.θ_run_frame (Q' := _) cfgs (0 : Fin 1) launch0 defs₀ Variants.none (fun c => (dats m H 0 c).toRRel marked (Rl m H c)) m ρ main
    (hbody := fun c => (body_obligation m H c).toRRel) (hshare := fun c => (dats m H 0 c).share_full fun _ => rfl)
    (howed := fun _ _ => rfl) (V := V m) (hmain := hmain m Variants.none) (hA := A_eq m H) (hΦ := fun _ _ => rfl)

/-- An input array of the launch ends as the region found it. -/
theorem in_end {r : PUnit × MemSt nD τ sig (Elt F)}
    (h : Pipeline.RDat.FramePost (cfgs 0) (fun c => (dats m H 0 c).toRRel marked (Rl m H c)) (V m) r) (c : Dev nD)
    (w : Fin cfg0.W) (hw : (cfg0.win w).isOut = false) :
    r.2.mem ((cfg0.spec w).arr.view.loc (c.tc : Thread nD τ)) = V m c (Pipeline.arrRef spec0 w) :=
  (show _ = _ from (congrFun (((dats m H 0 c).toRRel marked (Rl m H c)).ArrAt_in w hw _) _).mp ((h c).1 w)).trans (A_eq m H c w)

include H in
set_option maxHeartbeats 1020000 in
/-- Every argument array ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      (in_end m H h.1 c 10 rfl).trans (V_main_arg10 m c),
      (in_end m H h.1 c 11 rfl).trans (V_main_arg11 m c),
      (in_end m H h.1 c 12 rfl).trans (V_main_arg12 m c),
      (in_end m H h.1 c 1 rfl).trans (V_main_arg13 m c),
      (in_end m H h.1 c 2 rfl).trans (V_main_arg14 m c)⟩, h.2⟩) (run_main_quiescent m ρ H)

end Cert.Kernel.Proof
-- ==== Proof.KernelWords.lean ====
module

public import proofs.«01_k».proof.Proof.KernelBody
public import proofs.«01_k».proof.Proof.Gen.Pre_admissible
public import proofs.«01_k».proof.Defs
public import Idealize.ShloMosaic.Lib.ReduceAll
public import Idealize.ShloMosaic.Lib.Pipeline.ValueKit

@[expose] public section

set_option maxRecDepth 16384

noncomputable section

namespace Cert.Kernel.Proof

open Cert.Kernel Cert.Kernel.Gen
open Idealize.ShloMosaic Idealize.ShloMosaic.TcCoe Idealize.ShloMosaic.Tactic

variable {F : FTy → Type} [FloatOps F]

/-! ## The numbers the body reads name addresses in bounds -/

theorem divsi_one (v : BitVec 32) : Scalar.divsi v 1#32 = v := by
  have h : ¬ IntOp.SDivCorner v 1#32 := by simp [IntOp.SDivCorner]
  simp only [Scalar.divsi, IntOp.divsi, if_neg h, BitVec.sdiv_one]

theorem toNat_of_nonneg {v : BitVec 32} (h : 0 ≤ v.toInt) : (v.toNat : ℤ) = v.toInt := by
  have := v.isLt
  simp only [BitVec.toInt] at h ⊢
  split at h <;> split <;> omega

theorem trips_to (v : BitVec 32) : Scf.trips 0#32 v 1#32 = v.toInt.toNat := by
  have h1 : (1#32 : BitVec 32).toInt = 1 := rfl
  have h0 : (0#32 : BitVec 32).toInt = 0 := rfl
  simp only [Scf.trips, h1, h0]; congr 1; omega

theorem trips_self (v : BitVec 32) : Scf.trips v v 1#32 = 0 := by
  have h1 : (1#32 : BitVec 32).toInt = 1 := rfl
  simp only [Scf.trips, h1]; simp

theorem ok_to (v : BitVec 32) (hv : v.toInt ≤ 16) : Scf.OK 0#32 v 1#32 := by
  have h1 : (1#32 : BitVec 32).toInt = 1 := rfl
  have h0 : (0#32 : BitVec 32).toInt = 0 := rfl
  refine ⟨by rw [h1]; decide, ?_⟩
  rw [trips_to, h1, h0]; norm_num; omega

theorem ok_self (v : BitVec 32) (hv : v.toInt ≤ 16) : Scf.OK v v 1#32 := by
  have h1 : (1#32 : BitVec 32).toInt = 1 := rfl
  refine ⟨by rw [h1]; decide, ?_⟩
  rw [trips_self]; norm_num; omega

theorem loop_ub (v : BitVec 32) : Scalar.addi 0#32 (Scalar.muli (Scalar.divsi (Scalar.subi v 0#32) 1#32) 1#32) = v := by
  rw [divsi_one]; simp [Scalar.addi, Scalar.muli, Scalar.subi, IntOp.addi, IntOp.muli, IntOp.subi]
theorem loop_ub' (v : BitVec 32) : Scalar.addi 0#32 (Scalar.subi v 0#32) = v := by
  simp [Scalar.addi, Scalar.subi, IntOp.addi, IntOp.subi]

theorem trips_t2 (v : BitVec 32) : (k0_t2_loop v).trips = v.toInt.toNat := by
  show Scf.trips _ _ _ = _; rw [← trips_to]; congr 1; exact loop_ub v
theorem trips_t3 (v : BitVec 32) : (k0_t3_loop v).trips = 0 := by
  rw [← trips_self v]; show Scf.trips _ _ _ = _; congr 1; exacts [loop_ub v, loop_ub' v]
theorem trips_t5 (v : BitVec 32) : (k0_t5_loop v).trips = v.toInt.toNat := by
  show Scf.trips _ _ _ = _; rw [← trips_to]; congr 1; exact loop_ub v
theorem trips_t6 (v : BitVec 32) : (k0_t6_loop v).trips = 0 := by
  rw [← trips_self v]; show Scf.trips _ _ _ = _; congr 1; exacts [loop_ub v, loop_ub' v]

theorem iv_nat (k : ℕ) : Scf.iv 0#32 1#32 k = BitVec.ofNat 32 k := by simp [Scf.iv]

theorem iv_toNat {k : ℕ} (hk : k < 16) : (Scf.iv 0#32 1#32 k).toNat = k := by
  rw [iv_nat, BitVec.toNat_ofNat]; omega

theorem slot_toNat {k : ℕ} (hk : k < 16) :
    (Scalar.addi 1024#32 (Scalar.muli (Scf.iv 0#32 1#32 k) 8#32)).toNat = 1024 + 8 * k := by
  rw [iv_nat]
  simp only [Scalar.addi, Scalar.muli, IntOp.addi, IntOp.muli, BitVec.toNat_add, BitVec.toNat_mul, BitVec.toNat_ofNat]
  omega

theorem grp_toNat {w : BitVec 32} (hw : w.toNat < 128) : (Scalar.muli w 8#32).toNat = 8 * w.toNat := by
  simp only [Scalar.muli, IntOp.muli, BitVec.toNat_mul, BitVec.toNat_ofNat]
  omega

theorem chk2_of_lt (w : BitVec 32) (hw : w.toNat < 128) : k0_chk2 w := by
  have e := grp_toNat hw
  refine ⟨?_, ?_, ?_, ?_, ?_, ?_, ?_, ?_, ?_⟩
  · show 8 ∣ (Scalar.muli w 8#32).toNat
    rw [e]; exact ⟨_, rfl⟩
  · intro a; fin_cases a
    · show (Scalar.muli w 8#32).toNat + 8 ≤ 1024
      omega
    · show 0 + 128 ≤ 1024
      omega
  · intro a; fin_cases a
    · show (Scalar.muli w 8#32).toNat + 8 ≤ 1024
      omega
    · show 128 + 128 ≤ 1024
      omega
  · intro a; fin_cases a
    · show (Scalar.muli w 8#32).toNat + 8 ≤ 1024
      omega
    · show 256 + 128 ≤ 1024
      omega
  · intro a; fin_cases a
    · show (Scalar.muli w 8#32).toNat + 8 ≤ 1024
      omega
    · show 384 + 128 ≤ 1024
      omega
  · intro a; fin_cases a
    · show (Scalar.muli w 8#32).toNat + 8 ≤ 1024
      omega
    · show 512 + 128 ≤ 1024
      omega
  · intro a; fin_cases a
    · show (Scalar.muli w 8#32).toNat + 8 ≤ 1024
      omega
    · show 640 + 128 ≤ 1024
      omega
  · intro a; fin_cases a
    · show (Scalar.muli w 8#32).toNat + 8 ≤ 1024
      omega
    · show 768 + 128 ≤ 1024
      omega
  · intro a; fin_cases a
    · show (Scalar.muli w 8#32).toNat + 8 ≤ 1024
      omega
    · show 896 + 128 ≤ 1024
      omega
theorem chk3_of_lt (w : BitVec 32) (hw : w.toNat < 128) : k0_chk3 w := by
  have e := grp_toNat hw
  refine ⟨?_, ?_, ?_, ?_, ?_, ?_, ?_, ?_, ?_⟩
  · show 8 ∣ (Scalar.muli w 8#32).toNat
    rw [e]; exact ⟨_, rfl⟩
  · intro a; fin_cases a
    · show (Scalar.muli w 8#32).toNat + 8 ≤ 1024
      omega
    · show 0 + 128 ≤ 1024
      omega
  · intro a; fin_cases a
    · show (Scalar.muli w 8#32).toNat + 8 ≤ 1024
      omega
    · show 128 + 128 ≤ 1024
      omega
  · intro a; fin_cases a
    · show (Scalar.muli w 8#32).toNat + 8 ≤ 1024
      omega
    · show 256 + 128 ≤ 1024
      omega
  · intro a; fin_cases a
    · show (Scalar.muli w 8#32).toNat + 8 ≤ 1024
      omega
    · show 384 + 128 ≤ 1024
      omega
  · intro a; fin_cases a
    · show (Scalar.muli w 8#32).toNat + 8 ≤ 1024
      omega
    · show 512 + 128 ≤ 1024
      omega
  · intro a; fin_cases a
    · show (Scalar.muli w 8#32).toNat + 8 ≤ 1024
      omega
    · show 640 + 128 ≤ 1024
      omega
  · intro a; fin_cases a
    · show (Scalar.muli w 8#32).toNat + 8 ≤ 1024
      omega
    · show 768 + 128 ≤ 1024
      omega
  · intro a; fin_cases a
    · show (Scalar.muli w 8#32).toNat + 8 ≤ 1024
      omega
    · show 896 + 128 ≤ 1024
      omega
theorem chk5_of_lt (w : BitVec 32) (hw : w.toNat < 128) : k0_chk5 w := by
  have e := grp_toNat hw
  refine ⟨?_, ?_, ?_, ?_, ?_, ?_, ?_, ?_, ?_⟩
  · show 8 ∣ (Scalar.muli w 8#32).toNat
    rw [e]; exact ⟨_, rfl⟩
  · intro a; fin_cases a
    · show (Scalar.muli w 8#32).toNat + 8 ≤ 1024
      omega
    · show 0 + 128 ≤ 1024
      omega
  · intro a; fin_cases a
    · show (Scalar.muli w 8#32).toNat + 8 ≤ 1024
      omega
    · show 128 + 128 ≤ 1024
      omega
  · intro a; fin_cases a
    · show (Scalar.muli w 8#32).toNat + 8 ≤ 1024
      omega
    · show 256 + 128 ≤ 1024
      omega
  · intro a; fin_cases a
    · show (Scalar.muli w 8#32).toNat + 8 ≤ 1024
      omega
    · show 384 + 128 ≤ 1024
      omega
  · intro a; fin_cases a
    · show (Scalar.muli w 8#32).toNat + 8 ≤ 1024
      omega
    · show 512 + 128 ≤ 1024
      omega
  · intro a; fin_cases a
    · show (Scalar.muli w 8#32).toNat + 8 ≤ 1024
      omega
    · show 640 + 128 ≤ 1024
      omega
  · intro a; fin_cases a
    · show (Scalar.muli w 8#32).toNat + 8 ≤ 1024
      omega
    · show 768 + 128 ≤ 1024
      omega
  · intro a; fin_cases a
    · show (Scalar.muli w 8#32).toNat + 8 ≤ 1024
      omega
    · show 896 + 128 ≤ 1024
      omega
theorem chk6_of_lt (w : BitVec 32) (hw : w.toNat < 128) : k0_chk6 w := by
  have e := grp_toNat hw
  refine ⟨?_, ?_, ?_, ?_, ?_, ?_, ?_, ?_, ?_⟩
  · show 8 ∣ (Scalar.muli w 8#32).toNat
    rw [e]; exact ⟨_, rfl⟩
  · intro a; fin_cases a
    · show (Scalar.muli w 8#32).toNat + 8 ≤ 1024
      omega
    · show 0 + 128 ≤ 1024
      omega
  · intro a; fin_cases a
    · show (Scalar.muli w 8#32).toNat + 8 ≤ 1024
      omega
    · show 128 + 128 ≤ 1024
      omega
  · intro a; fin_cases a
    · show (Scalar.muli w 8#32).toNat + 8 ≤ 1024
      omega
    · show 256 + 128 ≤ 1024
      omega
  · intro a; fin_cases a
    · show (Scalar.muli w 8#32).toNat + 8 ≤ 1024
      omega
    · show 384 + 128 ≤ 1024
      omega
  · intro a; fin_cases a
    · show (Scalar.muli w 8#32).toNat + 8 ≤ 1024
      omega
    · show 512 + 128 ≤ 1024
      omega
  · intro a; fin_cases a
    · show (Scalar.muli w 8#32).toNat + 8 ≤ 1024
      omega
    · show 640 + 128 ≤ 1024
      omega
  · intro a; fin_cases a
    · show (Scalar.muli w 8#32).toNat + 8 ≤ 1024
      omega
    · show 768 + 128 ≤ 1024
      omega
  · intro a; fin_cases a
    · show (Scalar.muli w 8#32).toNat + 8 ≤ 1024
      omega
    · show 896 + 128 ≤ 1024
      omega

theorem chk1_of_le (i : grid0.Coords) (v : BitVec 32) (hv : v.toInt ≤ 16) : k0_chk1 i v := by
  have hb : (i 0).val < 2 := (i 0).isLt
  have hz : (Scalar.indexCast (BitVec.ofNat 32 (i 0).val)).toNat = (i 0).val := by
    simp only [Scalar.indexCast, BitVec.toNat_ofNat]; omega
  have hk : ∀ k : Fin (k0_t2_loop v).trips, (k : ℕ) < 16 := fun k => by
    have := k.isLt; have := trips_t2 v; omega
  refine ⟨?_, ?_, ?_, ?_, ?_, ?_, ?_, ?_, ?_, ?_⟩
  · have := ok_to v hv
    show Scf.OK _ _ _
    rw [show (k0_t2_loop v).ub = v from loop_ub v]; exact this
  · intro k a; fin_cases a
    · show (Scalar.indexCast (BitVec.ofNat 32 (i 0).val)).toNat + 1 ≤ 2
      omega
    · show (Scf.iv 0#32 1#32 (k : ℕ)).toNat + 1 ≤ 128
      have := hk k; rw [iv_toNat (hk k)]; omega
  · intro k
    show 8 ∣ (Scalar.addi 1024#32 (Scalar.muli (Scf.iv 0#32 1#32 (k : ℕ)) 8#32)).toNat
    rw [slot_toNat (hk k)]; omega
  · intro k a; have := hk k; have e := slot_toNat (hk k); fin_cases a
    · show 0 + 1 ≤ 1
      omega
    · show (Scalar.addi 1024#32 (Scalar.muli (Scf.iv 0#32 1#32 (k : ℕ)) 8#32)).toNat + 8 ≤ 1152
      omega
    · show 0 + 128 ≤ 128
      omega
  · intro k a; have := hk k; have e := slot_toNat (hk k); fin_cases a
    · show 0 + 1 ≤ 1
      omega
    · show 0 + 1 ≤ 2
      omega
    · show (Scalar.addi 1024#32 (Scalar.muli (Scf.iv 0#32 1#32 (k : ℕ)) 8#32)).toNat + 8 ≤ 1152
      omega
    · show 0 + 128 ≤ 128
      omega
  · show Scf.OK _ _ _
    rw [show (k0_t3_loop v).ub = v from loop_ub' v, show (k0_t3_loop v).lb = v from loop_ub v]; exact ok_self v hv
  · intro k; exact absurd k.isLt (by have := trips_t3 v; omega)
  · intro k; exact absurd k.isLt (by have := trips_t3 v; omega)
  · intro k; exact absurd k.isLt (by have := trips_t3 v; omega)
  · intro k; exact absurd k.isLt (by have := trips_t3 v; omega)

theorem chk4_of_le (i : grid0.Coords) (v : BitVec 32) (hv : v.toInt ≤ 16) : k0_chk4 i v := by
  have hb : (i 0).val < 2 := (i 0).isLt
  have hz : (Scalar.indexCast (BitVec.ofNat 32 (i 0).val)).toNat = (i 0).val := by
    simp only [Scalar.indexCast, BitVec.toNat_ofNat]; omega
  have hk : ∀ k : Fin (k0_t5_loop v).trips, (k : ℕ) < 16 := fun k => by
    have := k.isLt; have := trips_t5 v; omega
  refine ⟨?_, ?_, ?_, ?_, ?_, ?_, ?_, ?_, ?_, ?_⟩
  · have := ok_to v hv
    show Scf.OK _ _ _
    rw [show (k0_t5_loop v).ub = v from loop_ub v]; exact this
  · intro k a; fin_cases a
    · show (Scalar.indexCast (BitVec.ofNat 32 (i 0).val)).toNat + 1 ≤ 2
      omega
    · show (Scf.iv 0#32 1#32 (k : ℕ)).toNat + 1 ≤ 128
      have := hk k; rw [iv_toNat (hk k)]; omega
  · intro k
    show 8 ∣ (Scalar.addi 1024#32 (Scalar.muli (Scf.iv 0#32 1#32 (k : ℕ)) 8#32)).toNat
    rw [slot_toNat (hk k)]; omega
  · intro k a; have := hk k; have e := slot_toNat (hk k); fin_cases a
    · show 0 + 1 ≤ 1
      omega
    · show (Scalar.addi 1024#32 (Scalar.muli (Scf.iv 0#32 1#32 (k : ℕ)) 8#32)).toNat + 8 ≤ 1152
      omega
    · show 0 + 128 ≤ 128
      omega
  · intro k a; have := hk k; have e := slot_toNat (hk k); fin_cases a
    · show 0 + 1 ≤ 1
      omega
    · show 1 + 1 ≤ 2
      omega
    · show (Scalar.addi 1024#32 (Scalar.muli (Scf.iv 0#32 1#32 (k : ℕ)) 8#32)).toNat + 8 ≤ 1152
      omega
    · show 0 + 128 ≤ 128
      omega
  · show Scf.OK _ _ _
    rw [show (k0_t6_loop v).ub = v from loop_ub' v, show (k0_t6_loop v).lb = v from loop_ub v]; exact ok_self v hv
  · intro k; exact absurd k.isLt (by have := trips_t6 v; omega)
  · intro k; exact absurd k.isLt (by have := trips_t6 v; omega)
  · intro k; exact absurd k.isLt (by have := trips_t6 v; omega)
  · intro k; exact absurd k.isLt (by have := trips_t6 v; omega)

/-! ## What the precondition says of the two word arrays -/

/-- The precondition of given argument arrays, decoded: at most 16 extra groups, and the used ones name groups of 8 rows
    of the 1024 there are. -/
theorem words_of_pre (x0 x1 x2 x3 x4 x5 x6 x7 x8 x9 x10 x11 x12 x13 x14)
    (h : Cert.Pre_admissible.fn (F := F) x0 x1 x2 x3 x4 x5 x6 x7 x8 x9 x10 x11 x12 x13 x14 = fun _ => 1#1) (b : Fin 2) :
    (x14 (ix2 (n0 := 2) (n1 := 128) b 0)).toInt ≤ 16 ∧ ∀ k : Fin 128, (k : ℤ) < (x14 (ix2 (n0 := 2) (n1 := 128) b 0)).toInt →
      (x13 (ix2 (n0 := 2) (n1 := 128) b k)).toNat < 128 := by
  have andi_ofBool (p q : Bool) : IntOp.andi (BitVec.ofBool p) (BitVec.ofBool q) = BitVec.ofBool (p && q) := by
    cases p <;> cases q <;> decide
  have ori_ofBool (p q : Bool) : IntOp.ori (BitVec.ofBool p) (BitVec.ofBool q) = BitVec.ofBool (p || q) := by
    cases p <;> cases q <;> decide
  have not_ofBool (p : Bool) : ~~~ (BitVec.ofBool p) = BitVec.ofBool (!p) := by cases p <;> decide
  have ofBool_eq_one (p : Bool) : (BitVec.ofBool p = 1#1) ↔ p = true := by cases p <;> decide
  have and_one (p q : BitVec 1) : IntOp.andi p q = 1#1 → p = 1#1 ∧ q = 1#1 := by
    revert p q; decide
  have e := congrFun h ix0
  simp only [Cert.Pre_admissible.fn, Cert.Pre_admissible.fn_part1] at e
  have e1 := (and_one _ _ e).1
  haveI : Subsingleton (Cert.Pre_admissible.S_).Idx := ⟨fun a b => funext fun x => x.elim0⟩
  have key : ∀ k : Fin 128, _ := fun k => Host.reduce_andi_all _ _ _ _ _ e1 (ix2 (n0 := 2) (n1 := 128) b k)
  have dec : (x14 (ix2 (n0 := 2) (n1 := 128) b 0)).toInt ≤ 16 ∧ ∀ k : Fin 128, (k : ℤ) < (x14 (ix2 (n0 := 2) (n1 := 128) b 0)).toInt →
      0 ≤ (x13 (ix2 (n0 := 2) (n1 := 128) b k)).toInt ∧ (x13 (ix2 (n0 := 2) (n1 := 128) b k)).toInt < 128 := by
    refine ⟨?_, fun k hk => ?_⟩
    · have h := (and_one _ _ (key 0)).1
      change IntOp.cmpi .sle (x14 _) 16#32 = 1#1 at h
      simp only [IntOp.cmpi, ofBool_eq_one, BitVec.sle, decide_eq_true_eq] at h
      refine le_trans (le_of_eq ?_) h
      congr 2; funext a; fin_cases a <;> (apply Fin.ext; simp)
    · have h := (and_one _ _ (key k)).2
      change IntOp.ori (~~~ (IntOp.cmpi .slt (BitVec.ofNat 32 (k : ℕ)) (x14 _))) (IntOp.andi (IntOp.cmpi .sge (x13 _) 0#32) (IntOp.cmpi .slt (x13 _) 128#32)) = 1#1 at h
      simp only [IntOp.cmpi, not_ofBool, andi_ofBool, ori_ofBool, ofBool_eq_one, Bool.or_eq_true, Bool.and_eq_true, Bool.not_eq_true', decide_eq_true_eq, decide_eq_false_iff_not, BitVec.sle, BitVec.slt] at h
      rcases h with h | h
      · refine absurd ?_ h
        have e2 : (BitVec.ofNat 32 (k : ℕ)).toInt = (k : ℤ) := by
          have := k.isLt
          simp only [BitVec.toInt, BitVec.toNat_ofNat]
          rw [Nat.mod_eq_of_lt (by omega), if_pos (by omega)]
        rw [e2]
        refine lt_of_lt_of_eq hk ?_
        congr 2; funext a; fin_cases a <;> (apply Fin.ext; simp)
      · exact h
  refine ⟨dec.1, fun k hk => ?_⟩
  obtain ⟨h0, h1⟩ := dec.2 k hk
  have := toNat_of_nonneg h0
  omega

variable (m : (ℓ : Loc nD τ sig) → Buf (Elt F) ℓ)

theorem idx_words : ∀ t : Fin cfg0.N, win0_1.index t = ![0, 0] ∧ win0_2.index t = ![0, 0] :=
  (by decide +kernel : ∀ t : Fin grid0.N, _)

/-- The first word window holds its array whole. -/
theorem iblk_words (c : Dev nD) (t : Fin cfg0.N) (y : S2x128.Idx) : iblk m c 1 t y = m ((c : Thread nD τ).loc main_arg13) y := by
  blk_ext [iblk, V_main_arg13, idx_words t]
/-- The second word window holds its array whole. -/
theorem iblk_counts (c : Dev nD) (t : Fin cfg0.N) (y : S2x128.Idx) : iblk m c 2 t y = m ((c : Thread nD τ).loc main_arg14) y := by
  blk_ext [iblk, V_main_arg14, idx_words t]

/-- The words naming the extra groups, and their counts. -/
abbrev extW (c : Dev nD) : IVec S2x128 32 := m ((c : Thread nD τ).loc main_arg13)
abbrev cntW (c : Dev nD) : IVec S2x128 32 := m ((c : Thread nD τ).loc main_arg14)

/-- What the two word arrays must satisfy for the body's addresses to be in bounds. -/
def Words : Prop := ∀ (c : Dev nD) (b : Fin 2),
  (cntW m c (ix2 (n0 := 2) (n1 := 128) b 0)).toInt ≤ 16 ∧
  ∀ k : Fin 128, (k : ℤ) < (cntW m c (ix2 (n0 := 2) (n1 := 128) b 0)).toInt →
    (extW m c (ix2 (n0 := 2) (n1 := 128) b k)).toNat < 128

theorem word2_lt (c : Dev nD) (t : Fin cfg0.N) (v : BitVec 32) (hv : v.toInt ≤ 16)
    (hW : ∀ k : Fin 128, (k : ℤ) < v.toInt → (extW m c (ix2 (n0 := 2) (n1 := 128) (grid0.coords t 0) k)).toNat < 128)
    (hw : k0_chk1 (grid0.coords t) v) (k : Fin (k0_t2_loop v).trips) :
    (k0_word2 (F := F) (ms0_1 t) (grid0.coords t) v hw ((hs0_1 t).unread (iblk m c 1 t)) k : BitVec 32).toNat < 128 := by
  have hb : (grid0.coords t 0).val < 2 := (grid0.coords t 0).isLt
  have hz : (Scalar.indexCast (BitVec.ofNat 32 (grid0.coords t 0).val)).toNat = (grid0.coords t 0).val := by
    simp only [Scalar.indexCast, BitVec.toNat_ofNat]; omega
  have hk := k.isLt
  have ht := trips_t2 v
  have hk' : (k : ℕ) < 16 := by omega
  have hk2 : ((k : ℕ) : ℤ) < v.toInt := by omega
  simp only [View.readAt_apply, Memref.IsWhole.read_unread]
  rw [iblk_words]
  refine lt_of_eq_of_lt ?_ (hW ⟨k, by omega⟩ hk2)
  congr 2; funext a; fin_cases a <;> apply Fin.ext
  · show (Scalar.indexCast (BitVec.ofNat 32 (grid0.coords t 0).val)).toNat + 1 * 0 = _
    rw [hz]; rfl
  · show (Scf.iv 0#32 1#32 (k : ℕ)).toNat + 1 * 0 = (k : ℕ)
    rw [iv_toNat hk']; rfl

theorem word5_lt (c : Dev nD) (t : Fin cfg0.N) (v : BitVec 32) (hv : v.toInt ≤ 16)
    (hW : ∀ k : Fin 128, (k : ℤ) < v.toInt → (extW m c (ix2 (n0 := 2) (n1 := 128) (grid0.coords t 0) k)).toNat < 128)
    (hw : k0_chk4 (grid0.coords t) v) (k : Fin (k0_t5_loop v).trips) :
    (k0_word5 (F := F) (ms0_1 t) (grid0.coords t) v hw ((hs0_1 t).unread (iblk m c 1 t)) k : BitVec 32).toNat < 128 := by
  have hb : (grid0.coords t 0).val < 2 := (grid0.coords t 0).isLt
  have hz : (Scalar.indexCast (BitVec.ofNat 32 (grid0.coords t 0).val)).toNat = (grid0.coords t 0).val := by
    simp only [Scalar.indexCast, BitVec.toNat_ofNat]; omega
  have hk := k.isLt
  have ht := trips_t5 v
  have hk' : (k : ℕ) < 16 := by omega
  have hk2 : ((k : ℕ) : ℤ) < v.toInt := by omega
  simp only [View.readAt_apply, Memref.IsWhole.read_unread]
  rw [iblk_words]
  refine lt_of_eq_of_lt ?_ (hW ⟨k, by omega⟩ hk2)
  congr 2; funext a; fin_cases a <;> apply Fin.ext
  · show (Scalar.indexCast (BitVec.ofNat 32 (grid0.coords t 0).val)).toNat + 1 * 0 = _
    rw [hz]; rfl
  · show (Scf.iv 0#32 1#32 (k : ℕ)).toNat + 1 * 0 = (k : ℕ)
    rw [iv_toNat hk']; rfl

theorem hyps_of_words (hW : Words m) (c : Dev nD) (t : Fin cfg0.N) : Hyps m c t := by
  have hb : (grid0.coords t 0).val < 2 := (grid0.coords t 0).isLt
  have hz : (Scalar.indexCast (BitVec.ofNat 32 (grid0.coords t 0).val)).toNat = (grid0.coords t 0).val := by
    simp only [Scalar.indexCast, BitVec.toNat_ofNat]; omega
  have hW' := hW c (grid0.coords t 0)
  have n14 : k0_n14 (F := F) (ms0_2 t) (grid0.coords t) ((hs0_2 t).unread (iblk m c 2 t))
      = m ((c : Thread nD τ).loc main_arg14) (ix2 (n0 := 2) (n1 := 128) (grid0.coords t 0) 0) := by
    simp only [View.readAt_apply, Memref.IsWhole.read_unread]
    rw [iblk_counts]; congr 1; funext a; fin_cases a <;> apply Fin.ext
    · show (Scalar.indexCast (BitVec.ofNat 32 (grid0.coords t 0).val)).toNat + 1 * 0 = _
      rw [hz]; rfl
    · rfl
  have n48 : k0_n48 (F := F) (ms0_2 t) (grid0.coords t) ((hs0_2 t).unread (iblk m c 2 t))
      = m ((c : Thread nD τ).loc main_arg14) (ix2 (n0 := 2) (n1 := 128) (grid0.coords t 0) 0) := n14
  have w1 : k0_chk1 (grid0.coords t) (k0_n14 (F := F) (ms0_2 t) (grid0.coords t) ((hs0_2 t).unread (iblk m c 2 t))) := by
    rw [n14]; exact chk1_of_le _ _ hW'.1
  have w4 : k0_chk4 (grid0.coords t) (k0_n48 (F := F) (ms0_2 t) (grid0.coords t) ((hs0_2 t).unread (iblk m c 2 t))) := by
    rw [n48]; exact chk4_of_le _ _ hW'.1
  refine ⟨w1, w4, fun k => ?_, fun k => ?_, fun k => ?_, fun k => ?_⟩
  · exact chk2_of_lt _ (word2_lt m c t _ (by rw [n14]; exact hW'.1) (by rw [n14]; exact hW'.2) w1 k)
  · exact absurd k.isLt (by have := trips_t3 (k0_n14 (F := F) (ms0_2 t) (grid0.coords t) ((hs0_2 t).unread (iblk m c 2 t))); omega)
  · exact chk5_of_lt _ (word5_lt m c t _ (by rw [n48]; exact hW'.1) (by rw [n48]; exact hW'.2) w4 k)
  · exact absurd k.isLt (by have := trips_t6 (k0_n48 (F := F) (ms0_2 t) (grid0.coords t) ((hs0_2 t).unread (iblk m c 2 t))); omega)

/-- THE PRECONDITION IMPLIES WHAT THE BODY ASSUMES. -/
theorem hyps_of_pre (m : (ℓ : Loc nD τ sig) → Buf (Elt Bits) ℓ) (h : Cert.Pre_Kernel m) (c : Dev nD) (t : Fin cfg0.N) : Hyps m c t :=
  hyps_of_words m (fun c b => words_of_pre _ _ _ _ _ _ _ _ _ _ _ _ _ _ _ (h c) b) c t

end Cert.Kernel.Proof
-- ==== Proof.KernelIdealLoops.lean ====
module

public import proofs.«01_k».proof.Proof.Gen.KernelIdeal.Loops

@[expose] public section

set_option maxRecDepth 16384
set_option maxHeartbeats 4000000

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The group number trip `k` reads from the table of extra groups. -/
abbrev k0_word2 (arg3 : Memref sig .tc .smem S2x128 .i32) (i : grid0.Coords) (v826 : Elt F .i32) (k0_hw1 : k0_chk1 i v826) (X_arg3 : BufTy.Contents (Elt F) arg3.view.ty) (k : Fin (k0_t2_loop v826).trips) : Elt F .i32 :=
  View.readAt (Elt F) arg3.view (Rect.unit (s := S2x128) (k0_off15 i v826 k) S1x1.size (k0_off15_inb i v826 k0_hw1 k)).toLoadRect X_arg3 (Shape.Idx.first (numel1_S1x1.symm ▸ Nat.one_pos))

/-- One trip: what it reads stays, and what it writes into arg18 is a list of pieces. -/
@[irreducible] def trip_k0_t2 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t2_loop v826).trips, k0_chk2 (k0_word2 (F := F) arg3 i v826 k0_hw1 X_arg3 k)) (k : Fin (k0_t2_loop v826).trips) :
    { L_arg18 : List (View.Piece (Elt F) S1x2x1152x128 .f32) // ∀ (E : Set ℕ) (acc : BitVec 32) (f_arg18 : BufTy.Contents (Elt F) arg18.view.ty),
      (iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} f_arg18)) : sProp (MT nD τ sig Unit (Elt F) ℕ (UR sig nD τ) ℕ))
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 k acc)
          (fun _ => iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} (arg18.view.writes (Elt F) f_arg18 L_arg18)))) } := by
  have hw' := hwL k
  refine ⟨?_, fun E acc f_arg18 => ?run⟩
  case run =>
    unfold k0_t2_body
    iintro ⟨HR_arg3, HR_arg13, HR_arg14, HR_arg21, HW_arg18⟩
    sl_exec
    sl_step
    sl_close

/-- Trip `k`'s pieces in front of the pieces before it. -/
@[irreducible] def pb_k0_t2Step (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t2_loop v826).trips, k0_chk2 (k0_word2 (F := F) arg3 i v826 k0_hw1 X_arg3 k)) (k : ℕ) (prev : List (View.Piece (Elt F) S1x2x1152x128 .f32)) : List (View.Piece (Elt F) S1x2x1152x128 .f32) :=
  if h : k < (k0_t2_loop v826).trips then
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL ⟨k, h⟩).1 ++ prev
  else prev

/-- The pieces of the trips before `k`, last first. -/
def pb_k0_t2 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t2_loop v826).trips, k0_chk2 (k0_word2 (F := F) arg3 i v826 k0_hw1 X_arg3 k)) : ℕ → List (View.Piece (Elt F) S1x2x1152x128 .f32)
  | 0 => []
  | k + 1 => pb_k0_t2Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k)

theorem pb_k0_t2_succ (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t2_loop v826).trips, k0_chk2 (k0_word2 (F := F) arg3 i v826 k0_hw1 X_arg3 k)) (k : Fin (k0_t2_loop v826).trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL (k.val + 1)
      = (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k).1 ++ pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k.val := by
  rw [pb_k0_t2.eq_2]; unfold pb_k0_t2Step; exact dif_pos k.isLt

/-- Before trip `k`: the read buffers at their contents, arg18 with the pieces of the trips before
   `k` written over its contents at loop entry. -/
abbrev inv_k0_t2 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t2_loop v826).trips, k0_chk2 (k0_word2 (F := F) arg3 i v826 k0_hw1 X_arg3 k)) (G_arg18 : BufTy.Contents (Elt F) arg18.view.ty) (k : ℕ) (_u : BitVec 32) : sProp (MT nD τ sig Unit (Elt F) ℕ (UR sig nD τ) ℕ) :=
  iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (∃ f, (arg18.view.loc (c : Thread nD τ) ↦[arg18.view.set]{fullShare} f) ∗ ⌜f = arg18.view.writes (Elt F) G_arg18 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k)⌝))

set_option warn.classDefReducibility false in
/-- The loop by its invariant. -/
@[sl_loop] def loopInv_k0_t2 (𝒱 : Variants) (c : Dev nD) (bd : Option 𝒱.V) (E : Set ℕ) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (init : BitVec 32) (G_arg18 : BufTy.Contents (Elt F) arg18.view.ty) (hwL : ∀ k : Fin (k0_t2_loop v826).trips, k0_chk2 (k0_word2 (F := F) arg3 i v826 k0_hw1 X_arg3 k)) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 init where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL G_arg18
  step k acc := by
    iintro ⟨HR_arg3, HR_arg13, HR_arg14, HR_arg21, ⟨%f_arg18, HW_arg18, %h_arg18⟩⟩
    iapply (wp_wand_r Idealize.ShloMosaic.frame (wpE (defs₀ (F := F)) 𝒱 (c : Thread nD τ) bd) E)
    isplitl [HR_arg3 HR_arg13 HR_arg14 HR_arg21 HW_arg18]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X_arg3 X_arg13 X_arg14 X_arg21 hwL k).2 E acc f_arg18)
      isplitl [HR_arg3]; · iexact HR_arg3
      isplitl [HR_arg13]; · iexact HR_arg13
      isplitl [HR_arg14]; · iexact HR_arg14
      isplitl [HR_arg21]; · iexact HR_arg21
      iexact HW_arg18
    · iintro %_ ⟨HR_arg3, HR_arg13, HR_arg14, HR_arg21, HW_arg18⟩
      isplitl [HR_arg3]; · iexact HR_arg3
      isplitl [HR_arg13]; · iexact HR_arg13
      isplitl [HR_arg14]; · iexact HR_arg14
      isplitl [HR_arg21]; · iexact HR_arg21
      rw [pb_k0_t2_succ]
      iexists _; isplitl [HW_arg18]; · iexact HW_arg18
      ipureintro; rw [h_arg18, ← View.writes_append]

/-- The group number trip `k` reads from the table of extra groups. -/
abbrev k0_word3 (arg3 : Memref sig .tc .smem S2x128 .i32) (i : grid0.Coords) (v826 : Elt F .i32) (k0_hw1 : k0_chk1 i v826) (X_arg3 : BufTy.Contents (Elt F) arg3.view.ty) (k : Fin (k0_t3_loop v826).trips) : Elt F .i32 :=
  View.readAt (Elt F) arg3.view (Rect.unit (s := S2x128) (k0_off26 i v826 k) S1x1.size (k0_off26_inb i v826 k0_hw1 k)).toLoadRect X_arg3 (Shape.Idx.first (numel1_S1x1.symm ▸ Nat.one_pos))

/-- One trip: what it reads stays, and what it writes into arg18 is a list of pieces. -/
@[irreducible] def trip_k0_t3 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t3_loop v826).trips, k0_chk3 (k0_word3 (F := F) arg3 i v826 k0_hw1 X_arg3 k)) (k : Fin (k0_t3_loop v826).trips) :
    { L_arg18 : List (View.Piece (Elt F) S1x2x1152x128 .f32) // ∀ (E : Set ℕ) (acc : BitVec 32) (f_arg18 : BufTy.Contents (Elt F) arg18.view.ty),
      (iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} f_arg18)) : sProp (MT nD τ sig Unit (Elt F) ℕ (UR sig nD τ) ℕ))
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 k acc)
          (fun _ => iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} (arg18.view.writes (Elt F) f_arg18 L_arg18)))) } := by
  have hw' := hwL k
  refine ⟨?_, fun E acc f_arg18 => ?run⟩
  case run =>
    unfold k0_t3_body
    iintro ⟨HR_arg3, HR_arg13, HR_arg14, HR_arg21, HW_arg18⟩
    sl_exec
    sl_step
    sl_close

/-- Trip `k`'s pieces in front of the pieces before it. -/
@[irreducible] def pb_k0_t3Step (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t3_loop v826).trips, k0_chk3 (k0_word3 (F := F) arg3 i v826 k0_hw1 X_arg3 k)) (k : ℕ) (prev : List (View.Piece (Elt F) S1x2x1152x128 .f32)) : List (View.Piece (Elt F) S1x2x1152x128 .f32) :=
  if h : k < (k0_t3_loop v826).trips then
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL ⟨k, h⟩).1 ++ prev
  else prev

/-- The pieces of the trips before `k`, last first. -/
def pb_k0_t3 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t3_loop v826).trips, k0_chk3 (k0_word3 (F := F) arg3 i v826 k0_hw1 X_arg3 k)) : ℕ → List (View.Piece (Elt F) S1x2x1152x128 .f32)
  | 0 => []
  | k + 1 => pb_k0_t3Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k (pb_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k)

theorem pb_k0_t3_succ (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t3_loop v826).trips, k0_chk3 (k0_word3 (F := F) arg3 i v826 k0_hw1 X_arg3 k)) (k : Fin (k0_t3_loop v826).trips) :
    pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL (k.val + 1)
      = (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k).1 ++ pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k.val := by
  rw [pb_k0_t3.eq_2]; unfold pb_k0_t3Step; exact dif_pos k.isLt

/-- Before trip `k`: the read buffers at their contents, arg18 with the pieces of the trips before
   `k` written over its contents at loop entry. -/
abbrev inv_k0_t3 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t3_loop v826).trips, k0_chk3 (k0_word3 (F := F) arg3 i v826 k0_hw1 X_arg3 k)) (G_arg18 : BufTy.Contents (Elt F) arg18.view.ty) (k : ℕ) (_u : BitVec 32) : sProp (MT nD τ sig Unit (Elt F) ℕ (UR sig nD τ) ℕ) :=
  iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (∃ f, (arg18.view.loc (c : Thread nD τ) ↦[arg18.view.set]{fullShare} f) ∗ ⌜f = arg18.view.writes (Elt F) G_arg18 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k)⌝))

set_option warn.classDefReducibility false in
/-- The loop by its invariant. -/
@[sl_loop] def loopInv_k0_t3 (𝒱 : Variants) (c : Dev nD) (bd : Option 𝒱.V) (E : Set ℕ) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt F .f32) (v815 : FVec F S128x256 .f32) (v817 : FVec F S128x256 .f32) (v826 : Elt F .i32) (k0_hw1 : k0_chk1 i v826) (v831 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (init : BitVec 32) (G_arg18 : BufTy.Contents (Elt F) arg18.view.ty) (hwL : ∀ k : Fin (k0_t3_loop v826).trips, k0_chk3 (k0_word3 (F := F) arg3 i v826 k0_hw1 X_arg3 k)) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 init where
  inv := inv_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL G_arg18
  step k acc := by
    iintro ⟨HR_arg3, HR_arg13, HR_arg14, HR_arg21, ⟨%f_arg18, HW_arg18, %h_arg18⟩⟩
    iapply (wp_wand_r Idealize.ShloMosaic.frame (wpE (defs₀ (F := F)) 𝒱 (c : Thread nD τ) bd) E)
    isplitl [HR_arg3 HR_arg13 HR_arg14 HR_arg21 HW_arg18]
    · iapply ((trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 v831 X_arg3 X_arg13 X_arg14 X_arg21 hwL k).2 E acc f_arg18)
      isplitl [HR_arg3]; · iexact HR_arg3
      isplitl [HR_arg13]; · iexact HR_arg13
      isplitl [HR_arg14]; · iexact HR_arg14
      isplitl [HR_arg21]; · iexact HR_arg21
      iexact HW_arg18
    · iintro %_ ⟨HR_arg3, HR_arg13, HR_arg14, HR_arg21, HW_arg18⟩
      isplitl [HR_arg3]; · iexact HR_arg3
      isplitl [HR_arg13]; · iexact HR_arg13
      isplitl [HR_arg14]; · iexact HR_arg14
      isplitl [HR_arg21]; · iexact HR_arg21
      rw [pb_k0_t3_succ]
      iexists _; isplitl [HW_arg18]; · iexact HW_arg18
      ipureintro; rw [h_arg18, ← View.writes_append]

/-- The group number trip `k` reads from the table of extra groups. -/
abbrev k0_word5 (arg3 : Memref sig .tc .smem S2x128 .i32) (i : grid0.Coords) (v1678 : Elt F .i32) (k0_hw4 : k0_chk4 i v1678) (X_arg3 : BufTy.Contents (Elt F) arg3.view.ty) (k : Fin (k0_t5_loop v1678).trips) : Elt F .i32 :=
  View.readAt (Elt F) arg3.view (Rect.unit (s := S2x128) (k0_off49 i v1678 k) S1x1.size (k0_off49_inb i v1678 k0_hw4 k)).toLoadRect X_arg3 (Shape.Idx.first (numel1_S1x1.symm ▸ Nat.one_pos))

/-- One trip: what it reads stays, and what it writes into arg18 is a list of pieces. -/
@[irreducible] def trip_k0_t5 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t5_loop v1678).trips, k0_chk5 (k0_word5 (F := F) arg3 i v1678 k0_hw4 X_arg3 k)) (k : Fin (k0_t5_loop v1678).trips) :
    { L_arg18 : List (View.Piece (Elt F) S1x2x1152x128 .f32) // ∀ (E : Set ℕ) (acc : BitVec 32) (f_arg18 : BufTy.Contents (Elt F) arg18.view.ty),
      (iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} f_arg18)) : sProp (MT nD τ sig Unit (Elt F) ℕ (UR sig nD τ) ℕ))
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 k acc)
          (fun _ => iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} (arg18.view.writes (Elt F) f_arg18 L_arg18)))) } := by
  have hw' := hwL k
  refine ⟨?_, fun E acc f_arg18 => ?run⟩
  case run =>
    unfold k0_t5_body
    iintro ⟨HR_arg3, HR_arg13, HR_arg14, HR_arg21, HW_arg18⟩
    sl_exec
    sl_step
    sl_close

/-- Trip `k`'s pieces in front of the pieces before it. -/
@[irreducible] def pb_k0_t5Step (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t5_loop v1678).trips, k0_chk5 (k0_word5 (F := F) arg3 i v1678 k0_hw4 X_arg3 k)) (k : ℕ) (prev : List (View.Piece (Elt F) S1x2x1152x128 .f32)) : List (View.Piece (Elt F) S1x2x1152x128 .f32) :=
  if h : k < (k0_t5_loop v1678).trips then
    (trip_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL ⟨k, h⟩).1 ++ prev
  else prev

/-- The pieces of the trips before `k`, last first. -/
def pb_k0_t5 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t5_loop v1678).trips, k0_chk5 (k0_word5 (F := F) arg3 i v1678 k0_hw4 X_arg3 k)) : ℕ → List (View.Piece (Elt F) S1x2x1152x128 .f32)
  | 0 => []
  | k + 1 => pb_k0_t5Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k (pb_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k)

theorem pb_k0_t5_succ (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t5_loop v1678).trips, k0_chk5 (k0_word5 (F := F) arg3 i v1678 k0_hw4 X_arg3 k)) (k : Fin (k0_t5_loop v1678).trips) :
    pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL (k.val + 1)
      = (trip_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k).1 ++ pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k.val := by
  rw [pb_k0_t5.eq_2]; unfold pb_k0_t5Step; exact dif_pos k.isLt

/-- Before trip `k`: the read buffers at their contents, arg18 with the pieces of the trips before
   `k` written over its contents at loop entry. -/
abbrev inv_k0_t5 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t5_loop v1678).trips, k0_chk5 (k0_word5 (F := F) arg3 i v1678 k0_hw4 X_arg3 k)) (G_arg18 : BufTy.Contents (Elt F) arg18.view.ty) (k : ℕ) (_u : BitVec 32) : sProp (MT nD τ sig Unit (Elt F) ℕ (UR sig nD τ) ℕ) :=
  iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (∃ f, (arg18.view.loc (c : Thread nD τ) ↦[arg18.view.set]{fullShare} f) ∗ ⌜f = arg18.view.writes (Elt F) G_arg18 (pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k)⌝))

set_option warn.classDefReducibility false in
/-- The loop by its invariant. -/
@[sl_loop] def loopInv_k0_t5 (𝒱 : Variants) (c : Dev nD) (bd : Option 𝒱.V) (E : Set ℕ) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (init : BitVec 32) (G_arg18 : BufTy.Contents (Elt F) arg18.view.ty) (hwL : ∀ k : Fin (k0_t5_loop v1678).trips, k0_chk5 (k0_word5 (F := F) arg3 i v1678 k0_hw4 X_arg3 k)) :
    LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 init where
  inv := inv_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL G_arg18
  step k acc := by
    iintro ⟨HR_arg3, HR_arg13, HR_arg14, HR_arg21, ⟨%f_arg18, HW_arg18, %h_arg18⟩⟩
    iapply (wp_wand_r Idealize.ShloMosaic.frame (wpE (defs₀ (F := F)) 𝒱 (c : Thread nD τ) bd) E)
    isplitl [HR_arg3 HR_arg13 HR_arg14 HR_arg21 HW_arg18]
    · iapply ((trip_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X_arg3 X_arg13 X_arg14 X_arg21 hwL k).2 E acc f_arg18)
      isplitl [HR_arg3]; · iexact HR_arg3
      isplitl [HR_arg13]; · iexact HR_arg13
      isplitl [HR_arg14]; · iexact HR_arg14
      isplitl [HR_arg21]; · iexact HR_arg21
      iexact HW_arg18
    · iintro %_ ⟨HR_arg3, HR_arg13, HR_arg14, HR_arg21, HW_arg18⟩
      isplitl [HR_arg3]; · iexact HR_arg3
      isplitl [HR_arg13]; · iexact HR_arg13
      isplitl [HR_arg14]; · iexact HR_arg14
      isplitl [HR_arg21]; · iexact HR_arg21
      rw [pb_k0_t5_succ]
      iexists _; isplitl [HW_arg18]; · iexact HW_arg18
      ipureintro; rw [h_arg18, ← View.writes_append]

/-- The group number trip `k` reads from the table of extra groups. -/
abbrev k0_word6 (arg3 : Memref sig .tc .smem S2x128 .i32) (i : grid0.Coords) (v1678 : Elt F .i32) (k0_hw4 : k0_chk4 i v1678) (X_arg3 : BufTy.Contents (Elt F) arg3.view.ty) (k : Fin (k0_t6_loop v1678).trips) : Elt F .i32 :=
  View.readAt (Elt F) arg3.view (Rect.unit (s := S2x128) (k0_off60 i v1678 k) S1x1.size (k0_off60_inb i v1678 k0_hw4 k)).toLoadRect X_arg3 (Shape.Idx.first (numel1_S1x1.symm ▸ Nat.one_pos))

/-- One trip: what it reads stays, and what it writes into arg18 is a list of pieces. -/
@[irreducible] def trip_k0_t6 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t6_loop v1678).trips, k0_chk6 (k0_word6 (F := F) arg3 i v1678 k0_hw4 X_arg3 k)) (k : Fin (k0_t6_loop v1678).trips) :
    { L_arg18 : List (View.Piece (Elt F) S1x2x1152x128 .f32) // ∀ (E : Set ℕ) (acc : BitVec 32) (f_arg18 : BufTy.Contents (Elt F) arg18.view.ty),
      (iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} f_arg18)) : sProp (MT nD τ sig Unit (Elt F) ℕ (UR sig nD τ) ℕ))
      ⊢ wp frame (wpE (defs₀ (F := F)) 𝒱 (c : Thread nD τ) bd) E (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 k acc)
          (fun _ => iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (arg18.view.loc (c : Thread nD τ) ↦[arg18.view.set]{fullShare} (arg18.view.writes (Elt F) f_arg18 L_arg18)))) } := by
  have hw' := hwL k
  refine ⟨?_, fun E acc f_arg18 => ?run⟩
  case run =>
    unfold k0_t6_body
    iintro ⟨HR_arg3, HR_arg13, HR_arg14, HR_arg21, HW_arg18⟩
    sl_exec
    sl_step
    sl_close

/-- Trip `k`'s pieces in front of the pieces before it. -/
@[irreducible] def pb_k0_t6Step (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t6_loop v1678).trips, k0_chk6 (k0_word6 (F := F) arg3 i v1678 k0_hw4 X_arg3 k)) (k : ℕ) (prev : List (View.Piece (Elt F) S1x2x1152x128 .f32)) : List (View.Piece (Elt F) S1x2x1152x128 .f32) :=
  if h : k < (k0_t6_loop v1678).trips then
    (trip_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL ⟨k, h⟩).1 ++ prev
  else prev

/-- The pieces of the trips before `k`, last first. -/
def pb_k0_t6 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t6_loop v1678).trips, k0_chk6 (k0_word6 (F := F) arg3 i v1678 k0_hw4 X_arg3 k)) : ℕ → List (View.Piece (Elt F) S1x2x1152x128 .f32)
  | 0 => []
  | k + 1 => pb_k0_t6Step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k (pb_k0_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k)

theorem pb_k0_t6_succ (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t6_loop v1678).trips, k0_chk6 (k0_word6 (F := F) arg3 i v1678 k0_hw4 X_arg3 k)) (k : Fin (k0_t6_loop v1678).trips) :
    pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL (k.val + 1)
      = (trip_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k).1 ++ pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k.val := by
  rw [pb_k0_t6.eq_2]; unfold pb_k0_t6Step; exact dif_pos k.isLt

/-- Before trip `k`: the read buffers at their contents, arg18 with the pieces of the trips before
   `k` written over its contents at loop entry. -/
abbrev inv_k0_t6 (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (hwL : ∀ k : Fin (k0_t6_loop v1678).trips, k0_chk6 (k0_word6 (F := F) arg3 i v1678 k0_hw4 X_arg3 k)) (G_arg18 : BufTy.Contents (Elt F) arg18.view.ty) (k : ℕ) (_u : BitVec 32) : sProp (MT nD τ sig Unit (Elt F) ℕ (UR sig nD τ) ℕ) :=
  iprop((arg3.view.loc (c : Thread nD τ) ↦[arg3.view.set]{fullShare} X_arg3) ∗ (arg13.view.loc (c : Thread nD τ) ↦[arg13.view.set]{fullShare} X_arg13) ∗ (arg14.view.loc (c : Thread nD τ) ↦[arg14.view.set]{fullShare} X_arg14) ∗ (arg21.view.loc (c : Thread nD τ) ↦[arg21.view.set]{fullShare} X_arg21) ∗ (∃ f, (arg18.view.loc (c : Thread nD τ) ↦[arg18.view.set]{fullShare} f) ∗ ⌜f = arg18.view.writes (Elt F) G_arg18 (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k)⌝))

set_option warn.classDefReducibility false in
/-- The loop by its invariant. -/
@[sl_loop] def loopInv_k0_t6 (𝒱 : Variants) (c : Dev nD) (bd : Option 𝒱.V) (E : Set ℕ) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (v1678 : Elt F .i32) (k0_hw4 : k0_chk4 i v1678) (v1683 : BitVec 32) (X_arg3 : BufTy.Contents (Elt F) arg3.view.ty) (X_arg13 : BufTy.Contents (Elt F) arg13.view.ty) (X_arg14 : BufTy.Contents (Elt F) arg14.view.ty) (X_arg21 : BufTy.Contents (Elt F) arg21.view.ty) (init : BitVec 32) (G_arg18 : BufTy.Contents (Elt F) arg18.view.ty) (hwL : ∀ k : Fin (k0_t6_loop v1678).trips, k0_chk6 (k0_word6 (F := F) arg3 i v1678 k0_hw4 X_arg3 k)) :
    LoopInvTy_k0_t6 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 init where
  inv := inv_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL G_arg18
  step k acc := by
    iintro ⟨HR_arg3, HR_arg13, HR_arg14, HR_arg21, ⟨%f_arg18, HW_arg18, %h_arg18⟩⟩
    iapply (wp_wand_r Idealize.ShloMosaic.frame (wpE (defs₀ (F := F)) 𝒱 (c : Thread nD τ) bd) E)
    isplitl [HR_arg3 HR_arg13 HR_arg14 HR_arg21 HW_arg18]
    · iapply ((trip_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 v1683 X_arg3 X_arg13 X_arg14 X_arg21 hwL k).2 E acc f_arg18)
      isplitl [HR_arg3]; · iexact HR_arg3
      isplitl [HR_arg13]; · iexact HR_arg13
      isplitl [HR_arg14]; · iexact HR_arg14
      isplitl [HR_arg21]; · iexact HR_arg21
      iexact HW_arg18
    · iintro %_ ⟨HR_arg3, HR_arg13, HR_arg14, HR_arg21, HW_arg18⟩
      isplitl [HR_arg3]; · iexact HR_arg3
      isplitl [HR_arg13]; · iexact HR_arg13
      isplitl [HR_arg14]; · iexact HR_arg14
      isplitl [HR_arg21]; · iexact HR_arg21
      rw [pb_k0_t6_succ]
      iexists _; isplitl [HW_arg18]; · iexact HW_arg18
      ipureintro; rw [h_arg18, ← View.writes_append]

end Cert.KernelIdeal.Proof
-- ==== Proof.KernelIdealRun.lean ====
module

public import proofs.«01_k».proof.Proof.KernelIdealLoops
public import proofs.«01_k».proof.Proof.Gen.KernelIdeal.Frame
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The number of extra groups, as the body reads it. -/
abbrev k0_n14 (arg4 : Memref sig .tc .smem S2x128 .i32) (i : grid0.Coords) (X_arg4 : BufTy.Contents (Elt F) arg4.view.ty) : Elt F .i32 :=
  View.readAt (Elt F) arg4.view (Rect.unit (s := S2x128) (k0_off14 i) S1x1.size (k0_off14_inb i)).toLoadRect X_arg4 (Shape.Idx.first (numel1_S1x1.symm ▸ Nat.one_pos))

/-- The number of extra groups, as the body reads it. -/
abbrev k0_n48 (arg4 : Memref sig .tc .smem S2x128 .i32) (i : grid0.Coords) (X_arg4 : BufTy.Contents (Elt F) arg4.view.ty) : Elt F .i32 :=
  View.readAt (Elt F) arg4.view (Rect.unit (s := S2x128) (k0_off48 i) S1x1.size (k0_off48_inb i)).toLoadRect X_arg4 (Shape.Idx.first (numel1_S1x1.symm ▸ Nat.one_pos))

-- (the run's proof term is large: the definition's epilogue — `abstractNestedProofs` — walks it past the default budget)
set_option maxHeartbeats 3028000 in
/-- What the body leaves in each output buffer, as pieces (last first), with the proof that the body runs
    to the continuation holding the inputs as they were and each output with its pieces written. -/
noncomputable def kernelRun (c : Dev nD) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole)
    (x0 : Vec F S3x2x32 .f32) (x1 : Vec F S2x128 .i32) (x2 : Vec F S2x128 .i32) (x3 : Vec F S1x2x1024x128 .fp8e4m3) (x4 : Vec F S1x2x1024x128 .fp8e5m2) (x5 : Vec F S1x2x1024x128 .bf16) (x6 : Vec F S1x1x1024x128 .fp8e4m3) (x7 : Vec F S1x1x1024x128 .fp8e4m3) (x8 : Vec F S1x2x1x1024 .f32) (x9 : Vec F S1x1024x128 .f32) (x10 : Vec F S1x1024x1024 .f32) (x11 : Vec F S1x1152x128 .i32) (x12 : Vec F S1x1152x128 .f32)
    (hw1 : k0_chk1 i (k0_n14 (F := F) arg4 i (harg4.unread x2))) (hw4 : k0_chk4 i (k0_n48 (F := F) arg4 i (harg4.unread x2)))
    (hw2 : ∀ k, k0_chk2 (k0_word2 (F := F) arg3 i (k0_n14 (F := F) arg4 i (harg4.unread x2)) hw1 (harg3.unread x1) k))
    (hw3 : ∀ k, k0_chk3 (k0_word3 (F := F) arg3 i (k0_n14 (F := F) arg4 i (harg4.unread x2)) hw1 (harg3.unread x1) k))
    (hw5 : ∀ k, k0_chk5 (k0_word5 (F := F) arg3 i (k0_n48 (F := F) arg4 i (harg4.unread x2)) hw4 (harg3.unread x1) k))
    (hw6 : ∀ k, k0_chk6 (k0_word6 (F := F) arg3 i (k0_n48 (F := F) arg4 i (harg4.unread x2)) hw4 (harg3.unread x1) k)) :
    Σ' (L13 : List (View.Piece (Elt F) S1x2x1024x128 .bf16)), Σ' (L14 : List (View.Piece (Elt F) S1x1x1024x128 .bf16)), Σ' (L15 : List (View.Piece (Elt F) S1x1x1024x128 .bf16)), Σ' (L16 : List (View.Piece (Elt F) S1x2x1152x128 .f32)), Σ' (LT0 : List (View.Piece (Elt F) S1024x1024 .bf16)), Σ' (LT1 : List (View.Piece (Elt F) S1024x1024 .bf16)), Σ' (LT3 : List (View.Piece (Elt F) S2x1024x128 .f32)), Σ' (LT4 : List (View.Piece (Elt F) S128x1024 .f32)), { LT5 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LT0) ∗ (∃ f, arg20.view.loc (c : Thread nD τ) ↦[arg20.view.set]{fullShare} arg20.view.writes (Elt F) f LT1) ∗ (∃ d, owns (c : Thread nD τ) arg21 fullShare d) ∗ (∃ f, arg22.view.loc (c : Thread nD τ) ↦[arg22.view.set]{fullShare} arg22.view.writes (Elt F) f LT3) ∗ (∃ f, arg23.view.loc (c : Thread nD τ) ↦[arg23.view.set]{fullShare} arg23.view.writes (Elt F) f LT4) ∗ (∃ f, arg24.view.loc (c : Thread nD τ) ↦[arg24.view.set]{fullShare} arg24.view.writes (Elt F) f LT5)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, fun E K => ?run⟩
  case run =>
    simp only [cc0_attn_eq_skeleton]; unfold cc0_attn_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexists _; iexact HS1
    isplitl [HS2]
    · iexists _, _; isplitr; swap; · iexact HS2
      ipureintro; rfl
    isplitl [HS3]; · iexists _; iexact HS3
    isplitl [HS4]; · iexists _; iexact HS4
    iexists _; iexact HS5

end Cert.KernelIdeal.Proof
-- ==== Proof.KernelIdealBody.lean ====
module

public import proofs.«01_k».proof.Proof.KernelIdealRun
public import proofs.«01_k».proof.Proof.Gen.KernelIdeal.Frame
public import proofs.«01_k».proof.Proof.Gen.KernelIdeal.Points
public import Idealize.ShloMosaic.Lib.Pipeline.FrameBody
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of output window 13, through which its contents are stated (`View.read_writes_of_cover`: the
    choice does not matter). -/
abbrev VO0_13 : View sig .tc .vmem S1x2x1024x128 .bf16 := (Memref.whole cc0_stg13_0 : Memref sig .tc .vmem S1x2x1024x128 .bf16).view
/-- One staging buffer of output window 14, through which its contents are stated (`View.read_writes_of_cover`: the
    choice does not matter). -/
abbrev VO0_14 : View sig .tc .vmem S1x1x1024x128 .bf16 := (Memref.whole cc0_stg14_0 : Memref sig .tc .vmem S1x1x1024x128 .bf16).view
/-- One staging buffer of output window 15, through which its contents are stated (`View.read_writes_of_cover`: the
    choice does not matter). -/
abbrev VO0_15 : View sig .tc .vmem S1x1x1024x128 .bf16 := (Memref.whole cc0_stg15_0 : Memref sig .tc .vmem S1x1x1024x128 .bf16).view
/-- One staging buffer of output window 16, through which its contents are stated (`View.read_writes_of_cover`: the
    choice does not matter). -/
abbrev VO0_16 : View sig .tc .vmem S1x2x1152x128 .f32 := (Memref.whole cc0_stg16_0 : Memref sig .tc .vmem S1x2x1152x128 .f32).view
/-- Each window's current staging memref at point `t`, spelled as the pipeline passes it (`bodyAt0`), and its wholeness. -/
abbrev ms0_0 (t : Fin cfg0.N) : Memref sig .tc .smem S3x2x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S2x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x1024x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x1024x128 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1152x128 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1152x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2x1024x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x1024x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x1024x128 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x2x1152x128 .f32 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .f32 := Memref.whole cc0_scratch2
abbrev scM0_3 : Memref sig .tc .vmem S2x1024x128 .f32 := Memref.whole cc0_scratch3
abbrev scM0_4 : Memref sig .tc .vmem S128x1024 .f32 := Memref.whole cc0_scratch4
abbrev scM0_5 : Memref sig .tc .vmem S128x1024 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The body's stores into output 13 tile its block. -/
theorem cover0_13 (c : Dev nD) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole)
    (x0 : Vec F S3x2x32 .f32) (x1 : Vec F S2x128 .i32) (x2 : Vec F S2x128 .i32) (x3 : Vec F S1x2x1024x128 .fp8e4m3) (x4 : Vec F S1x2x1024x128 .fp8e5m2) (x5 : Vec F S1x2x1024x128 .bf16) (x6 : Vec F S1x1x1024x128 .fp8e4m3) (x7 : Vec F S1x1x1024x128 .fp8e4m3) (x8 : Vec F S1x2x1x1024 .f32) (x9 : Vec F S1x1024x128 .f32) (x10 : Vec F S1x1024x1024 .f32) (x11 : Vec F S1x1152x128 .i32) (x12 : Vec F S1x1152x128 .f32)
    (hw1 : k0_chk1 i (k0_n14 (F := F) arg4 i (harg4.unread x2))) (hw4 : k0_chk4 i (k0_n48 (F := F) arg4 i (harg4.unread x2)))
    (hw2 : ∀ k, k0_chk2 (k0_word2 (F := F) arg3 i (k0_n14 (F := F) arg4 i (harg4.unread x2)) hw1 (harg3.unread x1) k))
    (hw3 : ∀ k, k0_chk3 (k0_word3 (F := F) arg3 i (k0_n14 (F := F) arg4 i (harg4.unread x2)) hw1 (harg3.unread x1) k))
    (hw5 : ∀ k, k0_chk5 (k0_word5 (F := F) arg3 i (k0_n48 (F := F) arg4 i (harg4.unread x2)) hw4 (harg3.unread x1) k))
    (hw6 : ∀ k, k0_chk6 (k0_word6 (F := F) arg3 i (k0_n48 (F := F) arg4 i (harg4.unread x2)) hw4 (harg3.unread x1) k)) (y : S1x2x1024x128.Idx) :
    ∃ pc ∈ (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).1 S1x1x256x128.size (by sl_kernel_rfl) y

/-- The body's stores into output 14 tile its block. -/
theorem cover0_14 (c : Dev nD) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole)
    (x0 : Vec F S3x2x32 .f32) (x1 : Vec F S2x128 .i32) (x2 : Vec F S2x128 .i32) (x3 : Vec F S1x2x1024x128 .fp8e4m3) (x4 : Vec F S1x2x1024x128 .fp8e5m2) (x5 : Vec F S1x2x1024x128 .bf16) (x6 : Vec F S1x1x1024x128 .fp8e4m3) (x7 : Vec F S1x1x1024x128 .fp8e4m3) (x8 : Vec F S1x2x1x1024 .f32) (x9 : Vec F S1x1024x128 .f32) (x10 : Vec F S1x1024x1024 .f32) (x11 : Vec F S1x1152x128 .i32) (x12 : Vec F S1x1152x128 .f32)
    (hw1 : k0_chk1 i (k0_n14 (F := F) arg4 i (harg4.unread x2))) (hw4 : k0_chk4 i (k0_n48 (F := F) arg4 i (harg4.unread x2)))
    (hw2 : ∀ k, k0_chk2 (k0_word2 (F := F) arg3 i (k0_n14 (F := F) arg4 i (harg4.unread x2)) hw1 (harg3.unread x1) k))
    (hw3 : ∀ k, k0_chk3 (k0_word3 (F := F) arg3 i (k0_n14 (F := F) arg4 i (harg4.unread x2)) hw1 (harg3.unread x1) k))
    (hw5 : ∀ k, k0_chk5 (k0_word5 (F := F) arg3 i (k0_n48 (F := F) arg4 i (harg4.unread x2)) hw4 (harg3.unread x1) k))
    (hw6 : ∀ k, k0_chk6 (k0_word6 (F := F) arg3 i (k0_n48 (F := F) arg4 i (harg4.unread x2)) hw4 (harg3.unread x1) k)) (y : S1x1x1024x128.Idx) :
    ∃ pc ∈ (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).2.1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).2.1 S1x1x256x128.size (by sl_kernel_rfl) y

/-- The body's stores into output 15 tile its block. -/
theorem cover0_15 (c : Dev nD) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole)
    (x0 : Vec F S3x2x32 .f32) (x1 : Vec F S2x128 .i32) (x2 : Vec F S2x128 .i32) (x3 : Vec F S1x2x1024x128 .fp8e4m3) (x4 : Vec F S1x2x1024x128 .fp8e5m2) (x5 : Vec F S1x2x1024x128 .bf16) (x6 : Vec F S1x1x1024x128 .fp8e4m3) (x7 : Vec F S1x1x1024x128 .fp8e4m3) (x8 : Vec F S1x2x1x1024 .f32) (x9 : Vec F S1x1024x128 .f32) (x10 : Vec F S1x1024x1024 .f32) (x11 : Vec F S1x1152x128 .i32) (x12 : Vec F S1x1152x128 .f32)
    (hw1 : k0_chk1 i (k0_n14 (F := F) arg4 i (harg4.unread x2))) (hw4 : k0_chk4 i (k0_n48 (F := F) arg4 i (harg4.unread x2)))
    (hw2 : ∀ k, k0_chk2 (k0_word2 (F := F) arg3 i (k0_n14 (F := F) arg4 i (harg4.unread x2)) hw1 (harg3.unread x1) k))
    (hw3 : ∀ k, k0_chk3 (k0_word3 (F := F) arg3 i (k0_n14 (F := F) arg4 i (harg4.unread x2)) hw1 (harg3.unread x1) k))
    (hw5 : ∀ k, k0_chk5 (k0_word5 (F := F) arg3 i (k0_n48 (F := F) arg4 i (harg4.unread x2)) hw4 (harg3.unread x1) k))
    (hw6 : ∀ k, k0_chk6 (k0_word6 (F := F) arg3 i (k0_n48 (F := F) arg4 i (harg4.unread x2)) hw4 (harg3.unread x1) k)) (y : S1x1x1024x128.Idx) :
    ∃ pc ∈ (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).2.2.1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 hw1 hw4 hw2 hw3 hw5 hw6).2.2.1 S1x1x256x128.size (by sl_kernel_rfl) y

/-- What the body assumes of the numbers it reads at point `t`: every address computed from them is in bounds. -/
structure Hyps (c : Dev nD) (t : Fin cfg0.N) : Prop where
  hw1 : k0_chk1 (grid0.coords t) (k0_n14 (F := F) (ms0_2 t) (grid0.coords t) ((hs0_2 t).unread (iblk m c 2 t)))
  hw4 : k0_chk4 (grid0.coords t) (k0_n48 (F := F) (ms0_2 t) (grid0.coords t) ((hs0_2 t).unread (iblk m c 2 t)))
  hw2 : ∀ k, k0_chk2 (k0_word2 (F := F) (ms0_1 t) (grid0.coords t) (k0_n14 (F := F) (ms0_2 t) (grid0.coords t) ((hs0_2 t).unread (iblk m c 2 t))) hw1 ((hs0_1 t).unread (iblk m c 1 t)) k)
  hw3 : ∀ k, k0_chk3 (k0_word3 (F := F) (ms0_1 t) (grid0.coords t) (k0_n14 (F := F) (ms0_2 t) (grid0.coords t) ((hs0_2 t).unread (iblk m c 2 t))) hw1 ((hs0_1 t).unread (iblk m c 1 t)) k)
  hw5 : ∀ k, k0_chk5 (k0_word5 (F := F) (ms0_1 t) (grid0.coords t) (k0_n48 (F := F) (ms0_2 t) (grid0.coords t) ((hs0_2 t).unread (iblk m c 2 t))) hw4 ((hs0_1 t).unread (iblk m c 1 t)) k)
  hw6 : ∀ k, k0_chk6 (k0_word6 (F := F) (ms0_1 t) (grid0.coords t) (k0_n48 (F := F) (ms0_2 t) (grid0.coords t) ((hs0_2 t).unread (iblk m c 2 t))) hw4 ((hs0_1 t).unread (iblk m c 1 t)) k)

variable (H : ∀ (c : Dev nD) (t : Fin cfg0.N), Hyps m c t)

/-- The body's run at point `t`. -/
abbrev runAt (c : Dev nD) (t : Fin cfg0.N) :=
  kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (H c t).hw1 (H c t).hw4 (H c t).hw2 (H c t).hw3 (H c t).hw5 (H c t).hw6

/-- What the run leaves in output 13's block. -/
def out0_13 (c : Dev nD) (t : Fin cfg0.N) : Vec F S1x2x1024x128 .bf16 :=
  VO0_13.read (Elt F) (VO0_13.writes (Elt F) VO0_13.junk (runAt m H c t).1)

/-- What the run leaves in output 14's block. -/
def out0_14 (c : Dev nD) (t : Fin cfg0.N) : Vec F S1x1x1024x128 .bf16 :=
  VO0_14.read (Elt F) (VO0_14.writes (Elt F) VO0_14.junk (runAt m H c t).2.1)

/-- What the run leaves in output 15's block. -/
def out0_15 (c : Dev nD) (t : Fin cfg0.N) : Vec F S1x1x1024x128 .bf16 :=
  VO0_15.read (Elt F) (VO0_15.writes (Elt F) VO0_15.junk (runAt m H c t).2.2.1)

/-- The last output's block: the stores of the run over anything. -/
def Leaves16 (c : Dev nD) (t : Fin cfg0.N) (X : Vec F S1x2x1152x128 .f32) : Prop :=
  ∃ f, X = (ms0_16 t).view.read (Elt F) ((ms0_16 t).view.writes (Elt F) f (runAt m H c t).2.2.2.1)

/-- The windows held to a predicate: the last output alone, whose unused slots the body does not write. -/
def marked : Fin cfg0.W → Bool := fun w => decide (w = 16)

/-- The predicate on the last output's block. -/
def Rl (c : Dev nD) (w : Fin cfg0.W) (t : Fin cfg0.N) : ((cfg0.win w).block.Idx → Elt F (cfg0.win w).elt) → Prop :=
  match w with
    | ⟨16, _⟩ => fun X => Leaves16 m H c t X
    | _ => fun _ => True

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 m H c t
    | ⟨14, _⟩ => out0_14 m H c t
    | ⟨15, _⟩ => out0_15 m H c t
    | ⟨16, _⟩ => Pipeline.Dat.unnamed (cfg := cfg0) 16 t
    | ⟨_ + 17, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m H 0 c).A w = V m c (Pipeline.arrRef spec0 w) := by
  dsimp only [dats]

/-- What the body leaves, window by window (the proof data's `match` reduced by `dsimp`). -/
theorem after0_0 (c : Dev nD) (t : Fin cfg0.N) : (dats m H 0 c).after 0 t = iblk m c 0 t := by dsimp only [dats]
theorem after0_1 (c : Dev nD) (t : Fin cfg0.N) : (dats m H 0 c).after 1 t = iblk m c 1 t := by dsimp only [dats]
theorem after0_2 (c : Dev nD) (t : Fin cfg0.N) : (dats m H 0 c).after 2 t = iblk m c 2 t := by dsimp only [dats]
theorem after0_3 (c : Dev nD) (t : Fin cfg0.N) : (dats m H 0 c).after 3 t = iblk m c 3 t := by dsimp only [dats]
theorem after0_4 (c : Dev nD) (t : Fin cfg0.N) : (dats m H 0 c).after 4 t = iblk m c 4 t := by dsimp only [dats]
theorem after0_5 (c : Dev nD) (t : Fin cfg0.N) : (dats m H 0 c).after 5 t = iblk m c 5 t := by dsimp only [dats]
theorem after0_6 (c : Dev nD) (t : Fin cfg0.N) : (dats m H 0 c).after 6 t = iblk m c 6 t := by dsimp only [dats]
theorem after0_7 (c : Dev nD) (t : Fin cfg0.N) : (dats m H 0 c).after 7 t = iblk m c 7 t := by dsimp only [dats]
theorem after0_8 (c : Dev nD) (t : Fin cfg0.N) : (dats m H 0 c).after 8 t = iblk m c 8 t := by dsimp only [dats]
theorem after0_9 (c : Dev nD) (t : Fin cfg0.N) : (dats m H 0 c).after 9 t = iblk m c 9 t := by dsimp only [dats]
theorem after0_10 (c : Dev nD) (t : Fin cfg0.N) : (dats m H 0 c).after 10 t = iblk m c 10 t := by dsimp only [dats]
theorem after0_11 (c : Dev nD) (t : Fin cfg0.N) : (dats m H 0 c).after 11 t = iblk m c 11 t := by dsimp only [dats]
theorem after0_12 (c : Dev nD) (t : Fin cfg0.N) : (dats m H 0 c).after 12 t = iblk m c 12 t := by dsimp only [dats]
theorem after0_13 (c : Dev nD) (t : Fin cfg0.N) : (dats m H 0 c).after 13 t = out0_13 m H c t := by dsimp only [dats]
theorem after0_14 (c : Dev nD) (t : Fin cfg0.N) : (dats m H 0 c).after 14 t = out0_14 m H c t := by dsimp only [dats]
theorem after0_15 (c : Dev nD) (t : Fin cfg0.N) : (dats m H 0 c).after 15 t = out0_15 m H c t := by dsimp only [dats]

/-- Each input's current staging buffer holds its block at every point, fetched there or not (`beforeK_W_of`). -/
theorem before0_0 (c : Dev nD) (t : Fin cfg0.N) (d) : (dats m H 0 c).before 0 t d = iblk m c 0 t :=
  before0_0_of m (dats m H 0 c) (A_eq m H c 0) (after0_0 m H c) t d
theorem before0_1 (c : Dev nD) (t : Fin cfg0.N) (d) : (dats m H 0 c).before 1 t d = iblk m c 1 t :=
  before0_1_of m (dats m H 0 c) (A_eq m H c 1) (after0_1 m H c) t d
theorem before0_2 (c : Dev nD) (t : Fin cfg0.N) (d) : (dats m H 0 c).before 2 t d = iblk m c 2 t :=
  before0_2_of m (dats m H 0 c) (A_eq m H c 2) (after0_2 m H c) t d
theorem before0_3 (c : Dev nD) (t : Fin cfg0.N) (d) : (dats m H 0 c).before 3 t d = iblk m c 3 t :=
  before0_3_of m (dats m H 0 c) (A_eq m H c 3) (after0_3 m H c) t d
theorem before0_4 (c : Dev nD) (t : Fin cfg0.N) (d) : (dats m H 0 c).before 4 t d = iblk m c 4 t :=
  before0_4_of m (dats m H 0 c) (A_eq m H c 4) (after0_4 m H c) t d
theorem before0_5 (c : Dev nD) (t : Fin cfg0.N) (d) : (dats m H 0 c).before 5 t d = iblk m c 5 t :=
  before0_5_of m (dats m H 0 c) (A_eq m H c 5) (after0_5 m H c) t d
theorem before0_6 (c : Dev nD) (t : Fin cfg0.N) (d) : (dats m H 0 c).before 6 t d = iblk m c 6 t :=
  before0_6_of m (dats m H 0 c) (A_eq m H c 6) (after0_6 m H c) t d
theorem before0_7 (c : Dev nD) (t : Fin cfg0.N) (d) : (dats m H 0 c).before 7 t d = iblk m c 7 t :=
  before0_7_of m (dats m H 0 c) (A_eq m H c 7) (after0_7 m H c) t d
theorem before0_8 (c : Dev nD) (t : Fin cfg0.N) (d) : (dats m H 0 c).before 8 t d = iblk m c 8 t :=
  before0_8_of m (dats m H 0 c) (A_eq m H c 8) (after0_8 m H c) t d
theorem before0_9 (c : Dev nD) (t : Fin cfg0.N) (d) : (dats m H 0 c).before 9 t d = iblk m c 9 t :=
  before0_9_of m (dats m H 0 c) (A_eq m H c 9) (after0_9 m H c) t d
theorem before0_10 (c : Dev nD) (t : Fin cfg0.N) (d) : (dats m H 0 c).before 10 t d = iblk m c 10 t :=
  before0_10_of m (dats m H 0 c) (A_eq m H c 10) (after0_10 m H c) t d
theorem before0_11 (c : Dev nD) (t : Fin cfg0.N) (d) : (dats m H 0 c).before 11 t d = iblk m c 11 t :=
  before0_11_of m (dats m H 0 c) (A_eq m H c 11) (after0_11 m H c) t d
theorem before0_12 (c : Dev nD) (t : Fin cfg0.N) (d) : (dats m H 0 c).before 12 t d = iblk m c 12 t :=
  before0_12_of m (dats m H 0 c) (A_eq m H c 12) (after0_12 m H c) t d

/-! ## The body obligation, at a generic point -/

/-- What the body is called with at point `t` (Lib/Pipeline.lean `BodyObligation`'s precondition, the windows one by one), -/
def bodyPre (c : Dev nD) (t : Fin cfg0.N) : sProp 𝕄 :=
  iprop((dats m H 0 c).Φ t.castSucc ∗ (dats m H 0 c).owesAt () t.castSucc
    ∗ (∃ d, owns (c : Thread nD τ) (ms0_0 t) fullShare ((dats m H 0 c).before 0 t d))
    ∗ (∃ d, owns (c : Thread nD τ) (ms0_1 t) fullShare ((dats m H 0 c).before 1 t d))
    ∗ (∃ d, owns (c : Thread nD τ) (ms0_2 t) fullShare ((dats m H 0 c).before 2 t d))
    ∗ (∃ d, owns (c : Thread nD τ) (ms0_3 t) fullShare ((dats m H 0 c).before 3 t d))
    ∗ (∃ d, owns (c : Thread nD τ) (ms0_4 t) fullShare ((dats m H 0 c).before 4 t d))
    ∗ (∃ d, owns (c : Thread nD τ) (ms0_5 t) fullShare ((dats m H 0 c).before 5 t d))
    ∗ (∃ d, owns (c : Thread nD τ) (ms0_6 t) fullShare ((dats m H 0 c).before 6 t d))
    ∗ (∃ d, owns (c : Thread nD τ) (ms0_7 t) fullShare ((dats m H 0 c).before 7 t d))
    ∗ (∃ d, owns (c : Thread nD τ) (ms0_8 t) fullShare ((dats m H 0 c).before 8 t d))
    ∗ (∃ d, owns (c : Thread nD τ) (ms0_9 t) fullShare ((dats m H 0 c).before 9 t d))
    ∗ (∃ d, owns (c : Thread nD τ) (ms0_10 t) fullShare ((dats m H 0 c).before 10 t d))
    ∗ (∃ d, owns (c : Thread nD τ) (ms0_11 t) fullShare ((dats m H 0 c).before 11 t d))
    ∗ (∃ d, owns (c : Thread nD τ) (ms0_12 t) fullShare ((dats m H 0 c).before 12 t d))
    ∗ (∃ d, owns (c : Thread nD τ) (ms0_13 t) fullShare ((dats m H 0 c).before 13 t d))
    ∗ (∃ d, owns (c : Thread nD τ) (ms0_14 t) fullShare ((dats m H 0 c).before 14 t d))
    ∗ (∃ d, owns (c : Thread nD τ) (ms0_15 t) fullShare ((dats m H 0 c).before 15 t d))
    ∗ (∃ Y, ⌜((dats m H 0 c).toRRel marked (Rl m H c)).Finds 16 t Y⌝ ∗ owns (c : Thread nD τ) (ms0_16 t) fullShare Y))

/-- and what it returns. -/
def bodyPost (c : Dev nD) (t : Fin cfg0.N) : sProp 𝕄 :=
  iprop((dats m H 0 c).Φ t.succ ∗ (dats m H 0 c).owesAt () t.succ
    ∗ owns (c : Thread nD τ) (ms0_0 t) fullShare ((dats m H 0 c).after 0 t)
    ∗ owns (c : Thread nD τ) (ms0_1 t) fullShare ((dats m H 0 c).after 1 t)
    ∗ owns (c : Thread nD τ) (ms0_2 t) fullShare ((dats m H 0 c).after 2 t)
    ∗ owns (c : Thread nD τ) (ms0_3 t) fullShare ((dats m H 0 c).after 3 t)
    ∗ owns (c : Thread nD τ) (ms0_4 t) fullShare ((dats m H 0 c).after 4 t)
    ∗ owns (c : Thread nD τ) (ms0_5 t) fullShare ((dats m H 0 c).after 5 t)
    ∗ owns (c : Thread nD τ) (ms0_6 t) fullShare ((dats m H 0 c).after 6 t)
    ∗ owns (c : Thread nD τ) (ms0_7 t) fullShare ((dats m H 0 c).after 7 t)
    ∗ owns (c : Thread nD τ) (ms0_8 t) fullShare ((dats m H 0 c).after 8 t)
    ∗ owns (c : Thread nD τ) (ms0_9 t) fullShare ((dats m H 0 c).after 9 t)
    ∗ owns (c : Thread nD τ) (ms0_10 t) fullShare ((dats m H 0 c).after 10 t)
    ∗ owns (c : Thread nD τ) (ms0_11 t) fullShare ((dats m H 0 c).after 11 t)
    ∗ owns (c : Thread nD τ) (ms0_12 t) fullShare ((dats m H 0 c).after 12 t)
    ∗ owns (c : Thread nD τ) (ms0_13 t) fullShare ((dats m H 0 c).after 13 t)
    ∗ owns (c : Thread nD τ) (ms0_14 t) fullShare ((dats m H 0 c).after 14 t)
    ∗ owns (c : Thread nD τ) (ms0_15 t) fullShare ((dats m H 0 c).after 15 t)
    ∗ (∃ X, ⌜Rl m H c 16 t X⌝ ∗ owns (c : Thread nD τ) (ms0_16 t) fullShare X))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m H c t ⊢ wp frame (wpE (defs₀ (F := F)) Variants.none c none) Set.univ (bodyAt0 t) (fun _ => bodyPost m H c t) := by
  unfold bodyPre bodyPost bodyAt0
  simp only [before0_0, before0_1, before0_2, before0_3, before0_4, before0_5, before0_6, before0_7, before0_8, before0_9, before0_10, before0_11, before0_12]
  rw [show (dats m H 0 c).Φ t.succ = (dats m H 0 c).Φ t.castSucc from rfl,
    show (dats m H 0 c).owesAt () t.succ = (dats m H 0 c).owesAt () t.castSucc from rfl,
    after0_0, after0_1, after0_2, after0_3, after0_4, after0_5, after0_6, after0_7, after0_8, after0_9, after0_10, after0_11, after0_12, after0_13, after0_14, after0_15]
  rw [show (dats m H 0 c).Φ t.castSucc = Pipeline.ΦA spec0 c from rfl, PhiA0_eq]
  unfold out0_13 out0_14 out0_15; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, -, H16⟩⟩
  iapply ((runAt m H c t).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, ⟨%e13, H13⟩, ⟨%e14, H14⟩, ⟨%e15, H15⟩, ⟨%e16, H16⟩, ⟨%fT0, HS0⟩, ⟨%fT1, HS1⟩, HS2, ⟨%fT3, HS3⟩, ⟨%fT4, HS4⟩, ⟨%fT5, HS5⟩⟩
  isplitl [HS0 HS1 HS2 HS3 HS4 HS5 Hg]
  · isplitl [HS0 HS1 HS2 HS3 HS4 HS5]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexact HS2
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover0_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  iexists _; isplitr
  swap
  · unfold owns; iexists _; isplitr
    swap; · iexact H16
    ipureintro; rfl
  ipureintro; exact ⟨_, rfl⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationRel (dats (F := F) m H 0 c) (defs₀ (F := F)) Variants.none () Set.univ marked (Rl m H c) := fun t => by
  rw [bigSep_W0, bigSep_W0, defs₀_row]
  exact triple_restated (sound_body m H c t) rfl .rfl fun _ => .rfl

set_option backward.isDefEq.respectTransparency.types false in
/-- The launch: every window's array and every other buffer as the proof data say, every semaphore counter at zero. -/
theorem run_main_quiescent : θ_run defs (onTc (τ := τ) (main (F := F))) (s₀ m ρ)
    (fun r => Pipeline.RDat.FramePost (cfgs 0) (fun c => (dats m H 0 c).toRRel marked (Rl m H c)) (V m) r ∧ r.2.sem = fun _ => 0) :=
  Pipeline.RDat.θ_run_frame (Q' := _) cfgs (0 : Fin 1) launch0 defs₀ Variants.none (fun c => (dats m H 0 c).toRRel marked (Rl m H c)) m ρ main
    (hbody := fun c => (body_obligation m H c).toRRel) (hshare := fun c => (dats m H 0 c).share_full fun _ => rfl)
    (howed := fun _ _ => rfl) (V := V m) (hmain := hmain m Variants.none) (hA := A_eq m H) (hΦ := fun _ _ => rfl)

/-- An input array of the launch ends as the region found it. -/
theorem in_end {r : PUnit × MemSt nD τ sig (Elt F)}
    (h : Pipeline.RDat.FramePost (cfgs 0) (fun c => (dats m H 0 c).toRRel marked (Rl m H c)) (V m) r) (c : Dev nD)
    (w : Fin cfg0.W) (hw : (cfg0.win w).isOut = false) :
    r.2.mem ((cfg0.spec w).arr.view.loc (c.tc : Thread nD τ)) = V m c (Pipeline.arrRef spec0 w) :=
  (show _ = _ from (congrFun (((dats m H 0 c).toRRel marked (Rl m H c)).ArrAt_in w hw _) _).mp ((h c).1 w)).trans (A_eq m H c w)

include H in
set_option maxHeartbeats 1020000 in
/-- Every argument array ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      (in_end m H h.1 c 10 rfl).trans (V_main_arg10 m c),
      (in_end m H h.1 c 11 rfl).trans (V_main_arg11 m c),
      (in_end m H h.1 c 12 rfl).trans (V_main_arg12 m c),
      (in_end m H h.1 c 1 rfl).trans (V_main_arg13 m c),
      (in_end m H h.1 c 2 rfl).trans (V_main_arg14 m c)⟩, h.2⟩) (run_main_quiescent m ρ H)

end Cert.KernelIdeal.Proof
-- ==== Proof.KernelIdealWords.lean ====
module

public import proofs.«01_k».proof.Proof.KernelIdealBody
public import proofs.«01_k».proof.Proof.Gen.Pre_admissible
public import proofs.«01_k».proof.Defs
public import Idealize.ShloMosaic.Lib.ReduceAll
public import Idealize.ShloMosaic.Lib.Pipeline.ValueKit

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic

variable {F : FTy → Type} [FloatOps F] [Named F]

/-! ## The numbers the body reads name addresses in bounds -/

theorem divsi_one (v : BitVec 32) : Scalar.divsi v 1#32 = v := by
  have h : ¬ IntOp.SDivCorner v 1#32 := by simp [IntOp.SDivCorner]
  simp only [Scalar.divsi, IntOp.divsi, if_neg h, BitVec.sdiv_one]

theorem toNat_of_nonneg {v : BitVec 32} (h : 0 ≤ v.toInt) : (v.toNat : ℤ) = v.toInt := by
  have := v.isLt
  simp only [BitVec.toInt] at h ⊢
  split at h <;> split <;> omega

theorem trips_to (v : BitVec 32) : Scf.trips 0#32 v 1#32 = v.toInt.toNat := by
  have h1 : (1#32 : BitVec 32).toInt = 1 := rfl
  have h0 : (0#32 : BitVec 32).toInt = 0 := rfl
  simp only [Scf.trips, h1, h0]; congr 1; omega

theorem trips_self (v : BitVec 32) : Scf.trips v v 1#32 = 0 := by
  have h1 : (1#32 : BitVec 32).toInt = 1 := rfl
  simp only [Scf.trips, h1]; simp

theorem ok_to (v : BitVec 32) (hv : v.toInt ≤ 16) : Scf.OK 0#32 v 1#32 := by
  have h1 : (1#32 : BitVec 32).toInt = 1 := rfl
  have h0 : (0#32 : BitVec 32).toInt = 0 := rfl
  refine ⟨by rw [h1]; decide, ?_⟩
  rw [trips_to, h1, h0]; norm_num; omega

theorem ok_self (v : BitVec 32) (hv : v.toInt ≤ 16) : Scf.OK v v 1#32 := by
  have h1 : (1#32 : BitVec 32).toInt = 1 := rfl
  refine ⟨by rw [h1]; decide, ?_⟩
  rw [trips_self]; norm_num; omega

theorem loop_ub (v : BitVec 32) : Scalar.addi 0#32 (Scalar.muli (Scalar.divsi (Scalar.subi v 0#32) 1#32) 1#32) = v := by
  rw [divsi_one]; simp [Scalar.addi, Scalar.muli, Scalar.subi, IntOp.addi, IntOp.muli, IntOp.subi]
theorem loop_ub' (v : BitVec 32) : Scalar.addi 0#32 (Scalar.subi v 0#32) = v := by
  simp [Scalar.addi, Scalar.subi, IntOp.addi, IntOp.subi]

theorem trips_t2 (v : BitVec 32) : (k0_t2_loop v).trips = v.toInt.toNat := by
  show Scf.trips _ _ _ = _; rw [← trips_to]; congr 1; exact loop_ub v
theorem trips_t3 (v : BitVec 32) : (k0_t3_loop v).trips = 0 := by
  rw [← trips_self v]; show Scf.trips _ _ _ = _; congr 1; exacts [loop_ub v, loop_ub' v]
theorem trips_t5 (v : BitVec 32) : (k0_t5_loop v).trips = v.toInt.toNat := by
  show Scf.trips _ _ _ = _; rw [← trips_to]; congr 1; exact loop_ub v
theorem trips_t6 (v : BitVec 32) : (k0_t6_loop v).trips = 0 := by
  rw [← trips_self v]; show Scf.trips _ _ _ = _; congr 1; exacts [loop_ub v, loop_ub' v]

theorem iv_nat (k : ℕ) : Scf.iv 0#32 1#32 k = BitVec.ofNat 32 k := by simp [Scf.iv]

theorem iv_toNat {k : ℕ} (hk : k < 16) : (Scf.iv 0#32 1#32 k).toNat = k := by
  rw [iv_nat, BitVec.toNat_ofNat]; omega

theorem slot_toNat {k : ℕ} (hk : k < 16) :
    (Scalar.addi 1024#32 (Scalar.muli (Scf.iv 0#32 1#32 k) 8#32)).toNat = 1024 + 8 * k := by
  rw [iv_nat]
  simp only [Scalar.addi, Scalar.muli, IntOp.addi, IntOp.muli, BitVec.toNat_add, BitVec.toNat_mul, BitVec.toNat_ofNat]
  omega

theorem grp_toNat {w : BitVec 32} (hw : w.toNat < 128) : (Scalar.muli w 8#32).toNat = 8 * w.toNat := by
  simp only [Scalar.muli, IntOp.muli, BitVec.toNat_mul, BitVec.toNat_ofNat]
  omega

theorem chk2_of_lt (w : BitVec 32) (hw : w.toNat < 128) : k0_chk2 w := by
  have e := grp_toNat hw
  refine ⟨?_, ?_, ?_, ?_, ?_, ?_, ?_, ?_, ?_⟩
  · show 8 ∣ (Scalar.muli w 8#32).toNat
    rw [e]; exact ⟨_, rfl⟩
  · intro a; fin_cases a
    · show (Scalar.muli w 8#32).toNat + 8 ≤ 1024
      omega
    · show 0 + 128 ≤ 1024
      omega
  · intro a; fin_cases a
    · show (Scalar.muli w 8#32).toNat + 8 ≤ 1024
      omega
    · show 128 + 128 ≤ 1024
      omega
  · intro a; fin_cases a
    · show (Scalar.muli w 8#32).toNat + 8 ≤ 1024
      omega
    · show 256 + 128 ≤ 1024
      omega
  · intro a; fin_cases a
    · show (Scalar.muli w 8#32).toNat + 8 ≤ 1024
      omega
    · show 384 + 128 ≤ 1024
      omega
  · intro a; fin_cases a
    · show (Scalar.muli w 8#32).toNat + 8 ≤ 1024
      omega
    · show 512 + 128 ≤ 1024
      omega
  · intro a; fin_cases a
    · show (Scalar.muli w 8#32).toNat + 8 ≤ 1024
      omega
    · show 640 + 128 ≤ 1024
      omega
  · intro a; fin_cases a
    · show (Scalar.muli w 8#32).toNat + 8 ≤ 1024
      omega
    · show 768 + 128 ≤ 1024
      omega
  · intro a; fin_cases a
    · show (Scalar.muli w 8#32).toNat + 8 ≤ 1024
      omega
    · show 896 + 128 ≤ 1024
      omega
theorem chk3_of_lt (w : BitVec 32) (hw : w.toNat < 128) : k0_chk3 w := by
  have e := grp_toNat hw
  refine ⟨?_, ?_, ?_, ?_, ?_, ?_, ?_, ?_, ?_⟩
  · show 8 ∣ (Scalar.muli w 8#32).toNat
    rw [e]; exact ⟨_, rfl⟩
  · intro a; fin_cases a
    · show (Scalar.muli w 8#32).toNat + 8 ≤ 1024
      omega
    · show 0 + 128 ≤ 1024
      omega
  · intro a; fin_cases a
    · show (Scalar.muli w 8#32).toNat + 8 ≤ 1024
      omega
    · show 128 + 128 ≤ 1024
      omega
  · intro a; fin_cases a
    · show (Scalar.muli w 8#32).toNat + 8 ≤ 1024
      omega
    · show 256 + 128 ≤ 1024
      omega
  · intro a; fin_cases a
    · show (Scalar.muli w 8#32).toNat + 8 ≤ 1024
      omega
    · show 384 + 128 ≤ 1024
      omega
  · intro a; fin_cases a
    · show (Scalar.muli w 8#32).toNat + 8 ≤ 1024
      omega
    · show 512 + 128 ≤ 1024
      omega
  · intro a; fin_cases a
    · show (Scalar.muli w 8#32).toNat + 8 ≤ 1024
      omega
    · show 640 + 128 ≤ 1024
      omega
  · intro a; fin_cases a
    · show (Scalar.muli w 8#32).toNat + 8 ≤ 1024
      omega
    · show 768 + 128 ≤ 1024
      omega
  · intro a; fin_cases a
    · show (Scalar.muli w 8#32).toNat + 8 ≤ 1024
      omega
    · show 896 + 128 ≤ 1024
      omega
theorem chk5_of_lt (w : BitVec 32) (hw : w.toNat < 128) : k0_chk5 w := by
  have e := grp_toNat hw
  refine ⟨?_, ?_, ?_, ?_, ?_, ?_, ?_, ?_, ?_⟩
  · show 8 ∣ (Scalar.muli w 8#32).toNat
    rw [e]; exact ⟨_, rfl⟩
  · intro a; fin_cases a
    · show (Scalar.muli w 8#32).toNat + 8 ≤ 1024
      omega
    · show 0 + 128 ≤ 1024
      omega
  · intro a; fin_cases a
    · show (Scalar.muli w 8#32).toNat + 8 ≤ 1024
      omega
    · show 128 + 128 ≤ 1024
      omega
  · intro a; fin_cases a
    · show (Scalar.muli w 8#32).toNat + 8 ≤ 1024
      omega
    · show 256 + 128 ≤ 1024
      omega
  · intro a; fin_cases a
    · show (Scalar.muli w 8#32).toNat + 8 ≤ 1024
      omega
    · show 384 + 128 ≤ 1024
      omega
  · intro a; fin_cases a
    · show (Scalar.muli w 8#32).toNat + 8 ≤ 1024
      omega
    · show 512 + 128 ≤ 1024
      omega
  · intro a; fin_cases a
    · show (Scalar.muli w 8#32).toNat + 8 ≤ 1024
      omega
    · show 640 + 128 ≤ 1024
      omega
  · intro a; fin_cases a
    · show (Scalar.muli w 8#32).toNat + 8 ≤ 1024
      omega
    · show 768 + 128 ≤ 1024
      omega
  · intro a; fin_cases a
    · show (Scalar.muli w 8#32).toNat + 8 ≤ 1024
      omega
    · show 896 + 128 ≤ 1024
      omega
theorem chk6_of_lt (w : BitVec 32) (hw : w.toNat < 128) : k0_chk6 w := by
  have e := grp_toNat hw
  refine ⟨?_, ?_, ?_, ?_, ?_, ?_, ?_, ?_, ?_⟩
  · show 8 ∣ (Scalar.muli w 8#32).toNat
    rw [e]; exact ⟨_, rfl⟩
  · intro a; fin_cases a
    · show (Scalar.muli w 8#32).toNat + 8 ≤ 1024
      omega
    · show 0 + 128 ≤ 1024
      omega
  · intro a; fin_cases a
    · show (Scalar.muli w 8#32).toNat + 8 ≤ 1024
      omega
    · show 128 + 128 ≤ 1024
      omega
  · intro a; fin_cases a
    · show (Scalar.muli w 8#32).toNat + 8 ≤ 1024
      omega
    · show 256 + 128 ≤ 1024
      omega
  · intro a; fin_cases a
    · show (Scalar.muli w 8#32).toNat + 8 ≤ 1024
      omega
    · show 384 + 128 ≤ 1024
      omega
  · intro a; fin_cases a
    · show (Scalar.muli w 8#32).toNat + 8 ≤ 1024
      omega
    · show 512 + 128 ≤ 1024
      omega
  · intro a; fin_cases a
    · show (Scalar.muli w 8#32).toNat + 8 ≤ 1024
      omega
    · show 640 + 128 ≤ 1024
      omega
  · intro a; fin_cases a
    · show (Scalar.muli w 8#32).toNat + 8 ≤ 1024
      omega
    · show 768 + 128 ≤ 1024
      omega
  · intro a; fin_cases a
    · show (Scalar.muli w 8#32).toNat + 8 ≤ 1024
      omega
    · show 896 + 128 ≤ 1024
      omega

theorem chk1_of_le (i : grid0.Coords) (v : BitVec 32) (hv : v.toInt ≤ 16) : k0_chk1 i v := by
  have hb : (i 0).val < 2 := (i 0).isLt
  have hz : (Scalar.indexCast (BitVec.ofNat 32 (i 0).val)).toNat = (i 0).val := by
    simp only [Scalar.indexCast, BitVec.toNat_ofNat]; omega
  have hk : ∀ k : Fin (k0_t2_loop v).trips, (k : ℕ) < 16 := fun k => by
    have := k.isLt; have := trips_t2 v; omega
  refine ⟨?_, ?_, ?_, ?_, ?_, ?_, ?_, ?_, ?_, ?_⟩
  · have := ok_to v hv
    show Scf.OK _ _ _
    rw [show (k0_t2_loop v).ub = v from loop_ub v]; exact this
  · intro k a; fin_cases a
    · show (Scalar.indexCast (BitVec.ofNat 32 (i 0).val)).toNat + 1 ≤ 2
      omega
    · show (Scf.iv 0#32 1#32 (k : ℕ)).toNat + 1 ≤ 128
      have := hk k; rw [iv_toNat (hk k)]; omega
  · intro k
    show 8 ∣ (Scalar.addi 1024#32 (Scalar.muli (Scf.iv 0#32 1#32 (k : ℕ)) 8#32)).toNat
    rw [slot_toNat (hk k)]; omega
  · intro k a; have := hk k; have e := slot_toNat (hk k); fin_cases a
    · show 0 + 1 ≤ 1
      omega
    · show (Scalar.addi 1024#32 (Scalar.muli (Scf.iv 0#32 1#32 (k : ℕ)) 8#32)).toNat + 8 ≤ 1152
      omega
    · show 0 + 128 ≤ 128
      omega
  · intro k a; have := hk k; have e := slot_toNat (hk k); fin_cases a
    · show 0 + 1 ≤ 1
      omega
    · show 0 + 1 ≤ 2
      omega
    · show (Scalar.addi 1024#32 (Scalar.muli (Scf.iv 0#32 1#32 (k : ℕ)) 8#32)).toNat + 8 ≤ 1152
      omega
    · show 0 + 128 ≤ 128
      omega
  · show Scf.OK _ _ _
    rw [show (k0_t3_loop v).ub = v from loop_ub' v, show (k0_t3_loop v).lb = v from loop_ub v]; exact ok_self v hv
  · intro k; exact absurd k.isLt (by have := trips_t3 v; omega)
  · intro k; exact absurd k.isLt (by have := trips_t3 v; omega)
  · intro k; exact absurd k.isLt (by have := trips_t3 v; omega)
  · intro k; exact absurd k.isLt (by have := trips_t3 v; omega)

theorem chk4_of_le (i : grid0.Coords) (v : BitVec 32) (hv : v.toInt ≤ 16) : k0_chk4 i v := by
  have hb : (i 0).val < 2 := (i 0).isLt
  have hz : (Scalar.indexCast (BitVec.ofNat 32 (i 0).val)).toNat = (i 0).val := by
    simp only [Scalar.indexCast, BitVec.toNat_ofNat]; omega
  have hk : ∀ k : Fin (k0_t5_loop v).trips, (k : ℕ) < 16 := fun k => by
    have := k.isLt; have := trips_t5 v; omega
  refine ⟨?_, ?_, ?_, ?_, ?_, ?_, ?_, ?_, ?_, ?_⟩
  · have := ok_to v hv
    show Scf.OK _ _ _
    rw [show (k0_t5_loop v).ub = v from loop_ub v]; exact this
  · intro k a; fin_cases a
    · show (Scalar.indexCast (BitVec.ofNat 32 (i 0).val)).toNat + 1 ≤ 2
      omega
    · show (Scf.iv 0#32 1#32 (k : ℕ)).toNat + 1 ≤ 128
      have := hk k; rw [iv_toNat (hk k)]; omega
  · intro k
    show 8 ∣ (Scalar.addi 1024#32 (Scalar.muli (Scf.iv 0#32 1#32 (k : ℕ)) 8#32)).toNat
    rw [slot_toNat (hk k)]; omega
  · intro k a; have := hk k; have e := slot_toNat (hk k); fin_cases a
    · show 0 + 1 ≤ 1
      omega
    · show (Scalar.addi 1024#32 (Scalar.muli (Scf.iv 0#32 1#32 (k : ℕ)) 8#32)).toNat + 8 ≤ 1152
      omega
    · show 0 + 128 ≤ 128
      omega
  · intro k a; have := hk k; have e := slot_toNat (hk k); fin_cases a
    · show 0 + 1 ≤ 1
      omega
    · show 1 + 1 ≤ 2
      omega
    · show (Scalar.addi 1024#32 (Scalar.muli (Scf.iv 0#32 1#32 (k : ℕ)) 8#32)).toNat + 8 ≤ 1152
      omega
    · show 0 + 128 ≤ 128
      omega
  · show Scf.OK _ _ _
    rw [show (k0_t6_loop v).ub = v from loop_ub' v, show (k0_t6_loop v).lb = v from loop_ub v]; exact ok_self v hv
  · intro k; exact absurd k.isLt (by have := trips_t6 v; omega)
  · intro k; exact absurd k.isLt (by have := trips_t6 v; omega)
  · intro k; exact absurd k.isLt (by have := trips_t6 v; omega)
  · intro k; exact absurd k.isLt (by have := trips_t6 v; omega)

/-! ## What the precondition says of the two word arrays -/

/-- The precondition of given argument arrays, decoded: at most 16 extra groups, and the used ones name groups of 8 rows
    of the 1024 there are. -/
theorem words_of_pre (x0 x1 x2 x3 x4 x5 x6 x7 x8 x9 x10 x11 x12 x13 x14)
    (h : Cert.Pre_admissible.fn (F := F) x0 x1 x2 x3 x4 x5 x6 x7 x8 x9 x10 x11 x12 x13 x14 = fun _ => 1#1) (b : Fin 2) :
    (x14 (ix2 (n0 := 2) (n1 := 128) b 0)).toInt ≤ 16 ∧ ∀ k : Fin 128, (k : ℤ) < (x14 (ix2 (n0 := 2) (n1 := 128) b 0)).toInt →
      (x13 (ix2 (n0 := 2) (n1 := 128) b k)).toNat < 128 := by
  have andi_ofBool (p q : Bool) : IntOp.andi (BitVec.ofBool p) (BitVec.ofBool q) = BitVec.ofBool (p && q) := by
    cases p <;> cases q <;> decide
  have ori_ofBool (p q : Bool) : IntOp.ori (BitVec.ofBool p) (BitVec.ofBool q) = BitVec.ofBool (p || q) := by
    cases p <;> cases q <;> decide
  have not_ofBool (p : Bool) : ~~~ (BitVec.ofBool p) = BitVec.ofBool (!p) := by cases p <;> decide
  have ofBool_eq_one (p : Bool) : (BitVec.ofBool p = 1#1) ↔ p = true := by cases p <;> decide
  have and_one (p q : BitVec 1) : IntOp.andi p q = 1#1 → p = 1#1 ∧ q = 1#1 := by
    revert p q; decide
  have e := congrFun h ix0
  simp only [Cert.Pre_admissible.fn, Cert.Pre_admissible.fn_part1] at e
  have e1 := (and_one _ _ e).1
  haveI : Subsingleton (Cert.Pre_admissible.S_).Idx := ⟨fun a b => funext fun x => x.elim0⟩
  have key : ∀ k : Fin 128, _ := fun k => Host.reduce_andi_all _ _ _ _ _ e1 (ix2 (n0 := 2) (n1 := 128) b k)
  have dec : (x14 (ix2 (n0 := 2) (n1 := 128) b 0)).toInt ≤ 16 ∧ ∀ k : Fin 128, (k : ℤ) < (x14 (ix2 (n0 := 2) (n1 := 128) b 0)).toInt →
      0 ≤ (x13 (ix2 (n0 := 2) (n1 := 128) b k)).toInt ∧ (x13 (ix2 (n0 := 2) (n1 := 128) b k)).toInt < 128 := by
    refine ⟨?_, fun k hk => ?_⟩
    · have h := (and_one _ _ (key 0)).1
      change IntOp.cmpi .sle (x14 _) 16#32 = 1#1 at h
      simp only [IntOp.cmpi, ofBool_eq_one, BitVec.sle, decide_eq_true_eq] at h
      refine le_trans (le_of_eq ?_) h
      congr 2; funext a; fin_cases a <;> (apply Fin.ext; simp)
    · have h := (and_one _ _ (key k)).2
      change IntOp.ori (~~~ (IntOp.cmpi .slt (BitVec.ofNat 32 (k : ℕ)) (x14 _))) (IntOp.andi (IntOp.cmpi .sge (x13 _) 0#32) (IntOp.cmpi .slt (x13 _) 128#32)) = 1#1 at h
      simp only [IntOp.cmpi, not_ofBool, andi_ofBool, ori_ofBool, ofBool_eq_one, Bool.or_eq_true, Bool.and_eq_true, Bool.not_eq_true', decide_eq_true_eq, decide_eq_false_iff_not, BitVec.sle, BitVec.slt] at h
      rcases h with h | h
      · refine absurd ?_ h
        have e2 : (BitVec.ofNat 32 (k : ℕ)).toInt = (k : ℤ) := by
          have := k.isLt
          simp only [BitVec.toInt, BitVec.toNat_ofNat]
          rw [Nat.mod_eq_of_lt (by omega), if_pos (by omega)]
        rw [e2]
        refine lt_of_lt_of_eq hk ?_
        congr 2; funext a; fin_cases a <;> (apply Fin.ext; simp)
      · exact h
  refine ⟨dec.1, fun k hk => ?_⟩
  obtain ⟨h0, h1⟩ := dec.2 k hk
  have := toNat_of_nonneg h0
  omega

variable (m : (ℓ : Loc nD τ sig) → Buf (Elt F) ℓ)

theorem idx_words : ∀ t : Fin cfg0.N, win0_1.index t = ![0, 0] ∧ win0_2.index t = ![0, 0] :=
  (by decide +kernel : ∀ t : Fin grid0.N, _)

/-- The first word window holds its array whole. -/
theorem iblk_words (c : Dev nD) (t : Fin cfg0.N) (y : S2x128.Idx) : iblk m c 1 t y = m ((c : Thread nD τ).loc main_arg13) y := by
  blk_ext [iblk, V_main_arg13, idx_words t]
/-- The second word window holds its array whole. -/
theorem iblk_counts (c : Dev nD) (t : Fin cfg0.N) (y : S2x128.Idx) : iblk m c 2 t y = m ((c : Thread nD τ).loc main_arg14) y := by
  blk_ext [iblk, V_main_arg14, idx_words t]

/-- The words naming the extra groups, and their counts. -/
abbrev extW (c : Dev nD) : IVec S2x128 32 := m ((c : Thread nD τ).loc main_arg13)
abbrev cntW (c : Dev nD) : IVec S2x128 32 := m ((c : Thread nD τ).loc main_arg14)

/-- What the two word arrays must satisfy for the body's addresses to be in bounds. -/
def Words : Prop := ∀ (c : Dev nD) (b : Fin 2),
  (cntW m c (ix2 (n0 := 2) (n1 := 128) b 0)).toInt ≤ 16 ∧
  ∀ k : Fin 128, (k : ℤ) < (cntW m c (ix2 (n0 := 2) (n1 := 128) b 0)).toInt →
    (extW m c (ix2 (n0 := 2) (n1 := 128) b k)).toNat < 128

theorem word2_lt (c : Dev nD) (t : Fin cfg0.N) (v : BitVec 32) (hv : v.toInt ≤ 16)
    (hW : ∀ k : Fin 128, (k : ℤ) < v.toInt → (extW m c (ix2 (n0 := 2) (n1 := 128) (grid0.coords t 0) k)).toNat < 128)
    (hw : k0_chk1 (grid0.coords t) v) (k : Fin (k0_t2_loop v).trips) :
    (k0_word2 (F := F) (ms0_1 t) (grid0.coords t) v hw ((hs0_1 t).unread (iblk m c 1 t)) k : BitVec 32).toNat < 128 := by
  have hb : (grid0.coords t 0).val < 2 := (grid0.coords t 0).isLt
  have hz : (Scalar.indexCast (BitVec.ofNat 32 (grid0.coords t 0).val)).toNat = (grid0.coords t 0).val := by
    simp only [Scalar.indexCast, BitVec.toNat_ofNat]; omega
  have hk := k.isLt
  have ht := trips_t2 v
  have hk' : (k : ℕ) < 16 := by omega
  have hk2 : ((k : ℕ) : ℤ) < v.toInt := by omega
  simp only [View.readAt_apply, Memref.IsWhole.read_unread]
  rw [iblk_words]
  refine lt_of_eq_of_lt ?_ (hW ⟨k, by omega⟩ hk2)
  congr 2; funext a; fin_cases a <;> apply Fin.ext
  · show (Scalar.indexCast (BitVec.ofNat 32 (grid0.coords t 0).val)).toNat + 1 * 0 = _
    rw [hz]; rfl
  · show (Scf.iv 0#32 1#32 (k : ℕ)).toNat + 1 * 0 = (k : ℕ)
    rw [iv_toNat hk']; rfl

theorem word5_lt (c : Dev nD) (t : Fin cfg0.N) (v : BitVec 32) (hv : v.toInt ≤ 16)
    (hW : ∀ k : Fin 128, (k : ℤ) < v.toInt → (extW m c (ix2 (n0 := 2) (n1 := 128) (grid0.coords t 0) k)).toNat < 128)
    (hw : k0_chk4 (grid0.coords t) v) (k : Fin (k0_t5_loop v).trips) :
    (k0_word5 (F := F) (ms0_1 t) (grid0.coords t) v hw ((hs0_1 t).unread (iblk m c 1 t)) k : BitVec 32).toNat < 128 := by
  have hb : (grid0.coords t 0).val < 2 := (grid0.coords t 0).isLt
  have hz : (Scalar.indexCast (BitVec.ofNat 32 (grid0.coords t 0).val)).toNat = (grid0.coords t 0).val := by
    simp only [Scalar.indexCast, BitVec.toNat_ofNat]; omega
  have hk := k.isLt
  have ht := trips_t5 v
  have hk' : (k : ℕ) < 16 := by omega
  have hk2 : ((k : ℕ) : ℤ) < v.toInt := by omega
  simp only [View.readAt_apply, Memref.IsWhole.read_unread]
  rw [iblk_words]
  refine lt_of_eq_of_lt ?_ (hW ⟨k, by omega⟩ hk2)
  congr 2; funext a; fin_cases a <;> apply Fin.ext
  · show (Scalar.indexCast (BitVec.ofNat 32 (grid0.coords t 0).val)).toNat + 1 * 0 = _
    rw [hz]; rfl
  · show (Scf.iv 0#32 1#32 (k : ℕ)).toNat + 1 * 0 = (k : ℕ)
    rw [iv_toNat hk']; rfl

theorem hyps_of_words (hW : Words m) (c : Dev nD) (t : Fin cfg0.N) : Hyps m c t := by
  have hb : (grid0.coords t 0).val < 2 := (grid0.coords t 0).isLt
  have hz : (Scalar.indexCast (BitVec.ofNat 32 (grid0.coords t 0).val)).toNat = (grid0.coords t 0).val := by
    simp only [Scalar.indexCast, BitVec.toNat_ofNat]; omega
  have hW' := hW c (grid0.coords t 0)
  have n14 : k0_n14 (F := F) (ms0_2 t) (grid0.coords t) ((hs0_2 t).unread (iblk m c 2 t))
      = m ((c : Thread nD τ).loc main_arg14) (ix2 (n0 := 2) (n1 := 128) (grid0.coords t 0) 0) := by
    simp only [View.readAt_apply, Memref.IsWhole.read_unread]
    rw [iblk_counts]; congr 1; funext a; fin_cases a <;> apply Fin.ext
    · show (Scalar.indexCast (BitVec.ofNat 32 (grid0.coords t 0).val)).toNat + 1 * 0 = _
      rw [hz]; rfl
    · rfl
  have n48 : k0_n48 (F := F) (ms0_2 t) (grid0.coords t) ((hs0_2 t).unread (iblk m c 2 t))
      = m ((c : Thread nD τ).loc main_arg14) (ix2 (n0 := 2) (n1 := 128) (grid0.coords t 0) 0) := n14
  have w1 : k0_chk1 (grid0.coords t) (k0_n14 (F := F) (ms0_2 t) (grid0.coords t) ((hs0_2 t).unread (iblk m c 2 t))) := by
    rw [n14]; exact chk1_of_le _ _ hW'.1
  have w4 : k0_chk4 (grid0.coords t) (k0_n48 (F := F) (ms0_2 t) (grid0.coords t) ((hs0_2 t).unread (iblk m c 2 t))) := by
    rw [n48]; exact chk4_of_le _ _ hW'.1
  refine ⟨w1, w4, fun k => ?_, fun k => ?_, fun k => ?_, fun k => ?_⟩
  · exact chk2_of_lt _ (word2_lt m c t _ (by rw [n14]; exact hW'.1) (by rw [n14]; exact hW'.2) w1 k)
  · exact absurd k.isLt (by have := trips_t3 (k0_n14 (F := F) (ms0_2 t) (grid0.coords t) ((hs0_2 t).unread (iblk m c 2 t))); omega)
  · exact chk5_of_lt _ (word5_lt m c t _ (by rw [n48]; exact hW'.1) (by rw [n48]; exact hW'.2) w4 k)
  · exact absurd k.isLt (by have := trips_t6 (k0_n48 (F := F) (ms0_2 t) (grid0.coords t) ((hs0_2 t).unread (iblk m c 2 t))); omega)

/-- THE PRECONDITION IMPLIES WHAT THE BODY ASSUMES. -/
theorem hyps_of_pre (m : (ℓ : Loc nD τ sig) → Buf (Elt Ideal) ℓ) (h : Cert.Pre_KernelIdeal m) (c : Dev nD) (t : Fin cfg0.N) : Hyps m c t :=
  hyps_of_words m (fun c b => words_of_pre _ _ _ _ _ _ _ _ _ _ _ _ _ _ _ (h c) b) c t

end Cert.KernelIdeal.Proof
-- ==== Proof.KernelIdealTiles.lean ====
module

public import proofs.«01_k».proof.Proof.KernelIdealRun
public import Idealize.ShloMosaic.Lib.Pipeline.ValueKit
public import Idealize.ShloMosaic.Lib.Pipeline.ReadBack

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.Sem

/-- The named constant: the inverse of the natural logarithm of two. -/
abbrev lg : Elt Ideal .f32 := Named.named (F := Ideal) (φ := .f32) κ "log2e" 0x3FB8AA3B#32

/-- One tile of the scores. -/
theorem score_at (a b : ℕ) (Q : FVec Ideal S1024x128 .bf16) (KT : FVec Ideal S128x1024 .bf16)
    (hs : S1024x128.Slices ![a, 0] S256x128) (hk : S128x1024.Slices ![0, b] S128x256) (j : S256x256.Idx) (r c : Fin 1024)
    (hr : (r : ℕ) = a + j 0) (hc : (c : ℕ) = b + j 1) :
    matmul dot_S256x128_S128x256_S256x256_1_0_0_1_n_n none (extractStridedSlice S256x128 ![a, 0] Q hs)
      (extractStridedSlice S128x256 ![0, b] KT hk) (constant S256x256 .f32 0x00000000#32) j
    = ∑ d : Fin 128, Q (ix2 r d) * KT (ix2 d c) := by
  pointwise
  blk_point []

/-- The two halves of a tile of a column. -/
theorem tile2_at (X : FVec Ideal S256x128 .f32) (h) (j : S256x256.Idx) (l : Fin 128) (hl : (l : ℕ) = (j 1 : ℕ) % 128) :
    concatenate S256x256 1 [⟨S256x128, X⟩, ⟨S256x128, X⟩] h j = X (ix2 (j 0) l) := by
  pointwise
  blk_point []

/-- A load from a whole buffer reads the contents at the place of the load. -/
theorem readAt_unread {s : Shape} {e : EltTy} {sp : Space} (w : Memref sig .tc sp s e) (hw : w.IsWhole) (X : Vec Ideal s e)
    (r : Rect s) (x : r.shape.Idx) :
    View.readAt (Elt Ideal) w.view r.toLoadRect (hw.unread X) x = X (r.emb x) := by
  rw [View.readAt_eq_ld, hw.read_unread]; rfl

/-- Stores that are blocks of `G` and cover the buffer, over any earlier stores: a load reads `G`. -/
theorem readCov_of {s : Shape} {e : EltTy} {sp : Space} (v : View sig .tc sp s e) (G : Vec Ideal s e)
    (n : ℕ) (L : List (View.Piece (Elt Ideal) s e)) (h : View.PiecesOf G (L.take n))
    (hc : ∀ y, ∃ p ∈ L.take n, y ∈ p.1.set) (r : Rect s) (x : r.shape.Idx) :
    v.readCov L r.toLoadRect x = G (r.emb x) := by
  rw [View.readCov_eq_canon']
  have := View.canon_append_of_piecesOf G (L.drop n) (L.take n) h (r.emb x) (hc _)
  rw [List.take_append_drop] at this
  exact this

/-- The product of a row of queries with a key. -/
def raw (Q : FVec Ideal S1024x128 .bf16) (KT : FVec Ideal S128x1024 .bf16) (r c : Fin 1024) : EReal :=
  ∑ d : Fin 128, Q (ix2 r d) * KT (ix2 d c)

/-- The probability of row `r` and column `c`, times the scale of the row: the products `raw`, times `A`, plus the bias `B`,
    less the row's logarithm `l`, as a power of two, times the row's scale `d`. -/
def pdF (Q : FVec Ideal S1024x128 .bf16) (KT : FVec Ideal S128x1024 .bf16) (A : EReal) (B : Vec Ideal S1x1024x1024 .f32)
    (l d : Fin 1024 → EReal) (i : S1024x1024.Idx) : EReal :=
  FloatOps.exp2 (F := Ideal) (φ := .f32) (raw Q KT (i 0) (i 1) * A + B (ix3 0 (i 0) (i 1)) - l (i 0)) * d (i 0)

/-- The derivative of the score of row `r` and column `c`. -/
def dsF (P : S1024x1024.Idx → EReal) (DO : FVec Ideal S1024x128 .bf16) (VT : FVec Ideal S128x1024 .bf16) (vs : EReal)
    (dl : Fin 1024 → EReal) (i : S1024x1024.Idx) : EReal :=
  P i * (raw DO VT (i 0) (i 1) * vs - dl (i 0))

/-- The rows of a 256-row block of a column, read through both halves of a tile. -/
theorem col_at (a : ℕ) (l : Fin 1024 → EReal) (X : Vec Ideal S1x256x128 .f32)
    (hX : ∀ (x : S1x256x128.Idx) (r : Fin 1024), (r : ℕ) = a + x 1 → X x = l r) (h h') (j : S256x256.Idx) (r : Fin 1024)
    (hr : (r : ℕ) = a + j 0) :
    concatenate (α := Elt Ideal .f32) S256x256 1 [⟨S256x128, shapeCast S256x128 X h⟩, ⟨S256x128, shapeCast S256x128 X h⟩] h' j = l r := by
  pointwise
  split <;> exact hX _ r hr

/-- One tile of `pdF`. -/
theorem tile_pd (a b : ℕ) (Q : FVec Ideal S1024x128 .bf16) (KT : FVec Ideal S128x1024 .bf16) (A : Elt Ideal .f32)
    (X : Vec Ideal S1x1024x1024 .f32) (l d : Fin 1024 → EReal)
    (hs : S1024x128.Slices ![a, 0] S256x128) (hk : S128x1024.Slices ![0, b] S128x256)
    (B : Vec Ideal S1x256x256 .f32) (L2 S : Vec Ideal S1x256x128 .f32) (h1 h2 h3 h4 h5)
    (hB : ∀ (x : S1x256x256.Idx) (r c : Fin 1024), (r : ℕ) = a + x 1 → (c : ℕ) = b + x 2 → B x = X (ix3 0 r c))
    (hL : ∀ (x : S1x256x128.Idx) (r : Fin 1024), (r : ℕ) = a + x 1 → L2 x = l r)
    (hS : ∀ (x : S1x256x128.Idx) (r : Fin 1024), (r : ℕ) = a + x 1 → S x = d r)
    (j : S256x256.Idx) (i : S1024x1024.Idx) (h0 : (i 0 : ℕ) = a + j 0) (h1' : (i 1 : ℕ) = b + j 1) :
    mulf (exp2 (subf (addf (mulf (matmul dot_S256x128_S128x256_S256x256_1_0_0_1_n_n none (extractStridedSlice S256x128 ![a, 0] Q hs)
      (extractStridedSlice S128x256 ![0, b] KT hk) (constant S256x256 .f32 0x00000000#32)) (broadcast S256x256 A)) (shapeCast S256x256 B h1))
      (concatenate S256x256 1 [⟨S256x128, shapeCast S256x128 L2 h2⟩, ⟨S256x128, shapeCast S256x128 L2 h2⟩] h3)))
      (concatenate S256x256 1 [⟨S256x128, shapeCast S256x128 S h4⟩, ⟨S256x128, shapeCast S256x128 S h4⟩] h5) j
    = pdF Q KT A X l d i := by
  have e1 := score_at a b Q KT hs hk j (i 0) (i 1) h0 h1'
  have e2 := col_at a l L2 hL h2 h3 j (i 0) h0
  have e3 := col_at a d S hS h4 h5 j (i 0) h0
  have e4 : shapeCast S256x256 B h1 j = X (ix3 0 (i 0) (i 1)) := by
    pointwise
    exact hB _ _ _ h0 h1'
  unfold pdF raw
  rw [← e1, ← e2, ← e3, ← e4]
  rfl

/-- One tile of `dsF`. -/
theorem tile_ds (a b : ℕ) (DO : FVec Ideal S1024x128 .bf16) (VT : FVec Ideal S128x1024 .bf16) (vs : Elt Ideal .f32)
    (G : S1024x1024.Idx → EReal) (dl : Fin 1024 → EReal) (P : FVec Ideal S256x256 .f32)
    (hs : S1024x128.Slices ![a, 0] S256x128) (hk : S128x1024.Slices ![0, b] S128x256)
    (DL : Vec Ideal S1x256x128 .f32) (h2 h3)
    (hP : ∀ (j : S256x256.Idx) (i : S1024x1024.Idx), (i 0 : ℕ) = a + j 0 → (i 1 : ℕ) = b + j 1 → P j = G i)
    (hL : ∀ (x : S1x256x128.Idx) (r : Fin 1024), (r : ℕ) = a + x 1 → DL x = dl r)
    (j : S256x256.Idx) (i : S1024x1024.Idx) (h0 : (i 0 : ℕ) = a + j 0) (h1' : (i 1 : ℕ) = b + j 1) :
    mulf P (subf (mulf (matmul dot_S256x128_S128x256_S256x256_1_0_0_1_n_n none (extractStridedSlice S256x128 ![a, 0] DO hs)
      (extractStridedSlice S128x256 ![0, b] VT hk) (constant S256x256 .f32 0x00000000#32)) (broadcast S256x256 vs))
      (concatenate S256x256 1 [⟨S256x128, shapeCast S256x128 DL h2⟩, ⟨S256x128, shapeCast S256x128 DL h2⟩] h3)) j
    = dsF G DO VT vs dl i := by
  have e1 := score_at a b DO VT hs hk j (i 0) (i 1) h0 h1'
  have e2 := col_at a dl DL hL h2 h3 j (i 0) h0
  unfold dsF raw
  rw [← e1, ← e2, ← hP j i h0 h1']
  rfl

/-- A tile's place in the whole array. -/
theorem emb_unit2 {a b : ℕ} (ib : ∀ x, ![a, b] x + S256x256.size x ≤ S1024x1024.size x) (j : S256x256.Idx) :
    (((Rect.unit (s := S1024x1024) ![a, b] S256x256.size ib).emb j) 0 : ℕ) = a + j 0
    ∧ (((Rect.unit (s := S1024x1024) ![a, b] S256x256.size ib).emb j) 1 : ℕ) = b + j 1 := by
  constructor <;> blk_simp

/-- A tile as it is stored, rounded to bf16 (the identity over the reals). -/
theorem piece_bf (a b : ℕ) (G : Vec Ideal S1024x1024 .bf16) (P : FVec Ideal S256x256 .f32) (hb h)
    (ib : ∀ x, ![a, b] x + S256x256.size x ≤ S1024x1024.size x)
    (hP : ∀ (j : S256x256.Idx) (i : S1024x1024.Idx), (i 0 : ℕ) = a + j 0 → (i 1 : ℕ) = b + j 1 → P j = G i) (j : S256x256.Idx) :
    shapeCast S256x256 (truncf .bf16 P hb) h j = G ((Rect.unit (s := S1024x1024) ![a, b] S256x256.size ib).emb j) := by
  rw [← hP j _ (emb_unit2 ib j).1 (emb_unit2 ib j).2]
  pointwise

/-- The same as an f32. -/
theorem piece_f32 (a b : ℕ) (G : Vec Ideal S1024x1024 .f32) (P : FVec Ideal S256x256 .f32) (h)
    (ib : ∀ x, ![a, b] x + S256x256.size x ≤ S1024x1024.size x)
    (hP : ∀ (j : S256x256.Idx) (i : S1024x1024.Idx), (i 0 : ℕ) = a + j 0 → (i 1 : ℕ) = b + j 1 → P j = G i) (j : S256x256.Idx) :
    shapeCast S256x256 P h j = G ((Rect.unit (s := S1024x1024) ![a, b] S256x256.size ib).emb j) := by
  rw [← hP j _ (emb_unit2 ib j).1 (emb_unit2 ib j).2]
  pointwise

/-- The two columns kept beside the scores: the row sums of `do * o`, and the rows' logarithms times the named constant. -/
def colG (hh : Fin 2) (x4 : Vec Ideal S1x2x1024x128 .fp8e5m2) (x5 : Vec Ideal S1x2x1024x128 .bf16) (x8 : Vec Ideal S1x2x1x1024 .f32)
    (e : Fin 2) (r : Fin 1024) : EReal :=
  if (e : ℕ) = 0 then ∑ d : Fin 128, x4 (ix4 0 hh r d) * x5 (ix4 0 hh r d) else x8 (ix4 0 hh 0 r) * lg

end Cert.KernelIdeal.Proof
-- ==== Proof.KernelIdealCols.lean ====
module

public import proofs.«01_k».proof.Proof.KernelIdealTiles
public import Idealize.ShloMosaic.Lib.Pipeline.ValueKit
public import Idealize.ShloMosaic.Lib.Pipeline.ReadBack

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.Sem

variable (c : Dev nD) (i : grid0.Coords) (arg2 : Memref sig .tc .smem S3x2x32 .f32) (harg2 : arg2.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg19 : Memref sig .tc .vmem S1024x1024 .bf16) (arg20 : Memref sig .tc .vmem S1024x1024 .bf16) (arg22 : Memref sig .tc .vmem S2x1024x128 .f32) (arg23 arg24 : Memref sig .tc .vmem S128x1024 .f32)
  (x0 : Vec Ideal S3x2x32 .f32) (x3 : Vec Ideal S1x2x1024x128 .fp8e4m3) (x4 : Vec Ideal S1x2x1024x128 .fp8e5m2) (x5 : Vec Ideal S1x2x1024x128 .bf16) (x6 : Vec Ideal S1x1x1024x128 .fp8e4m3) (x7 : Vec Ideal S1x1x1024x128 .fp8e4m3) (x8 : Vec Ideal S1x2x1x1024 .f32) (x9 : Vec Ideal S1x1024x128 .f32) (x10 : Vec Ideal S1x1024x1024 .f32)

/-- The row sums of `do * o` as they are stored: one number a row, in every lane. -/
theorem delta_piece (hh : Fin 2) (X4 : Vec Ideal S1x1x1024x128 .fp8e5m2) (X5 : Vec Ideal S1x1x1024x128 .bf16)
    (h4 : ∀ (r : Fin 1024) (d : Fin 128), X4 (ix4 0 0 r d) = x4 (ix4 0 hh r d)) (h5 : ∀ (r : Fin 1024) (d : Fin 128), X5 (ix4 0 0 r d) = x5 (ix4 0 hh r d))
    (ib : ∀ x, ![0, 0, 0] x + S1x1024x128.size x ≤ S2x1024x128.size x) (j : S1x1024x128.Idx) :
    k0_pay186 (F := Ideal) X4 X5 j
      = (fun y : S2x1024x128.Idx => colG hh x4 x5 x8 (y 0) (y 1)) ((Rect.unit (s := S2x1024x128) ![0, 0, 0] S1x1024x128.size ib).emb j) := by
  obtain_idx y : S2x1024x128 := [0, (j 1 : ℕ), (j 2 : ℕ)] with hy
  have e : (Rect.unit (s := S2x1024x128) ![0, 0, 0] S1x1024x128.size ib).emb j = y := by blk_ext
  rw [e]
  have e1 : y 1 = j 1 := Fin.ext hy1
  show _ = colG hh x4 x5 x8 (y 0) (y 1)
  unfold colG
  rw [if_pos hy0, e1]
  pointwise [k0_pay186]
  exact Finset.sum_congr rfl fun d _ => congrArg₂ (· * ·) (h4 _ d) (h5 _ d)

/-- The logarithms of 128 rows as they are stored: one number a row, in every lane. -/
theorem lse_piece (hh : Fin 2) (a : ℕ) (X : Vec Ideal S1x1x1x128 .f32)
    (hX : ∀ (x : S1x1x1x128.Idx) (r : Fin 1024), (r : ℕ) = a + x 3 → X x = x8 (ix4 0 hh 0 r))
    (ib : ∀ x, ![1, a, 0] x + S1x128x128.size x ≤ S2x1024x128.size x) (j : S1x128x128.Idx) :
    k0_pay54 (F := Ideal) X j
      = (fun y : S2x1024x128.Idx => colG hh x4 x5 x8 (y 0) (y 1)) ((Rect.unit (s := S2x1024x128) ![1, a, 0] S1x128x128.size ib).emb j) := by
  have hb := ib 1
  have hj := (j 1).isLt
  have hb' : a + 128 ≤ 1024 := hb
  have hj' : (j 1 : ℕ) < 128 := hj
  obtain_idx y : S2x1024x128 := [1, a + (j 1 : ℕ), (j 2 : ℕ)] with hy
  have e : (Rect.unit (s := S2x1024x128) ![1, a, 0] S1x128x128.size ib).emb j = y := by blk_ext
  rw [e]
  show _ = colG hh x4 x5 x8 (y 0) (y 1)
  unfold colG
  rw [if_neg (by omega)]
  pointwise [k0_pay54]
  rw [hX _ (y 1) hy1]

theorem inb_col (a : ℕ) (h : a + 128 ≤ 1024) : ∀ x, ![1, a, 0] x + S1x128x128.size x ≤ S2x1024x128.size x := by
  intro x; fin_cases x
  · exact Nat.le_refl 2
  · exact h
  · exact Nat.le_refl 128

/-- What a load of a block of the first column's inputs reads. -/
theorem load5 (hh : Fin 2) (hn : ℕ) (e : hn = hh) (ib) (r : Fin 1024) (d : Fin 128) :
    View.readAt (Elt Ideal) arg7.view (Rect.unit (s := S1x2x1024x128) ![0, hn, 0, 0] S1x1x1024x128.size ib).toLoadRect (harg7.unread x5) (ix4 0 0 r d)
      = x5 (ix4 0 hh r d) := by
  rw [readAt_unread]; subst e; blk_ext

theorem load4 (hh : Fin 2) (hn : ℕ) (e : hn = hh) (ib) (r : Fin 1024) (d : Fin 128) :
    View.readAt (Elt Ideal) arg6.view (Rect.unit (s := S1x2x1024x128) ![0, hn, 0, 0] S1x1x1024x128.size ib).toLoadRect (harg6.unread x4) (ix4 0 0 r d)
      = x4 (ix4 0 hh r d) := by
  rw [readAt_unread]; subst e; blk_ext

theorem load8 (hh : Fin 2) (hn a : ℕ) (e : hn = hh) (ib) (x : S1x1x1x128.Idx) (r : Fin 1024) (hr : (r : ℕ) = a + x 3) :
    View.readAt (Elt Ideal) arg10.view (Rect.unit (s := S1x2x1x1024) ![0, hn, 0, a] S1x1x1x128.size ib).toLoadRect (harg10.unread x8) x
      = x8 (ix4 0 hh 0 r) := by
  rw [readAt_unread]; subst e; blk_ext

/-- The stores into the columns' scratch, of the first head and of the second, are blocks of `colG`. -/
theorem cols0 : View.PiecesOf (fun y : S2x1024x128.Idx => colG 0 x4 x5 x8 (y 0) (y 1)) (List.take 9 (kernelRun.sl.HS3_9 (F := Ideal) c arg6 harg6 arg7 harg7 arg10 harg10 x4 x5 x8)) := by
  refine ⟨?_, ?_, ?_, ?_, ?_, ?_, ?_, ?_, ?_, trivial⟩
  case refine_9 => exact delta_piece x4 x5 x8 0 _ _ (load4 arg6 harg6 x4 0 0 rfl _) (load5 arg7 harg7 x5 0 0 rfl _) inb_S2x1024x128_S1x1024x128_0_0_0
  all_goals exact lse_piece x4 x5 x8 0 _ _ (load8 arg10 harg10 x8 0 0 _ rfl _) (inb_col _ (by decide))

theorem cols1 : View.PiecesOf (fun y : S2x1024x128.Idx => colG 1 x4 x5 x8 (y 0) (y 1)) (List.take 9 (kernelRun.sl.HS3_18 (F := Ideal) c arg6 harg6 arg7 harg7 arg10 harg10 x4 x5 x8)) := by
  refine ⟨?_, ?_, ?_, ?_, ?_, ?_, ?_, ?_, ?_, trivial⟩
  case refine_9 => exact delta_piece x4 x5 x8 1 _ _ (load4 arg6 harg6 x4 1 1 rfl _) (load5 arg7 harg7 x5 1 1 rfl _) inb_S2x1024x128_S1x1024x128_0_0_0
  all_goals exact lse_piece x4 x5 x8 1 _ _ (load8 arg10 harg10 x8 1 1 _ rfl _) (inb_col _ (by decide))

/-- They cover the scratch. -/
theorem cols0_cover (y : S2x1024x128.Idx) : ∃ p ∈ List.take 9 (kernelRun.sl.HS3_9 (F := Ideal) c arg6 harg6 arg7 harg7 arg10 harg10 x4 x5 x8), y ∈ p.1.set :=
  View.cover_of_tiledBy (s := S2x1024x128) _ ![1, 128, 128] (by sl_kernel_rfl) y

theorem cols1_cover (y : S2x1024x128.Idx) : ∃ p ∈ List.take 9 (kernelRun.sl.HS3_18 (F := Ideal) c arg6 harg6 arg7 harg7 arg10 harg10 x4 x5 x8), y ∈ p.1.set :=
  View.cover_of_tiledBy (s := S2x1024x128) _ ![1, 128, 128] (by sl_kernel_rfl) y

end Cert.KernelIdeal.Proof
-- ==== Proof.KernelIdealScores.lean ====
module

public import proofs.«01_k».proof.Proof.KernelIdealCols
public import Idealize.ShloMosaic.Lib.Pipeline.ValueKit
public import Idealize.ShloMosaic.Lib.Pipeline.ReadBack

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.Sem

variable (c : Dev nD) (i : grid0.Coords) (arg2 : Memref sig .tc .smem S3x2x32 .f32) (harg2 : arg2.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg19 : Memref sig .tc .vmem S1024x1024 .bf16) (arg20 : Memref sig .tc .vmem S1024x1024 .bf16) (arg22 : Memref sig .tc .vmem S2x1024x128 .f32) (arg23 arg24 : Memref sig .tc .vmem S128x1024 .f32)
  (x0 : Vec Ideal S3x2x32 .f32) (x3 : Vec Ideal S1x2x1024x128 .fp8e4m3) (x4 : Vec Ideal S1x2x1024x128 .fp8e5m2) (x5 : Vec Ideal S1x2x1024x128 .bf16) (x6 : Vec Ideal S1x1x1024x128 .fp8e4m3) (x7 : Vec Ideal S1x1x1024x128 .fp8e4m3) (x8 : Vec Ideal S1x2x1x1024 .f32) (x9 : Vec Ideal S1x1024x128 .f32) (x10 : Vec Ideal S1x1024x1024 .f32)
  (dc : Fin 1024 → EReal) (h9 : ∀ r l, x9 (ix3 0 r l) = dc r)

theorem inb_tile (a b : ℕ) (h : a + 256 ≤ 1024) (h' : b + 256 ≤ 1024) : ∀ x, ![a, b] x + S256x256.size x ≤ S1024x1024.size x := by
  intro x; fin_cases x
  · exact h
  · exact h'

/-- What a load of a tile of the bias reads. -/
theorem load10 (a b : ℕ) (ib) (x : S1x256x256.Idx) (r k : Fin 1024) (hr : (r : ℕ) = a + x 1) (hk : (k : ℕ) = b + x 2) :
    View.readAt (Elt Ideal) arg12.view (Rect.unit (s := S1x1024x1024) ![0, a, b] S1x256x256.size ib).toLoadRect (harg12.unread x10) x
      = x10 (ix3 0 r k) := by
  rw [readAt_unread]; blk_ext

include h9 in
/-- What a load of 256 rows' scales reads. -/
theorem load9 (a : ℕ) (ib) (x : S1x256x128.Idx) (r : Fin 1024) (hr : (r : ℕ) = a + x 1) :
    View.readAt (Elt Ideal) arg11.view (Rect.unit (s := S1x1024x128) ![0, a, 0] S1x256x128.size ib).toLoadRect (harg11.unread x9) x
      = dc r := by
  rw [readAt_unread, ← h9 r (x 2)]; blk_ext

/-- What a load of 256 rows of a column reads. -/
theorem loadCol (hh : Fin 2) (L : List (View.Piece (Elt Ideal) S2x1024x128 .f32))
    (h : View.PiecesOf (fun y : S2x1024x128.Idx => colG hh x4 x5 x8 (y 0) (y 1)) (List.take 9 L)) (hc : ∀ y, ∃ p ∈ List.take 9 L, y ∈ p.1.set)
    (e : Fin 2) (en a : ℕ) (he : en = e) (ib) (x : S1x256x128.Idx) (r : Fin 1024) (hr : (r : ℕ) = a + x 1) :
    arg22.view.readCov L (Rect.unit (s := S2x1024x128) ![en, a, 0] S1x256x128.size ib).toLoadRect x = colG hh x4 x5 x8 e r := by
  rw [readCov_of arg22.view _ 9 L h hc]
  subst he
  have e0 : ((Rect.unit (s := S2x1024x128) ![(e : ℕ), a, 0] S1x256x128.size ib).emb x) 0 = e := by apply Fin.ext; blk_simp
  have e1 : ((Rect.unit (s := S2x1024x128) ![(e : ℕ), a, 0] S1x256x128.size ib).emb x) 1 = r := by apply Fin.ext; blk_simp; omega
  exact congrArg₂ (colG hh x4 x5 x8) e0 e1

/-- Head 0: the probabilities times the rows' scales. -/
def pdG0 (y : S1024x1024.Idx) : EReal :=
  pdF (kernelRun.sl.r_6 (F := Ideal) c arg5 harg5 x3) (kernelRun.sl.r_3 (F := Ideal) c arg8 harg8 x6) (kernelRun.sl.r_5 (F := Ideal) c i arg2 harg2 x0) x10 (colG 0 x4 x5 x8 1) dc y

/-- Head 0: the derivatives of the scores. -/
def dsG0 (y : S1024x1024.Idx) : EReal :=
  dsF (pdG0 c i arg2 harg2 arg5 harg5 arg8 harg8 x0 x3 x4 x5 x6 x8 x10 dc) (kernelRun.sl.r_7 (F := Ideal) c arg6 harg6 x4) (kernelRun.sl.r_4 (F := Ideal) c arg9 harg9 x7) (kernelRun.sl.r_1 (F := Ideal) c i arg2 harg2 x0) (colG 0 x4 x5 x8 0) y

/-- Head 1: the probabilities times the rows' scales. -/
def pdG1 (y : S1024x1024.Idx) : EReal :=
  pdF (kernelRun.sl.r_15 (F := Ideal) c arg5 harg5 x3) (kernelRun.sl.r_3 (F := Ideal) c arg8 harg8 x6) (kernelRun.sl.r_14 (F := Ideal) c i arg2 harg2 x0) x10 (colG 1 x4 x5 x8 1) dc y

/-- Head 1: the derivatives of the scores. -/
def dsG1 (y : S1024x1024.Idx) : EReal :=
  dsF (pdG1 c i arg2 harg2 arg5 harg5 arg8 harg8 x0 x3 x4 x5 x6 x8 x10 dc) (kernelRun.sl.r_16 (F := Ideal) c arg6 harg6 x4) (kernelRun.sl.r_4 (F := Ideal) c arg9 harg9 x7) (kernelRun.sl.r_1 (F := Ideal) c i arg2 harg2 x0) (colG 1 x4 x5 x8 0) y

include h9 in
theorem first_pd (j : S256x256.Idx) (y : S1024x1024.Idx) (h0 : (y 0 : ℕ) = 0 + j 0) (h1 : (y 1 : ℕ) = 0 + j 1) :
    kernelRun.sl.v964 (F := Ideal) c i arg2 harg2 arg5 harg5 arg6 harg6 arg7 harg7 arg8 harg8 arg10 harg10 arg11 harg11 arg12 harg12 arg22 x0 x3 x4 x5 x6 x8 x9 x10 j = (pdG1 c i arg2 harg2 arg5 harg5 arg8 harg8 x0 x3 x4 x5 x6 x8 x10 dc) y := by
  have := tile_pd 0 0 (kernelRun.sl.r_15 (F := Ideal) c arg5 harg5 x3) (kernelRun.sl.r_3 (F := Ideal) c arg8 harg8 x6) (kernelRun.sl.r_14 (F := Ideal) c i arg2 harg2 x0) x10 (colG 1 x4 x5 x8 1) dc slices_S1024x128_o0_0_S256x128 slices_S128x1024_o0_0_S128x256 _ _ _ shapeCasts_S1x256x256_S256x256 shapeCasts_S1x256x128_S256x128 concatenates_S256x128_S256x128_S256x256_d1 shapeCasts_S1x256x128_S256x128 concatenates_S256x128_S256x128_S256x256_d1 (load10 arg12 harg12 x10 0 0 inb_S1x1024x1024_S1x256x256_0_0_0) (loadCol arg22 x4 x5 x8 1 _ (cols1 c arg6 harg6 arg7 harg7 arg10 harg10 x4 x5 x8) (cols1_cover c arg6 harg6 arg7 harg7 arg10 harg10 x4 x5 x8) 1 1 0 rfl inb_S2x1024x128_S1x256x128_1_0_0) (load9 arg11 harg11 x9 dc h9 0 inb_S1x1024x128_S1x256x128_0_0_0) j y h0 h1
  exact this

include h9 in
theorem first_ds (j : S256x256.Idx) (y : S1024x1024.Idx) (h0 : (y 0 : ℕ) = 0 + j 0) (h1 : (y 1 : ℕ) = 0 + j 1) :
    kernelRun.sl.v968 (F := Ideal) c i arg2 harg2 arg5 harg5 arg6 harg6 arg7 harg7 arg8 harg8 arg9 harg9 arg10 harg10 arg11 harg11 arg12 harg12 arg22 x0 x3 x4 x5 x6 x7 x8 x9 x10 j = (dsG1 c i arg2 harg2 arg5 harg5 arg6 harg6 arg8 harg8 arg9 harg9 x0 x3 x4 x5 x6 x7 x8 x10 dc) y := by
  exact tile_ds 0 0 (kernelRun.sl.r_16 (F := Ideal) c arg6 harg6 x4) (kernelRun.sl.r_4 (F := Ideal) c arg9 harg9 x7) (kernelRun.sl.r_1 (F := Ideal) c i arg2 harg2 x0) (pdG1 c i arg2 harg2 arg5 harg5 arg8 harg8 x0 x3 x4 x5 x6 x8 x10 dc) (colG 1 x4 x5 x8 0) _ slices_S1024x128_o0_0_S256x128 slices_S128x1024_o0_0_S128x256 _ shapeCasts_S1x256x128_S256x128 concatenates_S256x128_S256x128_S256x256_d1 (first_pd c i arg2 harg2 arg5 harg5 arg6 harg6 arg7 harg7 arg8 harg8 arg10 harg10 arg11 harg11 arg12 harg12 arg22 x0 x3 x4 x5 x6 x8 x9 x10 dc h9) (loadCol arg22 x4 x5 x8 1 _ (cols1 c arg6 harg6 arg7 harg7 arg10 harg10 x4 x5 x8) (cols1_cover c arg6 harg6 arg7 harg7 arg10 harg10 x4 x5 x8) 0 0 0 rfl inb_S2x1024x128_S1x256x128_0_0_0) j y h0 h1

include h9 in
/-- Head 0: the sixteen stores of probabilities are blocks of one array. -/
theorem tiles1_0 : View.PiecesOf (pdG0 c i arg2 harg2 arg5 harg5 arg8 harg8 x0 x3 x4 x5 x6 x8 x10 dc) (List.take 16 (kernelRun.sl.HS1_16 (F := Ideal) c i arg2 harg2 arg5 harg5 arg6 harg6 arg7 harg7 arg8 harg8 arg10 harg10 arg11 harg11 arg12 harg12 arg22 x0 x3 x4 x5 x6 x8 x9 x10)) := by
  refine ⟨?_, ?_, ?_, ?_, ?_, ?_, ?_, ?_, ?_, ?_, ?_, ?_, ?_, ?_, ?_, ?_, trivial⟩
  all_goals exact piece_bf _ _ _ _ _ _ (inb_tile _ _ (by decide) (by decide)) (fun j y h0 h1 => tile_pd _ _ _ _ _ x10 _ dc _ _ _ _ _ _ _ _ _ _ (load10 arg12 harg12 x10 _ _ _) (loadCol arg22 x4 x5 x8 0 _ (cols0 c arg6 harg6 arg7 harg7 arg10 harg10 x4 x5 x8) (cols0_cover c arg6 harg6 arg7 harg7 arg10 harg10 x4 x5 x8) 1 1 _ rfl _) (load9 arg11 harg11 x9 dc h9 _ _) j y h0 h1)

/-- They cover it. -/
theorem tiles1_0_cover (y : S1024x1024.Idx) : ∃ p ∈ List.take 16 (kernelRun.sl.HS1_16 (F := Ideal) c i arg2 harg2 arg5 harg5 arg6 harg6 arg7 harg7 arg8 harg8 arg10 harg10 arg11 harg11 arg12 harg12 arg22 x0 x3 x4 x5 x6 x8 x9 x10), y ∈ p.1.set :=
  View.cover_of_tiledL (s := S1024x1024) _ S256x256.size (by sl_kernel_rfl) y

include h9 in
/-- Head 0: the sixteen stores of rounded derivatives are blocks of one array. -/
theorem tiles0_0 : View.PiecesOf (dsG0 c i arg2 harg2 arg5 harg5 arg6 harg6 arg8 harg8 arg9 harg9 x0 x3 x4 x5 x6 x7 x8 x10 dc) (List.take 16 (kernelRun.sl.HS0_16 (F := Ideal) c i arg2 harg2 arg5 harg5 arg6 harg6 arg7 harg7 arg8 harg8 arg9 harg9 arg10 harg10 arg11 harg11 arg12 harg12 arg22 x0 x3 x4 x5 x6 x7 x8 x9 x10)) := by
  refine ⟨?_, ?_, ?_, ?_, ?_, ?_, ?_, ?_, ?_, ?_, ?_, ?_, ?_, ?_, ?_, ?_, trivial⟩
  all_goals exact piece_bf _ _ _ _ _ _ (inb_tile _ _ (by decide) (by decide)) (fun j y h0 h1 => tile_ds _ _ _ _ _ (pdG0 c i arg2 harg2 arg5 harg5 arg8 harg8 x0 x3 x4 x5 x6 x8 x10 dc) _ _ _ _ _ _ _ (fun j y h0 h1 => tile_pd _ _ _ _ _ x10 _ dc _ _ _ _ _ _ _ _ _ _ (load10 arg12 harg12 x10 _ _ _) (loadCol arg22 x4 x5 x8 0 _ (cols0 c arg6 harg6 arg7 harg7 arg10 harg10 x4 x5 x8) (cols0_cover c arg6 harg6 arg7 harg7 arg10 harg10 x4 x5 x8) 1 1 _ rfl _) (load9 arg11 harg11 x9 dc h9 _ _) j y h0 h1) (loadCol arg22 x4 x5 x8 0 _ (cols0 c arg6 harg6 arg7 harg7 arg10 harg10 x4 x5 x8) (cols0_cover c arg6 harg6 arg7 harg7 arg10 harg10 x4 x5 x8) 0 0 _ rfl _) j y h0 h1)

/-- They cover it. -/
theorem tiles0_0_cover (y : S1024x1024.Idx) : ∃ p ∈ List.take 16 (kernelRun.sl.HS0_16 (F := Ideal) c i arg2 harg2 arg5 harg5 arg6 harg6 arg7 harg7 arg8 harg8 arg9 harg9 arg10 harg10 arg11 harg11 arg12 harg12 arg22 x0 x3 x4 x5 x6 x7 x8 x9 x10), y ∈ p.1.set :=
  View.cover_of_tiledL (s := S1024x1024) _ S256x256.size (by sl_kernel_rfl) y

include h9 in
/-- Head 0: the sixteen stores of derivatives are blocks of one array. -/
theorem tiles2_0 : View.PiecesOf (dsG0 c i arg2 harg2 arg5 harg5 arg6 harg6 arg8 harg8 arg9 harg9 x0 x3 x4 x5 x6 x7 x8 x10 dc) (List.take 16 (kernelRun.sl.HS2_16 (F := Ideal) c i arg2 harg2 arg5 harg5 arg6 harg6 arg7 harg7 arg8 harg8 arg9 harg9 arg10 harg10 arg11 harg11 arg12 harg12 arg22 x0 x3 x4 x5 x6 x7 x8 x9 x10)) := by
  refine ⟨?_, ?_, ?_, ?_, ?_, ?_, ?_, ?_, ?_, ?_, ?_, ?_, ?_, ?_, ?_, ?_, trivial⟩
  all_goals exact piece_f32 _ _ _ _ _ (inb_tile _ _ (by decide) (by decide)) (fun j y h0 h1 => tile_ds _ _ _ _ _ (pdG0 c i arg2 harg2 arg5 harg5 arg8 harg8 x0 x3 x4 x5 x6 x8 x10 dc) _ _ _ _ _ _ _ (fun j y h0 h1 => tile_pd _ _ _ _ _ x10 _ dc _ _ _ _ _ _ _ _ _ _ (load10 arg12 harg12 x10 _ _ _) (loadCol arg22 x4 x5 x8 0 _ (cols0 c arg6 harg6 arg7 harg7 arg10 harg10 x4 x5 x8) (cols0_cover c arg6 harg6 arg7 harg7 arg10 harg10 x4 x5 x8) 1 1 _ rfl _) (load9 arg11 harg11 x9 dc h9 _ _) j y h0 h1) (loadCol arg22 x4 x5 x8 0 _ (cols0 c arg6 harg6 arg7 harg7 arg10 harg10 x4 x5 x8) (cols0_cover c arg6 harg6 arg7 harg7 arg10 harg10 x4 x5 x8) 0 0 _ rfl _) j y h0 h1)

/-- They cover it. -/
theorem tiles2_0_cover (y : S1024x1024.Idx) : ∃ p ∈ List.take 16 (kernelRun.sl.HS2_16 (F := Ideal) c i arg2 harg2 arg5 harg5 arg6 harg6 arg7 harg7 arg8 harg8 arg9 harg9 arg10 harg10 arg11 harg11 arg12 harg12 arg22 x0 x3 x4 x5 x6 x7 x8 x9 x10), y ∈ p.1.set :=
  View.cover_of_tiledL (s := S1024x1024) _ S256x256.size (by sl_kernel_rfl) y

include h9 in
/-- Head 1: the sixteen stores of probabilities are blocks of one array. -/
theorem tiles1_1 : View.PiecesOf (pdG1 c i arg2 harg2 arg5 harg5 arg8 harg8 x0 x3 x4 x5 x6 x8 x10 dc) (List.take 16 (kernelRun.sl.HS1_32 (F := Ideal) c i arg2 harg2 arg5 harg5 arg6 harg6 arg7 harg7 arg8 harg8 arg10 harg10 arg11 harg11 arg12 harg12 arg22 x0 x3 x4 x5 x6 x8 x9 x10)) := by
  refine ⟨?_, ?_, ?_, ?_, ?_, ?_, ?_, ?_, ?_, ?_, ?_, ?_, ?_, ?_, ?_, (piece_bf 0 0 _ (kernelRun.sl.v964 (F := Ideal) c i arg2 harg2 arg5 harg5 arg6 harg6 arg7 harg7 arg8 harg8 arg10 harg10 arg11 harg11 arg12 harg12 arg22 x0 x3 x4 x5 x6 x8 x9 x10) _ _ (inb_tile _ _ (by decide) (by decide)) (first_pd c i arg2 harg2 arg5 harg5 arg6 harg6 arg7 harg7 arg8 harg8 arg10 harg10 arg11 harg11 arg12 harg12 arg22 x0 x3 x4 x5 x6 x8 x9 x10 dc h9)), trivial⟩
  all_goals exact piece_bf _ _ _ _ _ _ (inb_tile _ _ (by decide) (by decide)) (fun j y h0 h1 => tile_pd _ _ _ _ _ x10 _ dc _ _ _ _ _ _ _ _ _ _ (load10 arg12 harg12 x10 _ _ _) (loadCol arg22 x4 x5 x8 1 _ (cols1 c arg6 harg6 arg7 harg7 arg10 harg10 x4 x5 x8) (cols1_cover c arg6 harg6 arg7 harg7 arg10 harg10 x4 x5 x8) 1 1 _ rfl _) (load9 arg11 harg11 x9 dc h9 _ _) j y h0 h1)

/-- They cover it. -/
theorem tiles1_1_cover (y : S1024x1024.Idx) : ∃ p ∈ List.take 16 (kernelRun.sl.HS1_32 (F := Ideal) c i arg2 harg2 arg5 harg5 arg6 harg6 arg7 harg7 arg8 harg8 arg10 harg10 arg11 harg11 arg12 harg12 arg22 x0 x3 x4 x5 x6 x8 x9 x10), y ∈ p.1.set :=
  View.cover_of_tiledL (s := S1024x1024) _ S256x256.size (by sl_kernel_rfl) y

include h9 in
/-- Head 1: the sixteen stores of rounded derivatives are blocks of one array. -/
theorem tiles0_1 : View.PiecesOf (dsG1 c i arg2 harg2 arg5 harg5 arg6 harg6 arg8 harg8 arg9 harg9 x0 x3 x4 x5 x6 x7 x8 x10 dc) (List.take 16 (kernelRun.sl.HS0_32 (F := Ideal) c i arg2 harg2 arg5 harg5 arg6 harg6 arg7 harg7 arg8 harg8 arg9 harg9 arg10 harg10 arg11 harg11 arg12 harg12 arg22 x0 x3 x4 x5 x6 x7 x8 x9 x10)) := by
  refine ⟨?_, ?_, ?_, ?_, ?_, ?_, ?_, ?_, ?_, ?_, ?_, ?_, ?_, ?_, ?_, (piece_bf 0 0 _ (kernelRun.sl.v968 (F := Ideal) c i arg2 harg2 arg5 harg5 arg6 harg6 arg7 harg7 arg8 harg8 arg9 harg9 arg10 harg10 arg11 harg11 arg12 harg12 arg22 x0 x3 x4 x5 x6 x7 x8 x9 x10) _ _ (inb_tile _ _ (by decide) (by decide)) (first_ds c i arg2 harg2 arg5 harg5 arg6 harg6 arg7 harg7 arg8 harg8 arg9 harg9 arg10 harg10 arg11 harg11 arg12 harg12 arg22 x0 x3 x4 x5 x6 x7 x8 x9 x10 dc h9)), trivial⟩
  all_goals exact piece_bf _ _ _ _ _ _ (inb_tile _ _ (by decide) (by decide)) (fun j y h0 h1 => tile_ds _ _ _ _ _ (pdG1 c i arg2 harg2 arg5 harg5 arg8 harg8 x0 x3 x4 x5 x6 x8 x10 dc) _ _ _ _ _ _ _ (fun j y h0 h1 => tile_pd _ _ _ _ _ x10 _ dc _ _ _ _ _ _ _ _ _ _ (load10 arg12 harg12 x10 _ _ _) (loadCol arg22 x4 x5 x8 1 _ (cols1 c arg6 harg6 arg7 harg7 arg10 harg10 x4 x5 x8) (cols1_cover c arg6 harg6 arg7 harg7 arg10 harg10 x4 x5 x8) 1 1 _ rfl _) (load9 arg11 harg11 x9 dc h9 _ _) j y h0 h1) (loadCol arg22 x4 x5 x8 1 _ (cols1 c arg6 harg6 arg7 harg7 arg10 harg10 x4 x5 x8) (cols1_cover c arg6 harg6 arg7 harg7 arg10 harg10 x4 x5 x8) 0 0 _ rfl _) j y h0 h1)

/-- They cover it. -/
theorem tiles0_1_cover (y : S1024x1024.Idx) : ∃ p ∈ List.take 16 (kernelRun.sl.HS0_32 (F := Ideal) c i arg2 harg2 arg5 harg5 arg6 harg6 arg7 harg7 arg8 harg8 arg9 harg9 arg10 harg10 arg11 harg11 arg12 harg12 arg22 x0 x3 x4 x5 x6 x7 x8 x9 x10), y ∈ p.1.set :=
  View.cover_of_tiledL (s := S1024x1024) _ S256x256.size (by sl_kernel_rfl) y

include h9 in
/-- Head 1: the sixteen stores of derivatives are blocks of one array. -/
theorem tiles2_1 : View.PiecesOf (dsG1 c i arg2 harg2 arg5 harg5 arg6 harg6 arg8 harg8 arg9 harg9 x0 x3 x4 x5 x6 x7 x8 x10 dc) (List.take 16 (⟨Rect.unit (s := S1024x1024) ![768, 768] S256x256.size inb_S1024x1024_S256x256_768_768, kernelRun.sl.v1541 (F := Ideal) c i arg2 harg2 arg5 harg5 arg6 harg6 arg7 harg7 arg8 harg8 arg9 harg9 arg10 harg10 arg11 harg11 arg12 harg12 arg22 x0 x3 x4 x5 x6 x7 x8 x9 x10⟩ :: kernelRun.sl.HS2_31 (F := Ideal) c i arg2 harg2 arg5 harg5 arg6 harg6 arg7 harg7 arg8 harg8 arg9 harg9 arg10 harg10 arg11 harg11 arg12 harg12 arg22 x0 x3 x4 x5 x6 x7 x8 x9 x10)) := by
  refine ⟨?_, ?_, ?_, ?_, ?_, ?_, ?_, ?_, ?_, ?_, ?_, ?_, ?_, ?_, ?_, (piece_f32 0 0 _ (kernelRun.sl.v968 (F := Ideal) c i arg2 harg2 arg5 harg5 arg6 harg6 arg7 harg7 arg8 harg8 arg9 harg9 arg10 harg10 arg11 harg11 arg12 harg12 arg22 x0 x3 x4 x5 x6 x7 x8 x9 x10) _ (inb_tile _ _ (by decide) (by decide)) (first_ds c i arg2 harg2 arg5 harg5 arg6 harg6 arg7 harg7 arg8 harg8 arg9 harg9 arg10 harg10 arg11 harg11 arg12 harg12 arg22 x0 x3 x4 x5 x6 x7 x8 x9 x10 dc h9)), trivial⟩
  all_goals exact piece_f32 _ _ _ _ _ (inb_tile _ _ (by decide) (by decide)) (fun j y h0 h1 => tile_ds _ _ _ _ _ (pdG1 c i arg2 harg2 arg5 harg5 arg8 harg8 x0 x3 x4 x5 x6 x8 x10 dc) _ _ _ _ _ _ _ (fun j y h0 h1 => tile_pd _ _ _ _ _ x10 _ dc _ _ _ _ _ _ _ _ _ _ (load10 arg12 harg12 x10 _ _ _) (loadCol arg22 x4 x5 x8 1 _ (cols1 c arg6 harg6 arg7 harg7 arg10 harg10 x4 x5 x8) (cols1_cover c arg6 harg6 arg7 harg7 arg10 harg10 x4 x5 x8) 1 1 _ rfl _) (load9 arg11 harg11 x9 dc h9 _ _) j y h0 h1) (loadCol arg22 x4 x5 x8 1 _ (cols1 c arg6 harg6 arg7 harg7 arg10 harg10 x4 x5 x8) (cols1_cover c arg6 harg6 arg7 harg7 arg10 harg10 x4 x5 x8) 0 0 _ rfl _) j y h0 h1)

/-- They cover it. -/
theorem tiles2_1_cover (y : S1024x1024.Idx) : ∃ p ∈ List.take 16 (⟨Rect.unit (s := S1024x1024) ![768, 768] S256x256.size inb_S1024x1024_S256x256_768_768, kernelRun.sl.v1541 (F := Ideal) c i arg2 harg2 arg5 harg5 arg6 harg6 arg7 harg7 arg8 harg8 arg9 harg9 arg10 harg10 arg11 harg11 arg12 harg12 arg22 x0 x3 x4 x5 x6 x7 x8 x9 x10⟩ :: kernelRun.sl.HS2_31 (F := Ideal) c i arg2 harg2 arg5 harg5 arg6 harg6 arg7 harg7 arg8 harg8 arg9 harg9 arg10 harg10 arg11 harg11 arg12 harg12 arg22 x0 x3 x4 x5 x6 x7 x8 x9 x10), y ∈ p.1.set :=
  View.cover_of_tiledL (s := S1024x1024) _ S256x256.size (by sl_kernel_rfl) y

end Cert.KernelIdeal.Proof
-- ==== Proof.KernelIdealProducts.lean ====
module

public import proofs.«01_k».proof.Proof.KernelIdealScores
public import Idealize.ShloMosaic.Lib.Pipeline.ValueKit
public import Idealize.ShloMosaic.Lib.Pipeline.ReadBack

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.Sem

/-- The scale of the softmax, the reciprocal of the square root of 128, as the f32 next to it. -/
abbrev sm : Elt Ideal .f32 := FloatOps.ofBits (F := Ideal) .f32 0x3DB504F3#32

/-- A row of derivatives against the keys. -/
def rowSum (KT : FVec Ideal S128x1024 .bf16) (D : S1024x1024.Idx → EReal) (r : Fin 1024) (d : Fin 128) : EReal :=
  ∑ k : Fin 1024, KT (ix2 d k) * D (ix2 r k)

/-- A column of derivatives against the queries. -/
def colSum (Q : FVec Ideal S1024x128 .bf16) (D : S1024x1024.Idx → EReal) (k : Fin 1024) (d : Fin 128) : EReal :=
  ∑ r : Fin 1024, Q (ix2 r d) * D (ix2 r k)

/-- The product of the keys with 256 rows. -/
theorem rowSum_at (a : ℕ) (KT : FVec Ideal S128x1024 .bf16) (D : S1024x1024.Idx → EReal) (X : FVec Ideal S256x1024 .bf16)
    (hX : ∀ (x : S256x1024.Idx) (r c : Fin 1024), (r : ℕ) = a + x 0 → (c : ℕ) = x 1 → X x = D (ix2 r c))
    (j : S128x256.Idx) (r : Fin 1024) (d : Fin 128) (hr : (r : ℕ) = a + j 1) (hd : (d : ℕ) = j 0) :
    matmul dot_S128x1024_S256x1024_S128x256_1_1_0_0_n_n none KT X (constant S128x256 .f32 0x00000000#32) j = rowSum KT D r d := by
  have e : (j 0 : Fin 128) = d := Fin.ext hd.symm
  unfold rowSum
  rw [← e]
  pointwise
  exact Finset.sum_congr rfl fun k _ => congrArg (KT _ * ·) (hX _ r k hr rfl)

/-- The product of the transposed queries with 256 columns. -/
theorem colSum_at (a : ℕ) (Q : FVec Ideal S1024x128 .bf16) (D : S1024x1024.Idx → EReal) (X : FVec Ideal S1024x256 .bf16) (h)
    (hX : ∀ (x : S1024x256.Idx) (r c : Fin 1024), (r : ℕ) = x 0 → (c : ℕ) = a + x 1 → X x = D (ix2 r c))
    (j : S128x256.Idx) (k : Fin 1024) (d : Fin 128) (hk : (k : ℕ) = a + j 1) (hd : (d : ℕ) = j 0) :
    matmul dot_S128x1024_S1024x256_S128x256_1_0_0_1_n_n none (transpose S128x1024 [1, 0] Q h) X (constant S128x256 .f32 0x00000000#32) j
      = colSum Q D k d := by
  have e : (j 0 : Fin 128) = d := Fin.ext hd.symm
  unfold colSum
  rw [← e]
  pointwise
  exact Finset.sum_congr rfl fun r _ => congrArg (Q _ * ·) (hX _ r k rfl hk)

/-- The places of a block of 256 columns of an array of 128 rows. -/
theorem emb_cols {a : ℕ} (ib : ∀ x, ![0, a] x + S128x256.size x ≤ S128x1024.size x) (j : S128x256.Idx) :
    (((Rect.unit (s := S128x1024) ![0, a] S128x256.size ib).emb j 0 : Fin 128) : ℕ) = j 0 ∧
    (((Rect.unit (s := S128x1024) ![0, a] S128x256.size ib).emb j 1 : Fin 1024) : ℕ) = a + j 1 :=
  ⟨by blk_simp, by blk_simp⟩

/-- A block of the scaled products with columns. -/
theorem piece5 (a : ℕ) (Q : FVec Ideal S1024x128 .bf16) (D : S1024x1024.Idx → EReal) (s : Elt Ideal .f32)
    (X : FVec Ideal S1024x256 .bf16) (h h')
    (hX : ∀ (x : S1024x256.Idx) (r c : Fin 1024), (r : ℕ) = x 0 → (c : ℕ) = a + x 1 → X x = D (ix2 r c))
    (ib : ∀ x, ![0, a] x + S128x256.size x ≤ S128x1024.size x) (j : S128x256.Idx) :
    shapeCast S128x256 (mulf (matmul dot_S128x1024_S1024x256_S128x256_1_0_0_1_n_n none (transpose S128x1024 [1, 0] Q h) X
      (constant S128x256 .f32 0x00000000#32)) (broadcast S128x256 s)) h' j
      = (fun y : S128x1024.Idx => colSum Q D (y 1) (y 0) * s) ((Rect.unit (s := S128x1024) ![0, a] S128x256.size ib).emb j) := by
  show _ = colSum Q D _ _ * s
  rw [← colSum_at a Q D X h hX j _ _ (emb_cols ib j).2 (emb_cols ib j).1]
  have : shapeCast (α := Elt Ideal .f32) S128x256 (mulf (matmul dot_S128x1024_S1024x256_S128x256_1_0_0_1_n_n none (transpose S128x1024 [1, 0] Q h) X
      (constant S128x256 .f32 0x00000000#32)) (broadcast S128x256 s)) h' = _ := shapeCast_self _ _
  rw [this]; rfl

/-- A block of the products with columns. -/
theorem piece4 (a : ℕ) (Q : FVec Ideal S1024x128 .bf16) (D : S1024x1024.Idx → EReal)
    (X : FVec Ideal S1024x256 .bf16) (h h')
    (hX : ∀ (x : S1024x256.Idx) (r c : Fin 1024), (r : ℕ) = x 0 → (c : ℕ) = a + x 1 → X x = D (ix2 r c))
    (ib : ∀ x, ![0, a] x + S128x256.size x ≤ S128x1024.size x) (j : S128x256.Idx) :
    shapeCast S128x256 (matmul dot_S128x1024_S1024x256_S128x256_1_0_0_1_n_n none (transpose S128x1024 [1, 0] Q h) X
      (constant S128x256 .f32 0x00000000#32)) h' j
      = (fun y : S128x1024.Idx => colSum Q D (y 1) (y 0)) ((Rect.unit (s := S128x1024) ![0, a] S128x256.size ib).emb j) := by
  show _ = colSum Q D _ _
  rw [← colSum_at a Q D X h hX j _ _ (emb_cols ib j).2 (emb_cols ib j).1]
  have : shapeCast (α := Elt Ideal .f32) S128x256 (matmul dot_S128x1024_S1024x256_S128x256_1_0_0_1_n_n none (transpose S128x1024 [1, 0] Q h) X
      (constant S128x256 .f32 0x00000000#32)) h' = _ := shapeCast_self _ _
  rw [this]

/-- A transposed block, rounded, as a block of four dimensions. -/
theorem turned (X : FVec Ideal S128x256 .f32) (h hb h') (j : S1x1x256x128.Idx) :
    shapeCast S1x1x256x128 (truncf .bf16 (transpose S256x128 [1, 0] X h) hb) h' j = X (ix2 (j 3) (j 2)) := by
  pointwise

/-- A block of the gradient of the queries. -/
theorem piece13 (hh : Fin 2) (n a : ℕ) (hn : n = hh) (KT : FVec Ideal S128x1024 .bf16) (D : Fin 2 → S1024x1024.Idx → EReal) (s : Elt Ideal .f32)
    (X : FVec Ideal S256x1024 .bf16) (h hb h')
    (hX : ∀ (x : S256x1024.Idx) (r c : Fin 1024), (r : ℕ) = a + x 0 → (c : ℕ) = x 1 → X x = D hh (ix2 r c))
    (ib : ∀ x, ![0, n, a, 0] x + S1x1x256x128.size x ≤ S1x2x1024x128.size x) (j : S1x1x256x128.Idx) :
    shapeCast S1x1x256x128 (truncf .bf16 (transpose S256x128 [1, 0] (mulf (matmul dot_S128x1024_S256x1024_S128x256_1_1_0_0_n_n none KT X
      (constant S128x256 .f32 0x00000000#32)) (broadcast S128x256 s)) h) hb) h' j
      = (fun y : S1x2x1024x128.Idx => rowSum KT (D (y 1)) (y 2) (y 3) * s)
        ((Rect.unit (s := S1x2x1024x128) ![0, n, a, 0] S1x1x256x128.size ib).emb j) := by
  have e1 : ((Rect.unit (s := S1x2x1024x128) ![0, n, a, 0] S1x1x256x128.size ib).emb j) 1 = hh := by
    apply Fin.ext; subst hn; blk_simp
  have e2 : (((Rect.unit (s := S1x2x1024x128) ![0, n, a, 0] S1x1x256x128.size ib).emb j 2 : Fin 1024) : ℕ) = a + j 2 := by blk_simp
  have e3 : (((Rect.unit (s := S1x2x1024x128) ![0, n, a, 0] S1x1x256x128.size ib).emb j 3 : Fin 128) : ℕ) = j 3 := by blk_simp
  rw [turned]
  show _ = rowSum KT (D _) _ _ * s
  rw [e1, ← rowSum_at a KT (D hh) X hX (ix2 (j 3) (j 2)) _ _ e2 e3]
  rfl

/-- The sum of a block of one head and of one product of the other. -/
theorem piece14 (a : ℕ) (Y : Vec Ideal S128x256 .f32) (g : S128x1024.Idx → EReal)
    (hY : ∀ (x : S128x256.Idx) (d : Fin 128) (k : Fin 1024), (d : ℕ) = x 0 → (k : ℕ) = a + x 1 → Y x = g (ix2 d k))
    (Q : FVec Ideal S1024x128 .bf16) (D : S1024x1024.Idx → EReal) (s : Elt Ideal .f32)
    (X : FVec Ideal S1024x256 .bf16) (ht h hb h')
    (hX : ∀ (x : S1024x256.Idx) (r c : Fin 1024), (r : ℕ) = x 0 → (c : ℕ) = a + x 1 → X x = D (ix2 r c))
    (ib : ∀ x, ![0, 0, a, 0] x + S1x1x256x128.size x ≤ S1x1x1024x128.size x) (j : S1x1x256x128.Idx) :
    shapeCast S1x1x256x128 (truncf .bf16 (transpose S256x128 [1, 0] (addf Y (mulf (matmul dot_S128x1024_S1024x256_S128x256_1_0_0_1_n_n none
      (transpose S128x1024 [1, 0] Q ht) X (constant S128x256 .f32 0x00000000#32)) (broadcast S128x256 s))) h) hb) h' j
      = (fun y : S1x1x1024x128.Idx => g (ix2 (y 3) (y 2)) + colSum Q D (y 2) (y 3) * s)
        ((Rect.unit (s := S1x1x1024x128) ![0, 0, a, 0] S1x1x256x128.size ib).emb j) := by
  have e2 : (((Rect.unit (s := S1x1x1024x128) ![0, 0, a, 0] S1x1x256x128.size ib).emb j 2 : Fin 1024) : ℕ) = a + j 2 := by blk_simp
  have e3 : (((Rect.unit (s := S1x1x1024x128) ![0, 0, a, 0] S1x1x256x128.size ib).emb j 3 : Fin 128) : ℕ) = j 3 := by blk_simp
  rw [turned]
  show _ = g _ + colSum Q D _ _ * s
  rw [← colSum_at a Q D X ht hX (ix2 (j 3) (j 2)) _ _ e2 e3, ← hY (ix2 (j 3) (j 2)) _ _ e3 e2]
  rfl

/-- The same without a scale. -/
theorem piece15 (a : ℕ) (Y : Vec Ideal S128x256 .f32) (g : S128x1024.Idx → EReal)
    (hY : ∀ (x : S128x256.Idx) (d : Fin 128) (k : Fin 1024), (d : ℕ) = x 0 → (k : ℕ) = a + x 1 → Y x = g (ix2 d k))
    (Q : FVec Ideal S1024x128 .bf16) (D : S1024x1024.Idx → EReal)
    (X : FVec Ideal S1024x256 .bf16) (ht h hb h')
    (hX : ∀ (x : S1024x256.Idx) (r c : Fin 1024), (r : ℕ) = x 0 → (c : ℕ) = a + x 1 → X x = D (ix2 r c))
    (ib : ∀ x, ![0, 0, a, 0] x + S1x1x256x128.size x ≤ S1x1x1024x128.size x) (j : S1x1x256x128.Idx) :
    shapeCast S1x1x256x128 (truncf .bf16 (transpose S256x128 [1, 0] (addf Y (matmul dot_S128x1024_S1024x256_S128x256_1_0_0_1_n_n none
      (transpose S128x1024 [1, 0] Q ht) X (constant S128x256 .f32 0x00000000#32))) h) hb) h' j
      = (fun y : S1x1x1024x128.Idx => g (ix2 (y 3) (y 2)) + colSum Q D (y 2) (y 3))
        ((Rect.unit (s := S1x1x1024x128) ![0, 0, a, 0] S1x1x256x128.size ib).emb j) := by
  have e2 : (((Rect.unit (s := S1x1x1024x128) ![0, 0, a, 0] S1x1x256x128.size ib).emb j 2 : Fin 1024) : ℕ) = a + j 2 := by blk_simp
  have e3 : (((Rect.unit (s := S1x1x1024x128) ![0, 0, a, 0] S1x1x256x128.size ib).emb j 3 : Fin 128) : ℕ) = j 3 := by blk_simp
  rw [turned]
  show _ = g _ + colSum Q D _ _
  rw [← colSum_at a Q D X ht hX (ix2 (j 3) (j 2)) _ _ e2 e3, ← hY (ix2 (j 3) (j 2)) _ _ e3 e2]
  rfl

/-- What a load of 256 rows of scores reads. -/
theorem loadRows {sp : Space} (v : View sig .tc sp S1024x1024 .bf16) (G : S1024x1024.Idx → EReal) (L : List (View.Piece (Elt Ideal) S1024x1024 .bf16))
    (h : View.PiecesOf G (L.take 16)) (hc : ∀ y, ∃ p ∈ L.take 16, y ∈ p.1.set) (a : ℕ) (ib) (x : S256x1024.Idx) (r c : Fin 1024)
    (hr : (r : ℕ) = a + x 0) (hk : (c : ℕ) = x 1) :
    v.readCov L (Rect.unit (s := S1024x1024) ![a, 0] S256x1024.size ib).toLoadRect x = G (ix2 r c) := by
  rw [readCov_of v G 16 L h hc]; blk_ext

/-- What a load of 256 columns of scores reads. -/
theorem loadCols {sp : Space} (v : View sig .tc sp S1024x1024 .bf16) (G : S1024x1024.Idx → EReal) (L : List (View.Piece (Elt Ideal) S1024x1024 .bf16))
    (h : View.PiecesOf G (L.take 16)) (hc : ∀ y, ∃ p ∈ L.take 16, y ∈ p.1.set) (a : ℕ) (ib) (x : S1024x256.Idx) (r c : Fin 1024)
    (hr : (r : ℕ) = x 0) (hk : (c : ℕ) = a + x 1) :
    v.readCov L (Rect.unit (s := S1024x1024) ![0, a] S1024x256.size ib).toLoadRect x = G (ix2 r c) := by
  rw [readCov_of v G 16 L h hc]; blk_ext

/-- What a load of 256 columns of the first head's part reads. -/
theorem loadAcc {sp : Space} (v : View sig .tc sp S128x1024 .f32) (G : S128x1024.Idx → EReal) (L : List (View.Piece (Elt Ideal) S128x1024 .f32))
    (h : View.PiecesOf G (L.take 4)) (hc : ∀ y, ∃ p ∈ L.take 4, y ∈ p.1.set) (a : ℕ) (ib) (x : S128x256.Idx) (d : Fin 128) (k : Fin 1024)
    (hr : (d : ℕ) = x 0) (hk : (k : ℕ) = a + x 1) :
    v.readCov L (Rect.unit (s := S128x1024) ![0, a] S128x256.size ib).toLoadRect x = G (ix2 d k) := by
  rw [readCov_of v G 4 L h hc]; blk_ext

theorem inb_acc (a : ℕ) (h : a + 256 ≤ 1024) : ∀ x, ![0, a] x + S128x256.size x ≤ S128x1024.size x := by
  intro x; fin_cases x
  · exact Nat.le_refl 128
  · exact h

theorem inb_out (n a : ℕ) (hn : n + 1 ≤ 2) (h : a + 256 ≤ 1024) : ∀ x, ![0, n, a, 0] x + S1x1x256x128.size x ≤ S1x2x1024x128.size x := by
  intro x; fin_cases x
  · exact Nat.le_refl 1
  · exact hn
  · exact h
  · exact Nat.le_refl 128

theorem inb_out' (a : ℕ) (h : a + 256 ≤ 1024) : ∀ x, ![0, 0, a, 0] x + S1x1x256x128.size x ≤ S1x1x1024x128.size x := by
  intro x; fin_cases x
  · exact Nat.le_refl 1
  · exact Nat.le_refl 1
  · exact h
  · exact Nat.le_refl 128

variable (c : Dev nD) (i : grid0.Coords) (arg2 : Memref sig .tc .smem S3x2x32 .f32) (harg2 : arg2.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg19 : Memref sig .tc .vmem S1024x1024 .bf16) (arg20 : Memref sig .tc .vmem S1024x1024 .bf16) (arg22 : Memref sig .tc .vmem S2x1024x128 .f32) (arg23 arg24 : Memref sig .tc .vmem S128x1024 .f32)
  (x0 : Vec Ideal S3x2x32 .f32) (x3 : Vec Ideal S1x2x1024x128 .fp8e4m3) (x4 : Vec Ideal S1x2x1024x128 .fp8e5m2) (x5 : Vec Ideal S1x2x1024x128 .bf16) (x6 : Vec Ideal S1x1x1024x128 .fp8e4m3) (x7 : Vec Ideal S1x1x1024x128 .fp8e4m3) (x8 : Vec Ideal S1x2x1x1024 .f32) (x9 : Vec Ideal S1x1024x128 .f32) (x10 : Vec Ideal S1x1024x1024 .f32)
  (dc : Fin 1024 → EReal) (h9 : ∀ r l, x9 (ix3 0 r l) = dc r)
  (arg19 arg20 : Memref sig .tc .vmem S1024x1024 .bf16) (arg23 arg24 : Memref sig .tc .vmem S128x1024 .f32)

include h9 in
/-- The first head's part of the gradient of the keys. -/
theorem acc5 : View.PiecesOf (fun y : S128x1024.Idx => colSum (kernelRun.sl.r_6 (F := Ideal) c arg5 harg5 x3) (dsG0 c i arg2 harg2 arg5 harg5 arg6 harg6 arg8 harg8 arg9 harg9 x0 x3 x4 x5 x6 x7 x8 x10 dc) (y 1) (y 0) * (Scalar.mulf (F := Ideal) (φ := .f32) sm (kernelRun.sl.r_2 (F := Ideal) c i arg2 harg2 x0))) (List.take 4 (kernelRun.sl.HS5_4 (F := Ideal) c i arg2 harg2 arg5 harg5 arg6 harg6 arg7 harg7 arg8 harg8 arg9 harg9 arg10 harg10 arg11 harg11 arg12 harg12 arg19 arg22 x0 x3 x4 x5 x6 x7 x8 x9 x10)) := by
  refine ⟨?_, ?_, ?_, ?_, trivial⟩
  all_goals exact piece5 _ _ (dsG0 c i arg2 harg2 arg5 harg5 arg6 harg6 arg8 harg8 arg9 harg9 x0 x3 x4 x5 x6 x7 x8 x10 dc) _ _ _ _ (loadCols _ _ _ (tiles0_0 c i arg2 harg2 arg5 harg5 arg6 harg6 arg7 harg7 arg8 harg8 arg9 harg9 arg10 harg10 arg11 harg11 arg12 harg12 arg22 x0 x3 x4 x5 x6 x7 x8 x9 x10 dc h9) (tiles0_0_cover c i arg2 harg2 arg5 harg5 arg6 harg6 arg7 harg7 arg8 harg8 arg9 harg9 arg10 harg10 arg11 harg11 arg12 harg12 arg22 x0 x3 x4 x5 x6 x7 x8 x9 x10) _ _) (inb_acc _ (by decide))

theorem acc5_cover (y : S128x1024.Idx) : ∃ p ∈ List.take 4 (kernelRun.sl.HS5_4 (F := Ideal) c i arg2 harg2 arg5 harg5 arg6 harg6 arg7 harg7 arg8 harg8 arg9 harg9 arg10 harg10 arg11 harg11 arg12 harg12 arg19 arg22 x0 x3 x4 x5 x6 x7 x8 x9 x10), y ∈ p.1.set :=
  View.cover_of_tiledL (s := S128x1024) _ S128x256.size (by sl_kernel_rfl) y

include h9 in
/-- The first head's part of the gradient of the values. -/
theorem acc4 : View.PiecesOf (fun y : S128x1024.Idx => colSum (kernelRun.sl.r_7 (F := Ideal) c arg6 harg6 x4) (pdG0 c i arg2 harg2 arg5 harg5 arg8 harg8 x0 x3 x4 x5 x6 x8 x10 dc) (y 1) (y 0)) (List.take 4 (kernelRun.sl.HS4_4 (F := Ideal) c i arg2 harg2 arg5 harg5 arg6 harg6 arg7 harg7 arg8 harg8 arg10 harg10 arg11 harg11 arg12 harg12 arg20 arg22 x0 x3 x4 x5 x6 x8 x9 x10)) := by
  refine ⟨?_, ?_, ?_, ?_, trivial⟩
  all_goals exact piece4 _ _ (pdG0 c i arg2 harg2 arg5 harg5 arg8 harg8 x0 x3 x4 x5 x6 x8 x10 dc) _ _ _ (loadCols _ _ _ (tiles1_0 c i arg2 harg2 arg5 harg5 arg6 harg6 arg7 harg7 arg8 harg8 arg10 harg10 arg11 harg11 arg12 harg12 arg22 x0 x3 x4 x5 x6 x8 x9 x10 dc h9) (tiles1_0_cover c i arg2 harg2 arg5 harg5 arg6 harg6 arg7 harg7 arg8 harg8 arg10 harg10 arg11 harg11 arg12 harg12 arg22 x0 x3 x4 x5 x6 x8 x9 x10) _ _) (inb_acc _ (by decide))

theorem acc4_cover (y : S128x1024.Idx) : ∃ p ∈ List.take 4 (kernelRun.sl.HS4_4 (F := Ideal) c i arg2 harg2 arg5 harg5 arg6 harg6 arg7 harg7 arg8 harg8 arg10 harg10 arg11 harg11 arg12 harg12 arg20 arg22 x0 x3 x4 x5 x6 x8 x9 x10), y ∈ p.1.set :=
  View.cover_of_tiledL (s := S128x1024) _ S128x256.size (by sl_kernel_rfl) y

/-- The block of the gradient of the queries. -/
def dqG (y : S1x2x1024x128.Idx) : EReal :=
  rowSum (kernelRun.sl.r_3 (F := Ideal) c arg8 harg8 x6) (![(dsG0 c i arg2 harg2 arg5 harg5 arg6 harg6 arg8 harg8 arg9 harg9 x0 x3 x4 x5 x6 x7 x8 x10 dc), (dsG1 c i arg2 harg2 arg5 harg5 arg6 harg6 arg8 harg8 arg9 harg9 x0 x3 x4 x5 x6 x7 x8 x10 dc)] (y 1)) (y 2) (y 3) * (Scalar.mulf (F := Ideal) (φ := .f32) sm (kernelRun.sl.r (F := Ideal) c i arg2 harg2 x0))

/-- The block of the gradient of the keys. -/
def dkG (y : S1x1x1024x128.Idx) : EReal :=
  colSum (kernelRun.sl.r_6 (F := Ideal) c arg5 harg5 x3) (dsG0 c i arg2 harg2 arg5 harg5 arg6 harg6 arg8 harg8 arg9 harg9 x0 x3 x4 x5 x6 x7 x8 x10 dc) (y 2) (y 3) * (Scalar.mulf (F := Ideal) (φ := .f32) sm (kernelRun.sl.r_2 (F := Ideal) c i arg2 harg2 x0)) + colSum (kernelRun.sl.r_15 (F := Ideal) c arg5 harg5 x3) (dsG1 c i arg2 harg2 arg5 harg5 arg6 harg6 arg8 harg8 arg9 harg9 x0 x3 x4 x5 x6 x7 x8 x10 dc) (y 2) (y 3) * (Scalar.mulf (F := Ideal) (φ := .f32) sm (kernelRun.sl.r_13 (F := Ideal) c i arg2 harg2 x0))

/-- The block of the gradient of the values. -/
def dvG (y : S1x1x1024x128.Idx) : EReal :=
  colSum (kernelRun.sl.r_7 (F := Ideal) c arg6 harg6 x4) (pdG0 c i arg2 harg2 arg5 harg5 arg8 harg8 x0 x3 x4 x5 x6 x8 x10 dc) (y 2) (y 3) + colSum (kernelRun.sl.r_16 (F := Ideal) c arg6 harg6 x4) (pdG1 c i arg2 harg2 arg5 harg5 arg8 harg8 x0 x3 x4 x5 x6 x8 x10 dc) (y 2) (y 3)

include h9 in
/-- The stores of the gradient of the queries. -/
theorem outs13 : View.PiecesOf (dqG c i arg2 harg2 arg5 harg5 arg6 harg6 arg8 harg8 arg9 harg9 x0 x3 x4 x5 x6 x7 x8 x10 dc) (kernelRun.sl.H13_8 (F := Ideal) c i arg2 harg2 arg5 harg5 arg6 harg6 arg7 harg7 arg8 harg8 arg9 harg9 arg10 harg10 arg11 harg11 arg12 harg12 arg19 arg22 x0 x3 x4 x5 x6 x7 x8 x9 x10) := by
  refine ⟨?_, ?_, ?_, ?_, ?_, ?_, ?_, ?_, trivial⟩
  iterate 4 (exact piece13 1 1 _ rfl _ ![(dsG0 c i arg2 harg2 arg5 harg5 arg6 harg6 arg8 harg8 arg9 harg9 x0 x3 x4 x5 x6 x7 x8 x10 dc), (dsG1 c i arg2 harg2 arg5 harg5 arg6 harg6 arg8 harg8 arg9 harg9 x0 x3 x4 x5 x6 x7 x8 x10 dc)] _ _ _ _ _ (loadRows _ _ _ (tiles0_1 c i arg2 harg2 arg5 harg5 arg6 harg6 arg7 harg7 arg8 harg8 arg9 harg9 arg10 harg10 arg11 harg11 arg12 harg12 arg22 x0 x3 x4 x5 x6 x7 x8 x9 x10 dc h9) (tiles0_1_cover c i arg2 harg2 arg5 harg5 arg6 harg6 arg7 harg7 arg8 harg8 arg9 harg9 arg10 harg10 arg11 harg11 arg12 harg12 arg22 x0 x3 x4 x5 x6 x7 x8 x9 x10) _ _) (inb_out _ _ (by decide) (by decide)))
  all_goals exact piece13 0 0 _ rfl _ ![(dsG0 c i arg2 harg2 arg5 harg5 arg6 harg6 arg8 harg8 arg9 harg9 x0 x3 x4 x5 x6 x7 x8 x10 dc), (dsG1 c i arg2 harg2 arg5 harg5 arg6 harg6 arg8 harg8 arg9 harg9 x0 x3 x4 x5 x6 x7 x8 x10 dc)] _ _ _ _ _ (loadRows _ _ _ (tiles0_0 c i arg2 harg2 arg5 harg5 arg6 harg6 arg7 harg7 arg8 harg8 arg9 harg9 arg10 harg10 arg11 harg11 arg12 harg12 arg22 x0 x3 x4 x5 x6 x7 x8 x9 x10 dc h9) (tiles0_0_cover c i arg2 harg2 arg5 harg5 arg6 harg6 arg7 harg7 arg8 harg8 arg9 harg9 arg10 harg10 arg11 harg11 arg12 harg12 arg22 x0 x3 x4 x5 x6 x7 x8 x9 x10) _ _) (inb_out _ _ (by decide) (by decide))

include h9 in
/-- The stores of the gradient of the keys. -/
theorem outs14 : View.PiecesOf (dkG c i arg2 harg2 arg5 harg5 arg6 harg6 arg8 harg8 arg9 harg9 x0 x3 x4 x5 x6 x7 x8 x10 dc) (kernelRun.sl.H14_4 (F := Ideal) c i arg2 harg2 arg5 harg5 arg6 harg6 arg7 harg7 arg8 harg8 arg9 harg9 arg10 harg10 arg11 harg11 arg12 harg12 arg19 arg22 arg24 x0 x3 x4 x5 x6 x7 x8 x9 x10) := by
  refine ⟨?_, ?_, ?_, ?_, trivial⟩
  all_goals exact piece14 _ _ (fun y : S128x1024.Idx => colSum (kernelRun.sl.r_6 (F := Ideal) c arg5 harg5 x3) (dsG0 c i arg2 harg2 arg5 harg5 arg6 harg6 arg8 harg8 arg9 harg9 x0 x3 x4 x5 x6 x7 x8 x10 dc) (y 1) (y 0) * (Scalar.mulf (F := Ideal) (φ := .f32) sm (kernelRun.sl.r_2 (F := Ideal) c i arg2 harg2 x0))) (loadAcc _ _ _ (acc5 c i arg2 harg2 arg5 harg5 arg6 harg6 arg7 harg7 arg8 harg8 arg9 harg9 arg10 harg10 arg11 harg11 arg12 harg12 arg22 x0 x3 x4 x5 x6 x7 x8 x9 x10 dc h9 arg19) (acc5_cover c i arg2 harg2 arg5 harg5 arg6 harg6 arg7 harg7 arg8 harg8 arg9 harg9 arg10 harg10 arg11 harg11 arg12 harg12 arg22 x0 x3 x4 x5 x6 x7 x8 x9 x10 arg19) _ _) _ (dsG1 c i arg2 harg2 arg5 harg5 arg6 harg6 arg8 harg8 arg9 harg9 x0 x3 x4 x5 x6 x7 x8 x10 dc) _ _ _ _ _ _ (loadCols _ _ _ (tiles0_1 c i arg2 harg2 arg5 harg5 arg6 harg6 arg7 harg7 arg8 harg8 arg9 harg9 arg10 harg10 arg11 harg11 arg12 harg12 arg22 x0 x3 x4 x5 x6 x7 x8 x9 x10 dc h9) (tiles0_1_cover c i arg2 harg2 arg5 harg5 arg6 harg6 arg7 harg7 arg8 harg8 arg9 harg9 arg10 harg10 arg11 harg11 arg12 harg12 arg22 x0 x3 x4 x5 x6 x7 x8 x9 x10) _ _) (inb_out' _ (by decide))

include h9 in
/-- The stores of the gradient of the values. -/
theorem outs15 : View.PiecesOf (dvG c i arg2 harg2 arg5 harg5 arg6 harg6 arg8 harg8 x0 x3 x4 x5 x6 x8 x10 dc) (kernelRun.sl.H15_4 (F := Ideal) c i arg2 harg2 arg5 harg5 arg6 harg6 arg7 harg7 arg8 harg8 arg10 harg10 arg11 harg11 arg12 harg12 arg20 arg22 arg23 x0 x3 x4 x5 x6 x8 x9 x10) := by
  refine ⟨?_, ?_, ?_, ?_, trivial⟩
  all_goals exact piece15 _ _ (fun y : S128x1024.Idx => colSum (kernelRun.sl.r_7 (F := Ideal) c arg6 harg6 x4) (pdG0 c i arg2 harg2 arg5 harg5 arg8 harg8 x0 x3 x4 x5 x6 x8 x10 dc) (y 1) (y 0)) (loadAcc _ _ _ (acc4 c i arg2 harg2 arg5 harg5 arg6 harg6 arg7 harg7 arg8 harg8 arg10 harg10 arg11 harg11 arg12 harg12 arg22 x0 x3 x4 x5 x6 x8 x9 x10 dc h9 arg20) (acc4_cover c i arg2 harg2 arg5 harg5 arg6 harg6 arg7 harg7 arg8 harg8 arg10 harg10 arg11 harg11 arg12 harg12 arg22 x0 x3 x4 x5 x6 x8 x9 x10 arg20) _ _) _ (pdG1 c i arg2 harg2 arg5 harg5 arg8 harg8 x0 x3 x4 x5 x6 x8 x10 dc) _ _ _ _ _ (loadCols _ _ _ (tiles1_1 c i arg2 harg2 arg5 harg5 arg6 harg6 arg7 harg7 arg8 harg8 arg10 harg10 arg11 harg11 arg12 harg12 arg22 x0 x3 x4 x5 x6 x8 x9 x10 dc h9) (tiles1_1_cover c i arg2 harg2 arg5 harg5 arg6 harg6 arg7 harg7 arg8 harg8 arg10 harg10 arg11 harg11 arg12 harg12 arg22 x0 x3 x4 x5 x6 x8 x9 x10) _ _) (inb_out' _ (by decide))

end Cert.KernelIdeal.Proof
-- ==== Proof.Gradients.lean ====
/- The gradients of one block of attention as sums over extended reals: as the kernel computes them, with the powers of two
   taken at once, and as the reference does, with the scale of each row of `do` inside its sums; and that the two agree. -/
module

public import Idealize.ShloMosaic.PureOps.Ideal
public import Mathlib.Data.EReal.Operations

@[expose] public section

noncomputable section

namespace Cert.Gradients

open Idealize.ShloMosaic

/-- The arguments, at coordinates: the codes of queries, keys, values and `do`, with their scales; `o`, the rows' logarithms,
    and the bias. -/
structure Args where
  q : Fin 2 → Fin 1024 → Fin 32 → Fin 128 → EReal
  qs : Fin 2 → Fin 32 → EReal
  k : Fin 2 → Fin 1024 → Fin 16 → Fin 128 → EReal
  ks : Fin 2 → Fin 16 → EReal
  v : Fin 2 → Fin 1024 → Fin 16 → Fin 128 → EReal
  vs : Fin 2 → Fin 16 → EReal
  o : Fin 2 → Fin 1024 → Fin 32 → Fin 128 → EReal
  lse : Fin 2 → Fin 1024 → Fin 32 → EReal
  dout : Fin 2 → Fin 1024 → Fin 32 → Fin 128 → EReal
  dsc : Fin 2 → Fin 1024 → EReal
  bias : Fin 2 → Fin 1024 → Fin 1024 → EReal

/-- The two query heads of a key head. -/
def hd (n : Fin 16) (g : Fin 2) : Fin 32 := ⟨2 * n.val + g.val, by omega⟩

/-- The key head of a query head. -/
def kvOf (h : Fin 32) : Fin 16 := ⟨h.val / 2, by omega⟩

/-- A query head's place among the two of its key head. -/
def grpOf (h : Fin 32) : Fin 2 := ⟨h.val % 2, by omega⟩

theorem hd_kvOf (h : Fin 32) : hd (kvOf h) (grpOf h) = h := by
  apply Fin.ext; simp only [hd, kvOf, grpOf]; omega

variable (sm lg : EReal) (A : Args) (b : Fin 2) (n : Fin 16) (g : Fin 2)

/-- Queries against keys. -/
def qk (r c : Fin 1024) : EReal := ∑ d : Fin 128, A.q b r (hd n g) d * A.k b c n d

/-- `do` against values. -/
def dov (r c : Fin 1024) : EReal := ∑ d : Fin 128, A.dout b r (hd n g) d * A.v b c n d

/-- The kernel's probabilities times the rows' scales. -/
def kPd (r c : Fin 1024) : EReal :=
  Ideal.exp2 (qk A b n g r c * (sm * A.qs b (hd n g) * A.ks b n * lg) + A.bias b r c - A.lse b r (hd n g) * lg) * A.dsc b r

/-- The kernel's derivatives of the scores. -/
def kDs (r c : Fin 1024) : EReal :=
  kPd sm lg A b n g r c * (dov A b n g r c * A.vs b n - ∑ d : Fin 128, A.dout b r (hd n g) d * A.o b r (hd n g) d)

/-- The kernel's gradient of the queries. -/
def kDq (r : Fin 1024) (d : Fin 128) : EReal := (∑ c : Fin 1024, A.k b c n d * kDs sm lg A b n g r c) * (sm * A.ks b n)

/-- One query head's part of the kernel's gradient of the keys. -/
def kDk1 (c : Fin 1024) (d : Fin 128) : EReal :=
  (∑ r : Fin 1024, A.q b r (hd n g) d * kDs sm lg A b n g r c) * (sm * A.qs b (hd n g))

/-- One query head's part of the kernel's gradient of the values. -/
def kDv1 (c : Fin 1024) (d : Fin 128) : EReal := ∑ r : Fin 1024, A.dout b r (hd n g) d * kPd sm lg A b n g r c

/-- The reference's probabilities. -/
def rP (r c : Fin 1024) : EReal :=
  Ideal.exp2 (A.bias b r c) * Ideal.exp (sm * A.qs b (hd n g) * A.ks b n * qk A b n g r c - A.lse b r (hd n g))

/-- The reference's derivatives of the scores. -/
def rDs (r c : Fin 1024) : EReal :=
  rP sm A b n g r c * (A.dsc b r * A.vs b n * dov A b n g r c
    - ∑ d : Fin 128, A.dout b r (hd n g) d * A.dsc b r * A.o b r (hd n g) d)

/-- The reference's gradient of the queries. -/
def rDq (r : Fin 1024) (d : Fin 128) : EReal := sm * A.ks b n * ∑ c : Fin 1024, rDs sm A b n g r c * A.k b c n d

/-- The reference's gradient of the keys. -/
def rDk (c : Fin 1024) (d : Fin 128) : EReal :=
  ∑ g : Fin 2, sm * A.qs b (hd n g) * ∑ r : Fin 1024, rDs sm A b n g r c * A.q b r (hd n g) d

/-- The reference's gradient of the values. -/
def rDv (c : Fin 1024) (d : Fin 128) : EReal :=
  ∑ g : Fin 2, ∑ r : Fin 1024, rP sm A b n g r c * A.dsc b r * A.dout b r (hd n g) d

/-- The power of two of a sum, at every pair of extended reals: where one is `⊥`, both sides are zero. -/
theorem exp2_add (x y : EReal) : Ideal.exp2 (x + y) = Ideal.exp2 x * Ideal.exp2 y := by
  induction x with
  | bot => simp
  | top =>
    induction y with
    | bot => simp
    | top => simp
    | coe y =>
      rw [EReal.top_add_coe, Ideal.exp2_top, Ideal.exp2_coe]
      exact (EReal.top_mul_coe_of_pos (Real.rpow_pos_of_pos two_pos y)).symm
  | coe x =>
    induction y with
    | bot => simp
    | top =>
      rw [EReal.coe_add_top, Ideal.exp2_top, Ideal.exp2_coe]
      exact (EReal.coe_mul_top_of_pos (Real.rpow_pos_of_pos two_pos x)).symm
    | coe y =>
      rw [← EReal.coe_add, Ideal.exp2_coe, Ideal.exp2_coe, Ideal.exp2_coe, ← EReal.coe_mul]
      exact congrArg _ (Real.rpow_add two_pos x y)

theorem inv_log_pos : 0 < (Real.log 2)⁻¹ := inv_pos.mpr (Real.log_pos one_lt_two)

/-- The power of two of `x / log 2` is the exponential of `x`. -/
theorem exp2_mul_inv_log (x : EReal) : Ideal.exp2 (x * (((Real.log 2)⁻¹ : ℝ) : EReal)) = Ideal.exp x := by
  induction x with
  | bot => rw [EReal.bot_mul_coe_of_pos inv_log_pos]; rfl
  | top => rw [EReal.top_mul_coe_of_pos inv_log_pos]; rfl
  | coe x =>
    rw [← EReal.coe_mul, Ideal.exp2_coe, Ideal.exp_coe]
    refine congrArg _ ?_
    show (2 : ℝ) ^ (x * (Real.log 2)⁻¹) = Real.exp x
    rw [Real.rpow_def_of_pos two_pos]
    have h : Real.log 2 ≠ 0 := (Real.log_pos one_lt_two).ne'
    congr 1; field_simp

/-- A positive real distributes over a difference. -/
theorem sub_mul_coe (x y : EReal) (l : ℝ) (hl : 0 < l) : (x - y) * (l : EReal) = x * (l : EReal) - y * (l : EReal) := by
  have h0 : (0 : EReal) ≤ (l : EReal) := EReal.coe_nonneg.mpr hl.le
  rw [sub_eq_add_neg, EReal.right_distrib_of_nonneg_of_ne_top h0 (EReal.coe_ne_top l), EReal.neg_mul, ← sub_eq_add_neg]

/-- The kernel's probabilities are the reference's, times the rows' scales. -/
theorem kPd_eq (r c : Fin 1024) :
    kPd sm (((Real.log 2)⁻¹ : ℝ) : EReal) A b n g r c = rP sm A b n g r c * A.dsc b r := by
  unfold kPd rP
  refine congrArg (· * A.dsc b r) ?_
  have e : qk A b n g r c * (sm * A.qs b (hd n g) * A.ks b n * (((Real.log 2)⁻¹ : ℝ) : EReal)) + A.bias b r c
        - A.lse b r (hd n g) * (((Real.log 2)⁻¹ : ℝ) : EReal)
      = A.bias b r c + (sm * A.qs b (hd n g) * A.ks b n * qk A b n g r c - A.lse b r (hd n g)) * (((Real.log 2)⁻¹ : ℝ) : EReal) := by
    rw [sub_mul_coe _ _ _ inv_log_pos, sub_eq_add_neg, sub_eq_add_neg, ← mul_assoc, mul_comm (qk A b n g r c) _, add_right_comm, add_comm]
  rw [e, exp2_add, exp2_mul_inv_log]

/-- A scale that is finite and not negative distributes over a sum. -/
theorem mul_sum (x : EReal) (h0 : 0 ≤ x) (ht : x ≠ ⊤) {ι : Type} (s : Finset ι) (f : ι → EReal) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 ht, ih]

/-- The kernel's derivatives of the scores are the reference's. -/
theorem kDs_eq (hd0 : ∀ b r, 0 ≤ A.dsc b r) (hdt : ∀ b r, A.dsc b r ≠ ⊤) (r c : Fin 1024) :
    kDs sm (((Real.log 2)⁻¹ : ℝ) : EReal) A b n g r c = rDs sm A b n g r c := by
  unfold kDs rDs
  rw [kPd_eq, mul_assoc]
  refine congrArg (rP sm A b n g r c * ·) ?_
  rw [sub_eq_add_neg, sub_eq_add_neg, EReal.left_distrib_of_nonneg_of_ne_top (hd0 b r) (hdt b r), mul_neg,
    mul_sum _ (hd0 b r) (hdt b r)]
  refine congrArg₂ (· + ·) ?_ (congrArg Neg.neg (Finset.sum_congr rfl fun d _ => ?_))
  · rw [mul_comm (dov A b n g r c), mul_assoc]
  · rw [← mul_assoc, mul_comm (A.dsc b r)]

theorem kDq_eq (hd0 : ∀ b r, 0 ≤ A.dsc b r) (hdt : ∀ b r, A.dsc b r ≠ ⊤) (r : Fin 1024) (d : Fin 128) :
    kDq sm (((Real.log 2)⁻¹ : ℝ) : EReal) A b n g r d = rDq sm A b n g r d := by
  unfold kDq rDq
  rw [mul_comm]
  exact congrArg _ (Finset.sum_congr rfl fun c _ => by rw [kDs_eq sm A b n g hd0 hdt, mul_comm])

theorem kDk_eq (hd0 : ∀ b r, 0 ≤ A.dsc b r) (hdt : ∀ b r, A.dsc b r ≠ ⊤) (c : Fin 1024) (d : Fin 128) :
    kDk1 sm (((Real.log 2)⁻¹ : ℝ) : EReal) A b n 0 c d + kDk1 sm (((Real.log 2)⁻¹ : ℝ) : EReal) A b n 1 c d = rDk sm A b n c d := by
  unfold rDk
  rw [Fin.sum_univ_two]
  refine congrArg₂ (· + ·) ?_ ?_
  all_goals
    unfold kDk1
    rw [mul_comm]
    exact congrArg _ (Finset.sum_congr rfl fun r _ => by rw [kDs_eq sm A b n _ hd0 hdt, mul_comm])

theorem kDv_eq (c : Fin 1024) (d : Fin 128) :
    kDv1 sm (((Real.log 2)⁻¹ : ℝ) : EReal) A b n 0 c d + kDv1 sm (((Real.log 2)⁻¹ : ℝ) : EReal) A b n 1 c d = rDv sm A b n c d := by
  unfold rDv
  rw [Fin.sum_univ_two]
  refine congrArg₂ (· + ·) ?_ ?_
  all_goals
    unfold kDv1
    exact Finset.sum_congr rfl fun r _ => by rw [kPd_eq, mul_comm]

end Cert.Gradients
-- ==== Proof.KernelIdealBlocks.lean ====
module

public import proofs.«01_k».proof.Proof.KernelIdealProducts
public import proofs.«01_k».proof.Proof.KernelIdealBody
public import proofs.«01_k».proof.Proof.Gradients
public import Idealize.ShloMosaic.Lib.Pipeline.ValueKit
public import Idealize.ShloMosaic.Lib.Pipeline.ReadBack

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.Sem

open Cert.Gradients

variable (m : (ℓ : Loc nD τ sig) → Buf (Elt Ideal) ℓ)

theorem t_lt (t : Fin cfg0.N) : t.val < 32 := t.isLt

/-- The batch of a grid point. -/
def tb (t : Fin cfg0.N) : Fin 2 := ⟨t.val / 16, by have := t_lt t; omega⟩
/-- The key head of a grid point. -/
def tn (t : Fin cfg0.N) : Fin 16 := ⟨t.val % 16, by omega⟩

/-- The arguments at coordinates. -/
def argsOf (a0 : FVec Ideal S2x1024x32x128 .fp8e4m3) (a1 : FVec Ideal S2x32 .f32) (a2 : FVec Ideal S2x1024x16x128 .fp8e4m3)
    (a3 : FVec Ideal S2x16 .f32) (a4 : FVec Ideal S2x1024x16x128 .fp8e4m3) (a5 : FVec Ideal S2x16 .f32)
    (a6 : FVec Ideal S2x1024x32x128 .bf16) (a7 : FVec Ideal S2x1024x32 .f32) (a8 : FVec Ideal S2x1024x32x128 .fp8e5m2)
    (a9 : FVec Ideal S2x1024 .f32) (a10 : FVec Ideal S2x1024x1024 .f32) : Args where
  q b r h d := a0 (ix4 b r h d)
  qs b h := a1 (ix2 b h)
  k b r n d := a2 (ix4 b r n d)
  ks b n := a3 (ix2 b n)
  v b r n d := a4 (ix4 b r n d)
  vs b n := a5 (ix2 b n)
  o b r h d := a6 (ix4 b r h d)
  lse b r h := a7 (ix3 b r h)
  dout b r h d := a8 (ix4 b r h d)
  dsc b r := a9 (ix2 b r)
  bias b r c := a10 (ix3 b r c)

/-- The arguments of a run, at coordinates. -/
abbrev argsAt (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

theorem idx : ∀ t : Fin cfg0.N, win0_0.index t = ![0, 0, 0] ∧ win0_3.index t = ![t.val / 16, t.val % 16, 0, 0]
    ∧ win0_4.index t = ![t.val / 16, t.val % 16, 0, 0] ∧ win0_5.index t = ![t.val / 16, t.val % 16, 0, 0]
    ∧ win0_6.index t = ![t.val / 16, t.val % 16, 0, 0] ∧ win0_7.index t = ![t.val / 16, t.val % 16, 0, 0]
    ∧ win0_8.index t = ![t.val / 16, t.val % 16, 0, 0] ∧ win0_9.index t = ![t.val / 16, 0, 0]
    ∧ win0_10.index t = ![t.val / 16, 0, 0] ∧ win0_13.index t = ![t.val / 16, t.val % 16, 0, 0]
    ∧ win0_14.index t = ![t.val / 16, t.val % 16, 0, 0] ∧ win0_15.index t = ![t.val / 16, t.val % 16, 0, 0] :=
  (by decide +kernel : ∀ t : Fin grid0.N, _)

theorem offs : ∀ t : Fin cfg0.N, k0_off1 (grid0.coords t) = ![1, t.val / 16, t.val % 16]
    ∧ k0_off2 (grid0.coords t) = ![2, t.val / 16, t.val % 16] ∧ k0_off3 (grid0.coords t) = ![0, t.val / 16, 2 * (t.val % 16)]
    ∧ k0_off37 (grid0.coords t) = ![0, t.val / 16, 2 * (t.val % 16) + 1] :=
  (by decide +kernel : ∀ t : Fin grid0.N, _)

variable (c : Dev nD) (t : Fin cfg0.N)

theorem q_at (hh : Fin 2) (r : Fin 1024) (d : Fin 128) : iblk m c 3 t (ix4 0 hh r d) = (argsAt m c).q (tb t) r (hd (tn t) hh) d := by
  blk_simp [iblk]; entry_read; pointwise; blk_ext [idx t, tb, tn, hd]
theorem do_at (hh : Fin 2) (r : Fin 1024) (d : Fin 128) : iblk m c 4 t (ix4 0 hh r d) = (argsAt m c).dout (tb t) r (hd (tn t) hh) d := by
  blk_simp [iblk]; entry_read; pointwise; blk_ext [idx t, tb, tn, hd]
theorem o_at (hh : Fin 2) (r : Fin 1024) (d : Fin 128) : iblk m c 5 t (ix4 0 hh r d) = (argsAt m c).o (tb t) r (hd (tn t) hh) d := by
  blk_simp [iblk]; entry_read; pointwise; blk_ext [idx t, tb, tn, hd]
theorem k_at (r : Fin 1024) (d : Fin 128) : iblk m c 6 t (ix4 0 0 r d) = (argsAt m c).k (tb t) r (tn t) d := by
  blk_simp [iblk]; entry_read; pointwise; blk_ext [idx t, tb, tn, hd]
theorem v_at (r : Fin 1024) (d : Fin 128) : iblk m c 7 t (ix4 0 0 r d) = (argsAt m c).v (tb t) r (tn t) d := by
  blk_simp [iblk]; entry_read; pointwise; blk_ext [idx t, tb, tn, hd]
theorem lse_at (hh : Fin 2) (r : Fin 1024) : iblk m c 8 t (ix4 0 hh 0 r) = (argsAt m c).lse (tb t) r (hd (tn t) hh) := by
  blk_simp [iblk]; entry_read; pointwise; blk_ext [idx t, tb, tn, hd]
theorem dsc_at (r : Fin 1024) (l : Fin 128) : iblk m c 9 t (ix3 0 r l) = (argsAt m c).dsc (tb t) r := by
  blk_simp [iblk]; entry_read; pointwise; blk_ext [idx t, tb, tn, hd]
theorem bias_at (r k : Fin 1024) : iblk m c 10 t (ix3 0 r k) = (argsAt m c).bias (tb t) r k := by
  blk_ext [iblk, V_main_arg10, idx t, tb, tn, hd]

/-- The scales of a head count of 16 repeated for 32 heads. -/
def twice (x : FVec Ideal S2x16 .f32) : FVec Ideal S2x32 .f32 :=
  shapeCast S2x32 (broadcastInDim S1x2x2x16 ![0, 1, 2, 3] bcast_S1x2x1x16_S1x2x2x16_0_1_2_3
    (shapeCast S1x2x1x16 x shapeCasts_S2x16_S1x2x1x16)) shapeCasts_S1x2x2x16_S2x32

/-- The array of the scales as the kernel call gets it. -/
theorem sc_entry : V m c main_v9 = concatenate S3x2x32 0
    [⟨S1x2x32, broadcastInDim S1x2x32 ![1, 2] bcast_S2x32_S1x2x32_1_2 (m ((c : Thread nD τ).loc main_arg1))⟩,
     ⟨S1x2x32, broadcastInDim S1x2x32 ![1, 2] bcast_S2x32_S1x2x32_1_2 (twice (m ((c : Thread nD τ).loc main_arg3)))⟩,
     ⟨S1x2x32, broadcastInDim S1x2x32 ![1, 2] bcast_S2x32_S1x2x32_1_2 (twice (m ((c : Thread nD τ).loc main_arg5)))⟩]
    concatenates_S1x2x32_S1x2x32_S1x2x32_S3x2x32_d0 := by
  rfl

/-- The window of the scales is its array whole. -/
theorem sc_whole (x : S3x2x32.Idx) : iblk m c 0 t x = V m c main_v9 x := by
  blk_ext [iblk, idx t]

/-- Its three parts at a grid point: the scales of the queries, of the keys and of the values. -/
theorem qs_at (hh : Fin 2) : iblk m c 0 t (ix3 0 (tb t) (hd (tn t) hh)) = (argsAt m c).qs (tb t) (hd (tn t) hh) := by
  rw [sc_whole, sc_entry]; pointwise; rfl
theorem ks_at (n : Fin 32) (hn : (n : ℕ) = tn t) : iblk m c 0 t (ix3 1 (tb t) n) = (argsAt m c).ks (tb t) (tn t) := by
  have e : (⟨(n : ℕ) % 16, by omega⟩ : Fin 16) = tn t := Fin.ext (by have := (tn t).isLt; show n.val % 16 = _; omega)
  rw [sc_whole, sc_entry]; pointwise [twice]
  exact congrArg (fun x => (m ((c : Thread nD τ).loc main_arg3) : FVec Ideal S2x16 .f32) (ix2 (tb t) x)) e
theorem vs_at (n : Fin 32) (hn : (n : ℕ) = tn t) : iblk m c 0 t (ix3 2 (tb t) n) = (argsAt m c).vs (tb t) (tn t) := by
  have e : (⟨(n : ℕ) % 16, by omega⟩ : Fin 16) = tn t := Fin.ext (by have := (tn t).isLt; show n.val % 16 = _; omega)
  rw [sc_whole, sc_entry]; pointwise [twice]
  exact congrArg (fun x => (m ((c : Thread nD τ).loc main_arg5) : FVec Ideal S2x16 .f32) (ix2 (tb t) x)) e

end Cert.KernelIdeal.Proof
-- ==== Proof.KernelIdealInputs.lean ====
module

public import proofs.«01_k».proof.Proof.KernelIdealBlocks
public import Idealize.ShloMosaic.Lib.Pipeline.ValueKit
public import Idealize.ShloMosaic.Lib.Pipeline.ReadBack

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.Sem

open Cert.Gradients

/-- `pdF` at the arguments' coordinates. -/
theorem pdF_at (A : Args) (b : Fin 2) (n : Fin 16) (g : Fin 2) (Q : FVec Ideal S1024x128 .bf16) (KT : FVec Ideal S128x1024 .bf16)
    (a : EReal) (B : Vec Ideal S1x1024x1024 .f32) (l d : Fin 1024 → EReal)
    (hQ : ∀ r d, Q (ix2 r d) = A.q b r (hd n g) d) (hK : ∀ d k, KT (ix2 d k) = A.k b k n d)
    (ha : a = sm * A.qs b (hd n g) * A.ks b n * lg) (hB : ∀ r k, B (ix3 0 r k) = A.bias b r k)
    (hl : ∀ r, l r = A.lse b r (hd n g) * lg) (hd' : ∀ r, d r = A.dsc b r) (r k : Fin 1024) :
    pdF Q KT a B l d (ix2 r k) = kPd sm lg A b n g r k := by
  have e1 : raw Q KT r k = qk A b n g r k :=
    Finset.sum_congr rfl fun d _ => congrArg₂ (· * ·) (hQ r d) (hK d k)
  show Ideal.exp2 (raw Q KT r k * a + B (ix3 0 r k) - l r) * d r = _
  rw [e1, ha, hB, hl, hd']
  rfl

/-- `dsF` at the arguments' coordinates. -/
theorem dsF_at (A : Args) (b : Fin 2) (n : Fin 16) (g : Fin 2) (P : S1024x1024.Idx → EReal) (DO : FVec Ideal S1024x128 .bf16)
    (VT : FVec Ideal S128x1024 .bf16) (vs : EReal) (dl : Fin 1024 → EReal)
    (hP : ∀ r k, P (ix2 r k) = kPd sm lg A b n g r k)
    (hD : ∀ r d, DO (ix2 r d) = A.dout b r (hd n g) d) (hV : ∀ d k, VT (ix2 d k) = A.v b k n d)
    (hv : vs = A.vs b n) (hl : ∀ r, dl r = ∑ d : Fin 128, A.dout b r (hd n g) d * A.o b r (hd n g) d) (r k : Fin 1024) :
    dsF P DO VT vs dl (ix2 r k) = kDs sm lg A b n g r k := by
  have e1 : raw DO VT r k = dov A b n g r k :=
    Finset.sum_congr rfl fun d _ => congrArg₂ (· * ·) (hD r d) (hV d k)
  show P (ix2 r k) * (raw DO VT r k * vs - dl r) = _
  rw [e1, hP, hv, hl]
  rfl

variable (c : Dev nD) (i : grid0.Coords) (arg2 : Memref sig .tc .smem S3x2x32 .f32) (harg2 : arg2.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg19 : Memref sig .tc .vmem S1024x1024 .bf16) (arg20 : Memref sig .tc .vmem S1024x1024 .bf16) (arg22 : Memref sig .tc .vmem S2x1024x128 .f32) (arg23 arg24 : Memref sig .tc .vmem S128x1024 .f32)
  (x0 : Vec Ideal S3x2x32 .f32) (x3 : Vec Ideal S1x2x1024x128 .fp8e4m3) (x4 : Vec Ideal S1x2x1024x128 .fp8e5m2) (x5 : Vec Ideal S1x2x1024x128 .bf16) (x6 : Vec Ideal S1x1x1024x128 .fp8e4m3) (x7 : Vec Ideal S1x1x1024x128 .fp8e4m3) (x8 : Vec Ideal S1x2x1x1024 .f32) (x9 : Vec Ideal S1x1024x128 .f32) (x10 : Vec Ideal S1x1024x1024 .f32)
/-- The keys, transposed. -/
theorem r_3_at (r : Fin 1024) (d : Fin 128) : kernelRun.sl.r_3 (F := Ideal) c arg8 harg8 x6 (ix2 d r) = x6 (ix4 0 0 r d) := by
  unfold kernelRun.sl.r_3; pointwise [k0_pay47]; rw [readAt_unread]; blk_ext

/-- The values, transposed. -/
theorem r_4_at (r : Fin 1024) (d : Fin 128) : kernelRun.sl.r_4 (F := Ideal) c arg9 harg9 x7 (ix2 d r) = x7 (ix4 0 0 r d) := by
  unfold kernelRun.sl.r_4; pointwise [k0_pay48]; rw [readAt_unread]; blk_ext

/-- The queries of the first head. -/
theorem r_6_at (r : Fin 1024) (d : Fin 128) : kernelRun.sl.r_6 (F := Ideal) c arg5 harg5 x3 (ix2 r d) = x3 (ix4 0 0 r d) := by
  unfold kernelRun.sl.r_6; pointwise [k0_pay50]; rw [readAt_unread]; blk_ext

/-- `do` of the first head. -/
theorem r_7_at (r : Fin 1024) (d : Fin 128) : kernelRun.sl.r_7 (F := Ideal) c arg6 harg6 x4 (ix2 r d) = x4 (ix4 0 0 r d) := by
  unfold kernelRun.sl.r_7; pointwise [k0_pay51]; rw [readAt_unread]; blk_ext

/-- The queries of the second head. -/
theorem r_15_at (r : Fin 1024) (d : Fin 128) : kernelRun.sl.r_15 (F := Ideal) c arg5 harg5 x3 (ix2 r d) = x3 (ix4 0 1 r d) := by
  unfold kernelRun.sl.r_15; pointwise [k0_pay184]; rw [readAt_unread]; blk_ext

/-- `do` of the second head. -/
theorem r_16_at (r : Fin 1024) (d : Fin 128) : kernelRun.sl.r_16 (F := Ideal) c arg6 harg6 x4 (ix2 r d) = x4 (ix4 0 1 r d) := by
  unfold kernelRun.sl.r_16; pointwise [k0_pay185]; rw [readAt_unread]; blk_ext

/-- The scales, as they are loaded at a place. -/
theorem scale_at (o : Fin 3 → ℕ) (a b n : ℕ) (h : o = ![a, b, n]) (ib) (x : S1x1x1.Idx) (y : S3x2x32.Idx)
    (h0 : (y 0 : ℕ) = a) (h1 : (y 1 : ℕ) = b) (h2 : (y 2 : ℕ) = n) :
    View.readAt (Elt Ideal) arg2.view (Rect.unit (s := S3x2x32) o S1x1x1.size ib).toLoadRect (harg2.unread x0) x = x0 y := by
  subst h
  rw [readAt_unread]
  refine congrArg x0 ?_
  have a0 : (x 0 : ℕ) < 1 := (x 0).isLt
  have a1 : (x 1 : ℕ) < 1 := (x 1).isLt
  have a2 : (x 2 : ℕ) < 1 := (x 2).isLt
  funext u
  apply Fin.ext
  fin_cases u
  · show a + 1 * (x 0 : ℕ) = (y 0 : ℕ); omega
  · show b + 1 * (x 1 : ℕ) = (y 1 : ℕ); omega
  · show n + 1 * (x 2 : ℕ) = (y 2 : ℕ); omega

variable (dc : Fin 1024 → EReal) (A : Args) (b : Fin 2) (n : Fin 16)
variable (hq : ∀ g r d, x3 (ix4 0 g r d) = A.q b r (hd n g) d)
  (hdo : ∀ g r d, x4 (ix4 0 g r d) = A.dout b r (hd n g) d)
  (ho : ∀ g r d, x5 (ix4 0 g r d) = A.o b r (hd n g) d)
  (hk : ∀ r d, x6 (ix4 0 0 r d) = A.k b r n d)
  (hv : ∀ r d, x7 (ix4 0 0 r d) = A.v b r n d)
  (hlse : ∀ g r, x8 (ix4 0 g 0 r) = A.lse b r (hd n g))
  (hbias : ∀ r k, x10 (ix3 0 r k) = A.bias b r k)
  (hdc : ∀ r, dc r = A.dsc b r)
  (hr : kernelRun.sl.r (F := Ideal) c i arg2 harg2 x0 = A.ks b n)
  (hr1 : kernelRun.sl.r_1 (F := Ideal) c i arg2 harg2 x0 = A.vs b n)
  (hr2 : kernelRun.sl.r_2 (F := Ideal) c i arg2 harg2 x0 = A.qs b (hd n 0))
  (hr13 : kernelRun.sl.r_13 (F := Ideal) c i arg2 harg2 x0 = A.qs b (hd n 1))

include hq hk hlse hbias hdc hr hr2 in
/-- Head 0 of the pair: the probabilities times the rows' scales. -/
theorem pd0_at (r k : Fin 1024) : pdG0 c i arg2 harg2 arg5 harg5 arg8 harg8 x0 x3 x4 x5 x6 x8 x10 dc (ix2 r k) = kPd sm lg A b n 0 r k := by
  refine pdF_at A b n 0 _ _ _ _ _ _ (fun r d => (r_6_at c arg5 harg5 x3 r d).trans (hq 0 r d))
    (fun d k => (r_3_at c arg8 harg8 x6 k d).trans (hk k d)) ?_ hbias (fun r => ?_) hdc r k
  · rw [← hr2, ← hr]; rfl
  · show x8 (ix4 0 0 0 r) * lg = _
    rw [hlse]

include hq hdo ho hk hv hlse hbias hdc hr hr1 hr2 in
/-- Head 0 of the pair: the derivatives of the scores. -/
theorem ds0_at (r k : Fin 1024) : dsG0 c i arg2 harg2 arg5 harg5 arg6 harg6 arg8 harg8 arg9 harg9 x0 x3 x4 x5 x6 x7 x8 x10 dc (ix2 r k) = kDs sm lg A b n 0 r k := by
  refine dsF_at A b n 0 _ _ _ _ _ (pd0_at c i arg2 harg2 arg5 harg5 arg8 harg8 x0 x3 x4 x5 x6 x8 x10 dc A b n hq hk hlse hbias hdc hr hr2)
    (fun r d => (r_7_at c arg6 harg6 x4 r d).trans (hdo 0 r d))
    (fun d k => (r_4_at c arg9 harg9 x7 k d).trans (hv k d)) hr1 (fun r => ?_) r k
  show (∑ d : Fin 128, x4 (ix4 0 0 r d) * x5 (ix4 0 0 r d)) = _
  exact Finset.sum_congr rfl fun d _ => congrArg₂ (· * ·) (hdo 0 r d) (ho 0 r d)

include hq hk hlse hbias hdc hr hr13 in
/-- Head 1 of the pair: the probabilities times the rows' scales. -/
theorem pd1_at (r k : Fin 1024) : pdG1 c i arg2 harg2 arg5 harg5 arg8 harg8 x0 x3 x4 x5 x6 x8 x10 dc (ix2 r k) = kPd sm lg A b n 1 r k := by
  refine pdF_at A b n 1 _ _ _ _ _ _ (fun r d => (r_15_at c arg5 harg5 x3 r d).trans (hq 1 r d))
    (fun d k => (r_3_at c arg8 harg8 x6 k d).trans (hk k d)) ?_ hbias (fun r => ?_) hdc r k
  · rw [← hr13, ← hr]; rfl
  · show x8 (ix4 0 1 0 r) * lg = _
    rw [hlse]

include hq hdo ho hk hv hlse hbias hdc hr hr1 hr13 in
/-- Head 1 of the pair: the derivatives of the scores. -/
theorem ds1_at (r k : Fin 1024) : dsG1 c i arg2 harg2 arg5 harg5 arg6 harg6 arg8 harg8 arg9 harg9 x0 x3 x4 x5 x6 x7 x8 x10 dc (ix2 r k) = kDs sm lg A b n 1 r k := by
  refine dsF_at A b n 1 _ _ _ _ _ (pd1_at c i arg2 harg2 arg5 harg5 arg8 harg8 x0 x3 x4 x5 x6 x8 x10 dc A b n hq hk hlse hbias hdc hr hr13)
    (fun r d => (r_16_at c arg6 harg6 x4 r d).trans (hdo 1 r d))
    (fun d k => (r_4_at c arg9 harg9 x7 k d).trans (hv k d)) hr1 (fun r => ?_) r k
  show (∑ d : Fin 128, x4 (ix4 0 1 r d) * x5 (ix4 0 1 r d)) = _
  exact Finset.sum_congr rfl fun d _ => congrArg₂ (· * ·) (hdo 1 r d) (ho 1 r d)

include hq hdo ho hk hv hlse hbias hdc hr hr1 hr2 hr13 in
/-- The block of the gradient of the queries. -/
theorem dq_at (g : Fin 2) (r : Fin 1024) (d : Fin 128) : dqG c i arg2 harg2 arg5 harg5 arg6 harg6 arg8 harg8 arg9 harg9 x0 x3 x4 x5 x6 x7 x8 x10 dc (ix4 0 g r d) = kDq sm lg A b n g r d := by
  have e : ∀ k, (![(dsG0 c i arg2 harg2 arg5 harg5 arg6 harg6 arg8 harg8 arg9 harg9 x0 x3 x4 x5 x6 x7 x8 x10 dc), (dsG1 c i arg2 harg2 arg5 harg5 arg6 harg6 arg8 harg8 arg9 harg9 x0 x3 x4 x5 x6 x7 x8 x10 dc)] g) (ix2 r k) = kDs sm lg A b n g r k := by
    intro k
    fin_cases g
    · exact (ds0_at c i arg2 harg2 arg5 harg5 arg6 harg6 arg8 harg8 arg9 harg9 x0 x3 x4 x5 x6 x7 x8 x10 dc A b n hq hdo ho hk hv hlse hbias hdc hr hr1 hr2 _ _)
    · exact (ds1_at c i arg2 harg2 arg5 harg5 arg6 harg6 arg8 harg8 arg9 harg9 x0 x3 x4 x5 x6 x7 x8 x10 dc A b n hq hdo ho hk hv hlse hbias hdc hr hr1 hr13 _ _)
  show rowSum _ (![_, _] g) r d * (sm * _) = _
  refine congrArg₂ (· * ·) (Finset.sum_congr rfl fun k _ => congrArg₂ (· * ·) ((r_3_at c arg8 harg8 x6 k d).trans (hk k d)) (e k)) ?_
  rw [← hr]

include hq hdo ho hk hv hlse hbias hdc hr hr1 hr2 hr13 in
/-- The block of the gradient of the keys. -/
theorem dk_at (k : Fin 1024) (d : Fin 128) : dkG c i arg2 harg2 arg5 harg5 arg6 harg6 arg8 harg8 arg9 harg9 x0 x3 x4 x5 x6 x7 x8 x10 dc (ix4 0 0 k d) = kDk1 sm lg A b n 0 k d + kDk1 sm lg A b n 1 k d := by
  refine congrArg₂ (· + ·) (congrArg₂ (· * ·) (Finset.sum_congr rfl fun r _ => congrArg₂ (· * ·) ((r_6_at c arg5 harg5 x3 r d).trans (hq 0 r d)) (ds0_at c i arg2 harg2 arg5 harg5 arg6 harg6 arg8 harg8 arg9 harg9 x0 x3 x4 x5 x6 x7 x8 x10 dc A b n hq hdo ho hk hv hlse hbias hdc hr hr1 hr2 _ _)) ?_)
    (congrArg₂ (· * ·) (Finset.sum_congr rfl fun r _ => congrArg₂ (· * ·) ((r_15_at c arg5 harg5 x3 r d).trans (hq 1 r d)) (ds1_at c i arg2 harg2 arg5 harg5 arg6 harg6 arg8 harg8 arg9 harg9 x0 x3 x4 x5 x6 x7 x8 x10 dc A b n hq hdo ho hk hv hlse hbias hdc hr hr1 hr13 _ _)) ?_)
  · rw [← hr2]; rfl
  · rw [← hr13]; rfl

include hq hdo hk hlse hbias hdc hr hr2 hr13 in
/-- The block of the gradient of the values. -/
theorem dv_at (k : Fin 1024) (d : Fin 128) : dvG c i arg2 harg2 arg5 harg5 arg6 harg6 arg8 harg8 x0 x3 x4 x5 x6 x8 x10 dc (ix4 0 0 k d) = kDv1 sm lg A b n 0 k d + kDv1 sm lg A b n 1 k d := by
  exact congrArg₂ (· + ·) (Finset.sum_congr rfl fun r _ => congrArg₂ (· * ·) ((r_7_at c arg6 harg6 x4 r d).trans (hdo 0 r d)) (pd0_at c i arg2 harg2 arg5 harg5 arg8 harg8 x0 x3 x4 x5 x6 x8 x10 dc A b n hq hk hlse hbias hdc hr hr2 _ _))
    (Finset.sum_congr rfl fun r _ => congrArg₂ (· * ·) ((r_16_at c arg6 harg6 x4 r d).trans (hdo 1 r d)) (pd1_at c i arg2 harg2 arg5 harg5 arg8 harg8 x0 x3 x4 x5 x6 x8 x10 dc A b n hq hk hlse hbias hdc hr hr13 _ _))

end Cert.KernelIdeal.Proof
-- ==== Proof.KernelIdealFinals.lean ====
module

public import proofs.«01_k».proof.Proof.KernelIdealInputs
public import Idealize.ShloMosaic.Lib.Pipeline.ValueKit
public import Idealize.ShloMosaic.Lib.Pipeline.ReadBack

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.Sem

open Cert.Gradients

variable (m : (ℓ : Loc nD τ sig) → Buf (Elt Ideal) ℓ) (H : ∀ (c : Dev nD) (t : Fin cfg0.N), Hyps m c t) (c : Dev nD) (t : Fin cfg0.N)

/-- The rows' scales of a grid point. -/
def dcAt (r : Fin 1024) : EReal := (argsAt m c).dsc (tb t) r

theorem r_pt : kernelRun.sl.r (F := Ideal) c (grid0.coords t) (ms0_0 t) (hs0_0 t) (iblk m c 0 t) = (argsAt m c).ks (tb t) (tn t) :=
  (scale_at (ms0_0 t) (hs0_0 t) (iblk m c 0 t) (k0_off1 (grid0.coords t)) _ _ _ (offs t).1 _ _ (ix3 1 (tb t) ⟨t.val % 16, by omega⟩) rfl rfl rfl).trans (ks_at m c t _ rfl)

theorem r1_pt : kernelRun.sl.r_1 (F := Ideal) c (grid0.coords t) (ms0_0 t) (hs0_0 t) (iblk m c 0 t) = (argsAt m c).vs (tb t) (tn t) :=
  (scale_at (ms0_0 t) (hs0_0 t) (iblk m c 0 t) (k0_off2 (grid0.coords t)) _ _ _ (offs t).2.1 _ _ (ix3 2 (tb t) ⟨t.val % 16, by omega⟩) rfl rfl rfl).trans (vs_at m c t _ rfl)

theorem r2_pt : kernelRun.sl.r_2 (F := Ideal) c (grid0.coords t) (ms0_0 t) (hs0_0 t) (iblk m c 0 t) = (argsAt m c).qs (tb t) (hd (tn t) 0) :=
  (scale_at (ms0_0 t) (hs0_0 t) (iblk m c 0 t) (k0_off3 (grid0.coords t)) _ _ _ (offs t).2.2.1 _ _ (ix3 0 (tb t) (hd (tn t) 0)) rfl rfl rfl).trans (qs_at m c t 0)

theorem r13_pt : kernelRun.sl.r_13 (F := Ideal) c (grid0.coords t) (ms0_0 t) (hs0_0 t) (iblk m c 0 t) = (argsAt m c).qs (tb t) (hd (tn t) 1) :=
  (scale_at (ms0_0 t) (hs0_0 t) (iblk m c 0 t) (k0_off37 (grid0.coords t)) _ _ _ (offs t).2.2.2 _ _ (ix3 0 (tb t) (hd (tn t) 1)) rfl rfl rfl).trans (qs_at m c t 1)

/-- Stores that are blocks of `G` and cover the buffer leave `G`. -/
theorem canon_of {s : Shape} {e : EltTy} (G : Vec Ideal s e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

/-- What a grid point leaves in the block of window 13. -/
theorem out13_eq (y : S1x2x1024x128.Idx) : out0_13 m H c t y = dqG c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t) y := by
  unfold out0_13
  rw [View.read_writes_junk_eq_canon]
  have h : View.PiecesOf (Val := Elt Ideal) (e := .bf16) (dqG c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t)) (runAt m H c t).1 := outs13 c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_3 (iblk m c 0 t) (iblk m c 3 t) (iblk m c 4 t) (iblk m c 5 t) (iblk m c 6 t) (iblk m c 7 t) (iblk m c 8 t) (iblk m c 9 t) (iblk m c 10 t) (dcAt m c t) (dsc_at m c t) scM0_0
  exact canon_of _ _ h y (cover0_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The same by the arguments. -/
theorem out13_at (g : Fin 2) (r : Fin 1024) (d : Fin 128) : out0_13 m H c t (ix4 0 g r d) = kDq sm lg (argsAt m c) (tb t) (tn t) g r d :=
  (out13_eq m H c t _).trans (dq_at c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t) (argsAt m c) (tb t) (tn t) (q_at m c t) (do_at m c t) (o_at m c t) (k_at m c t) (v_at m c t) (lse_at m c t) (bias_at m c t) (fun _ => rfl) (r_pt m c t) (r1_pt m c t) (r2_pt m c t) (r13_pt m c t) g r d)

/-- What a grid point leaves in the block of window 14. -/
theorem out14_eq (y : S1x1x1024x128.Idx) : out0_14 m H c t y = dkG c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t) y := by
  unfold out0_14
  rw [View.read_writes_junk_eq_canon]
  have h : View.PiecesOf (Val := Elt Ideal) (e := .bf16) (dkG c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t)) (runAt m H c t).2.1 := outs14 c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_3 (iblk m c 0 t) (iblk m c 3 t) (iblk m c 4 t) (iblk m c 5 t) (iblk m c 6 t) (iblk m c 7 t) (iblk m c 8 t) (iblk m c 9 t) (iblk m c 10 t) (dcAt m c t) (dsc_at m c t) scM0_0 scM0_5
  exact canon_of _ _ h y (cover0_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The same by the arguments. -/
theorem out14_at (k : Fin 1024) (d : Fin 128) : out0_14 m H c t (ix4 0 0 k d)
    = kDk1 sm lg (argsAt m c) (tb t) (tn t) 0 k d + kDk1 sm lg (argsAt m c) (tb t) (tn t) 1 k d :=
  (out14_eq m H c t _).trans (dk_at c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t) (argsAt m c) (tb t) (tn t) (q_at m c t) (do_at m c t) (o_at m c t) (k_at m c t) (v_at m c t) (lse_at m c t) (bias_at m c t) (fun _ => rfl) (r_pt m c t) (r1_pt m c t) (r2_pt m c t) (r13_pt m c t) k d)

/-- What a grid point leaves in the block of window 15. -/
theorem out15_eq (y : S1x1x1024x128.Idx) : out0_15 m H c t y = dvG c (grid0.coords t) (ms0_0 t) (hs0_0 t) (ms0_3 t) (hs0_3 t) (ms0_4 t) (hs0_4 t) (ms0_6 t) (hs0_6 t) (iblk m c 0 t) (iblk m c 3 t) (iblk m c 4 t) (iblk m c 5 t) (iblk m c 6 t) (iblk m c 8 t) (iblk m c 10 t) (dcAt m c t) y := by
  unfold out0_15
  rw [View.read_writes_junk_eq_canon]
  have h : View.PiecesOf (Val := Elt Ideal) (e := .bf16) (dvG c (grid0.coords t) (ms0_0 t) (hs0_0 t) (ms0_3 t) (hs0_3 t) (ms0_4 t) (hs0_4 t) (ms0_6 t) (hs0_6 t) (iblk m c 0 t) (iblk m c 3 t) (iblk m c 4 t) (iblk m c 5 t) (iblk m c 6 t) (iblk m c 8 t) (iblk m c 10 t) (dcAt m c t)) (runAt m H c t).2.2.1 := outs15 c (grid0.coords t) (ms0_0 t) (hs0_0 t) (ms0_3 t) (hs0_3 t) (ms0_4 t) (hs0_4 t) (ms0_5 t) (hs0_5 t) (ms0_6 t) (hs0_6 t) (ms0_8 t) (hs0_8 t) (ms0_9 t) (hs0_9 t) (ms0_10 t) (hs0_10 t) scM0_3 (iblk m c 0 t) (iblk m c 3 t) (iblk m c 4 t) (iblk m c 5 t) (iblk m c 6 t) (iblk m c 8 t) (iblk m c 9 t) (iblk m c 10 t) (dcAt m c t) (dsc_at m c t) scM0_1 scM0_4
  exact canon_of _ _ h y (cover0_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The same by the arguments. -/
theorem out15_at (k : Fin 1024) (d : Fin 128) : out0_15 m H c t (ix4 0 0 k d)
    = kDv1 sm lg (argsAt m c) (tb t) (tn t) 0 k d + kDv1 sm lg (argsAt m c) (tb t) (tn t) 1 k d :=
  (out15_eq m H c t _).trans (dv_at c (grid0.coords t) (ms0_0 t) (hs0_0 t) (ms0_3 t) (hs0_3 t) (ms0_4 t) (hs0_4 t) (ms0_6 t) (hs0_6 t) (iblk m c 0 t) (iblk m c 3 t) (iblk m c 4 t) (iblk m c 5 t) (iblk m c 6 t) (iblk m c 8 t) (iblk m c 10 t) (dcAt m c t) (argsAt m c) (tb t) (tn t) (q_at m c t) (do_at m c t) (k_at m c t) (lse_at m c t) (bias_at m c t) (fun _ => rfl) (r_pt m c t) (r2_pt m c t) (r13_pt m c t) k d)

/-- A block of the gradient of the queries, at its places in the array. -/
theorem place13 (y : S1x2x1024x128.Idx) (e : S2x32x1024x128.Idx) (h0 : (e 0 : ℕ) = t.val / 16) (h1 : (e 1 : ℕ) = t.val % 16 * 2 + y 1)
    (h2 : (e 2 : ℕ) = y 2) (h3 : (e 3 : ℕ) = y 3) :
    out0_13 m H c t y = kDq sm lg (argsAt m c) (e 0) (kvOf (e 1)) (grpOf (e 1)) (e 2) (e 3) := by
  have ey : y = ix4 0 (y 1) (y 2) (y 3) := by blk_ext
  have hy : (y 1 : ℕ) < 2 := (y 1).isLt
  have e0 : e 0 = tb t := Fin.ext h0
  have e1 : kvOf (e 1) = tn t := Fin.ext (by show (e 1 : ℕ) / 2 = t.val % 16; omega)
  have e1' : grpOf (e 1) = y 1 := Fin.ext (by show (e 1 : ℕ) % 2 = y 1; omega)
  have e2 : e 2 = y 2 := Fin.ext h2
  have e3 : e 3 = y 3 := Fin.ext h3
  rw [e0, e1, e1', e2, e3]
  exact (congrArg (out0_13 m H c t) ey).trans (out13_at m H c t (y 1) (y 2) (y 3))

/-- The array of the gradient of the queries after the run. -/
theorem final13 : (dats m H 0 c).arrAt 13 (cfgs 0).N
    = fun y : S2x32x1024x128.Idx => kDq sm lg (argsAt m c) (y 0) (kvOf (y 1)) (grpOf (y 1)) (y 2) (y 3) := by
  refine (dats m H 0 c).arrAt_eq_of_covers 13 _ (by decide +kernel) fun t hf y => ?_
  blk_simp
  rw [after0_13]
  exact place13 m H c t y ((win0_13.blk t).view.emb y) (by blk_simp [idx t]) (by blk_simp [idx t]) (by blk_simp [idx t]) (by blk_simp [idx t])

/-- A block of the gradient of the keys, at its places in the array. -/
theorem place14 (y : S1x1x1024x128.Idx) (e : S2x16x1024x128.Idx) (h0 : (e 0 : ℕ) = t.val / 16) (h1 : (e 1 : ℕ) = t.val % 16)
    (h2 : (e 2 : ℕ) = y 2) (h3 : (e 3 : ℕ) = y 3) :
    out0_14 m H c t y = kDk1 sm lg (argsAt m c) (e 0) (e 1) 0 (e 2) (e 3) + kDk1 sm lg (argsAt m c) (e 0) (e 1) 1 (e 2) (e 3) := by
  have ey : y = ix4 0 0 (y 2) (y 3) := by blk_ext
  have e0 : e 0 = tb t := Fin.ext h0
  have e1 : e 1 = tn t := Fin.ext h1
  have e2 : e 2 = y 2 := Fin.ext h2
  have e3 : e 3 = y 3 := Fin.ext h3
  rw [e0, e1, e2, e3]
  exact (congrArg (out0_14 m H c t) ey).trans (out14_at m H c t (y 2) (y 3))

/-- The array of the gradient of the keys after the run. -/
theorem final14 : (dats m H 0 c).arrAt 14 (cfgs 0).N
    = fun y : S2x16x1024x128.Idx => kDk1 sm lg (argsAt m c) (y 0) (y 1) 0 (y 2) (y 3) + kDk1 sm lg (argsAt m c) (y 0) (y 1) 1 (y 2) (y 3) := by
  refine (dats m H 0 c).arrAt_eq_of_covers 14 _ (by decide +kernel) fun t hf y => ?_
  blk_simp
  rw [after0_14]
  exact place14 m H c t y ((win0_14.blk t).view.emb y) (by blk_simp [idx t]) (by blk_simp [idx t]) (by blk_simp [idx t]) (by blk_simp [idx t])

/-- A block of the gradient of the values, at its places in the array. -/
theorem place15 (y : S1x1x1024x128.Idx) (e : S2x16x1024x128.Idx) (h0 : (e 0 : ℕ) = t.val / 16) (h1 : (e 1 : ℕ) = t.val % 16)
    (h2 : (e 2 : ℕ) = y 2) (h3 : (e 3 : ℕ) = y 3) :
    out0_15 m H c t y = kDv1 sm lg (argsAt m c) (e 0) (e 1) 0 (e 2) (e 3) + kDv1 sm lg (argsAt m c) (e 0) (e 1) 1 (e 2) (e 3) := by
  have ey : y = ix4 0 0 (y 2) (y 3) := by blk_ext
  have e0 : e 0 = tb t := Fin.ext h0
  have e1 : e 1 = tn t := Fin.ext h1
  have e2 : e 2 = y 2 := Fin.ext h2
  have e3 : e 3 = y 3 := Fin.ext h3
  rw [e0, e1, e2, e3]
  exact (congrArg (out0_15 m H c t) ey).trans (out15_at m H c t (y 2) (y 3))

/-- The array of the gradient of the values after the run. -/
theorem final15 : (dats m H 0 c).arrAt 15 (cfgs 0).N
    = fun y : S2x16x1024x128.Idx => kDv1 sm lg (argsAt m c) (y 0) (y 1) 0 (y 2) (y 3) + kDv1 sm lg (argsAt m c) (y 0) (y 1) 1 (y 2) (y 3) := by
  refine (dats m H 0 c).arrAt_eq_of_covers 15 _ (by decide +kernel) fun t hf y => ?_
  blk_simp
  rw [after0_15]
  exact place15 m H c t y ((win0_15.blk t).view.emb y) (by blk_simp [idx t]) (by blk_simp [idx t]) (by blk_simp [idx t]) (by blk_simp [idx t])

end Cert.KernelIdeal.Proof
-- ==== Proof.KernelIdealResults.lean ====
/- What the kernel's run leaves in its first three results, as functions of its arguments, and what the precondition says of
   the scales of the incoming gradient. -/
module

public import proofs.«01_k».proof.Proof.KernelIdealFinals
public import proofs.«01_k».proof.Proof.KernelIdealWords
public import proofs.«01_k».proof.Proof.Gradients

@[expose] public section

set_option maxRecDepth 16384

noncomputable section

namespace Cert.KernelIdeal.Proof

open Cert.KernelIdeal Cert.KernelIdeal.Gen
open Idealize.ShloMosaic Idealize.ShloMosaic.TcCoe Idealize.ShloMosaic.Pipeline
open Idealize.SL Idealize.SL.Sem

open Cert.Gradients

/-- The precondition of given argument arrays, decoded: the scales of the incoming gradient are at least zero and finite. -/
theorem scale_of_pre (x0 x1 x2 x3 x4 x5 x6 x7 x8 x9 x10 x11 x12 x13 x14)
    (h : Cert.Pre_admissible.fn (F := Ideal) x0 x1 x2 x3 x4 x5 x6 x7 x8 x9 x10 x11 x12 x13 x14 = fun _ => 1#1) (b : Fin 2) (r : Fin 1024) :
    (0 : EReal) ≤ x9 (ix2 (n0 := 2) (n1 := 1024) b r) ∧ (x9 (ix2 (n0 := 2) (n1 := 1024) b r) : EReal) ≠ ⊤ := by
  have and_one (p q : BitVec 1) : IntOp.andi p q = 1#1 → p = 1#1 ∧ q = 1#1 := by
    revert p q; decide
  have e := congrFun h ix0
  simp only [Cert.Pre_admissible.fn, Cert.Pre_admissible.fn_part1] at e
  have e1 := (and_one _ _ e).2
  haveI : Subsingleton (Cert.Pre_admissible.S_).Idx := ⟨fun a b => funext fun x => x.elim0⟩
  have key := Host.reduce_andi_all _ _ _ _ _ e1 (ix2 (n0 := 2) (n1 := 1024) b r)
  have h1 := (and_one _ _ key).1
  have h2 := (and_one _ _ key).2
  have p1 : Ideal.cmp .oge (x9 (ix2 (n0 := 2) (n1 := 1024) b r)) (Ideal.ofBits .f32 0x00000000#32) = 1#1 := h1
  have p2 : Ideal.cmp .olt (x9 (ix2 (n0 := 2) (n1 := 1024) b r)) (Ideal.ofBits .f32 0x7F800000#32) = 1#1 := h2
  have hz : Ideal.ofBits .f32 0x00000000#32 = 0 := Ideal.ofBits_zero_f32
  have htop : Ideal.ofBits .f32 0x7F800000#32 = ⊤ := by simp [Ideal.ofBits, Ideal.ieee]
  have ofBool_eq_one (p : Bool) : (BitVec.ofBool p = 1#1) ↔ p = true := by cases p <;> decide
  rw [hz, Ideal.cmp_oge, ofBool_eq_one, decide_eq_true_eq] at p1
  rw [htop, Ideal.cmp_olt, ofBool_eq_one, decide_eq_true_eq] at p2
  exact ⟨p1, p2.ne⟩

/-- The named constant is the reciprocal of the natural logarithm of two. -/
theorem lg_eq : lg = (((Real.log 2)⁻¹ : ℝ) : EReal) :=
  IdealRules.named_const.ideal_named_scalar κ "log2e" (φ := .f32) 0x3FB8AA3B#32 _ rfl

variable (m : (ℓ : Loc nD τ sig) → Buf (Elt Ideal) ℓ) (ρ : Dev nD → PrngReg) (H : ∀ c t, Hyps m c t)

/-- An output array of the launch whose contents the data name ends at those contents. -/
theorem out_end {r : PUnit × MemSt nD τ sig (Elt Ideal)}
    (h : Pipeline.RDat.FramePost (cfgs 0) (fun c => (dats m H 0 c).toRRel marked (Rl m H c)) (V m) r) (c : Dev nD)
    (w : Fin cfg0.W) (hw : marked w = false) :
    r.2.mem ((cfg0.spec w).arr.view.loc (c.tc : Thread nD τ)) = (dats m H 0 c).arrAt w (cfgs 0).N :=
  (((dats m H 0 c).toR.override_arrAt (by simp only [hw]) _ _).trans ((dats m H 0 c).toR_arrAt_iff w _ _)).mp ((h c).1 w)

end Cert.KernelIdeal.Proof
end
-- ==== Proof.ReferenceIdealStages.lean ====
/- The reference's arrays after its reading of the codes, each a function of the arrays it is computed from, and each at
   coordinates. -/
module

public import proofs.«01_k».proof.Proof.Gen.ReferenceIdeal
public import proofs.«01_k».proof.Proof.Gen.ReferenceIdeal.Frame
public import proofs.«01_k».proof.Proof.Gradients
public import Idealize.ShloMosaic.Lib.Pipeline.ValueKit
public import Idealize.ShloMosaic.Lib.Claim

@[expose] public section

set_option maxRecDepth 16384

noncomputable section

namespace Cert.ReferenceIdeal.Proof

open Cert.ReferenceIdeal Cert.ReferenceIdeal.Gen
open Idealize.ShloMosaic Idealize.ShloMosaic.TcCoe
open Idealize.SL Idealize.SL.Sem

open Cert.Gradients

variable (q : FVec Ideal S2x1024x32x128 .f32) (k v : FVec Ideal S2x1024x16x128 .f32) (dd : FVec Ideal S2x1024x32x128 .f32)
  (cnt : FVec Ideal S2x1024x1024 .f32) (a1 : FVec Ideal S2x32 .f32) (a3 a5 : FVec Ideal S2x16 .f32)
  (a6 : FVec Ideal S2x1024x32x128 .bf16) (a7 : FVec Ideal S2x1024x32 .f32) (a9 : FVec Ideal S2x1024 .f32)
  (a11 : IVec S2x1152x128 32) (a12 : FVec Ideal S2x1152x128 .f32) (a13 : IVec S2x128 32)

/-- The probabilities. -/
def refP : FVec Ideal S2x16x2x1024x1024 .f32 :=
  mulf
    (broadcastInDim S2x16x2x1024x1024 ![0, 1, 2, 3, 4] bcast_S2x1x1x1024x1024_S2x16x2x1024x1024_0_1_2_3_4
      (broadcastInDim S2x1x1x1024x1024 ![0, 3, 4] bcast_S2x1024x1024_S2x1x1x1024x1024_0_3_4 cnt))
    (Host.exp
      (subf
        (mulf
          (broadcastInDim S2x16x2x1024x1024 ![0, 1, 2, 3, 4] bcast_S2x16x2x1x1_S2x16x2x1024x1024_0_1_2_3_4
            (broadcastInDim S2x16x2x1x1 ![0, 1, 2] bcast_S2x16x2_S2x16x2x1x1_0_1_2
              (mulf
                (mulf (broadcastInDim S2x16x2 ![] bcast_S_S2x16x2 (constant S_ FTy.f32 1035273459#32))
                  (shapeCast S2x16x2 a1 shapeCasts_S2x32_S2x16x2))
                (broadcastInDim S2x16x2 ![0, 1, 2] bcast_S2x16x1_S2x16x2_0_1_2
                  (broadcastInDim S2x16x1 ![0, 1] bcast_S2x16_S2x16x1_0_1 a3)))))
          (transpose S2x16x2x1024x1024 [0, 1, 4, 3, 2]
            (Host.dotGeneral dot_S2x1024x16x128_S2x1024x16x2x128_S2x16x1024x1024x2_3_4_1_13_02_02 none k
              (shapeCast S2x1024x16x2x128 q shapeCasts_S2x1024x32x128_S2x1024x16x2x128))
            transposes_S2x16x1024x1024x2_S2x16x2x1024x1024_0_1_4_3_2))
        (broadcastInDim S2x16x2x1024x1024 ![0, 1, 2, 3, 4] bcast_S2x16x2x1024x1_S2x16x2x1024x1024_0_1_2_3_4
          (broadcastInDim S2x16x2x1024x1 ![0, 1, 2, 3] bcast_S2x16x2x1024_S2x16x2x1024x1_0_1_2_3
            (transpose S2x16x2x1024 [0, 2, 3, 1] (shapeCast S2x1024x16x2 a7 shapeCasts_S2x1024x32_S2x1024x16x2)
              transposes_S2x1024x16x2_S2x16x2x1024_0_2_3_1)))))

/-- The derivatives of the scores. -/
def refDs : FVec Ideal S2x16x2x1024x1024 .f32 :=
  mulf (refP q k cnt a1 a3 a7)
    (subf
      (mulf
        (broadcastInDim S2x16x2x1024x1024 ![0, 1, 2, 3, 4] bcast_S2x16x1x1024x1_S2x16x2x1024x1024_0_1_2_3_4
          (broadcastInDim S2x16x1x1024x1 ![0, 1, 2, 3] bcast_S2x16x1x1024_S2x16x1x1024x1_0_1_2_3
            (mulf
              (broadcastInDim S2x16x1x1024 ![0, 1, 2, 3] bcast_S2x1x1x1024_S2x16x1x1024_0_1_2_3
                (broadcastInDim S2x1x1x1024 ![0, 3] bcast_S2x1024_S2x1x1x1024_0_3 a9))
              (broadcastInDim S2x16x1x1024 ![0, 1, 2, 3] bcast_S2x16x1x1_S2x16x1x1024_0_1_2_3
                (broadcastInDim S2x16x1x1 ![0, 1, 2] bcast_S2x16x1_S2x16x1x1_0_1_2
                  (broadcastInDim S2x16x1 ![0, 1] bcast_S2x16_S2x16x1_0_1 a5))))))
        (transpose S2x16x2x1024x1024 [0, 1, 4, 3, 2]
          (Host.dotGeneral dot_S2x1024x16x128_S2x1024x16x2x128_S2x16x1024x1024x2_3_4_1_13_02_02 none v
            (shapeCast S2x1024x16x2x128 dd shapeCasts_S2x1024x32x128_S2x1024x16x2x128))
          transposes_S2x16x1024x1024x2_S2x16x2x1024x1024_0_1_4_3_2))
      (broadcastInDim S2x16x2x1024x1024 ![0, 1, 2, 3, 4] bcast_S2x16x2x1024x1_S2x16x2x1024x1024_0_1_2_3_4
        (broadcastInDim S2x16x2x1024x1 ![0, 1, 2, 3] bcast_S2x16x2x1024_S2x16x2x1024x1_0_1_2_3
          (transpose S2x16x2x1024 [0, 2, 3, 1]
            (Host.reduceAdd
              (mulf
                (mulf (shapeCast S2x1024x16x2x128 dd shapeCasts_S2x1024x32x128_S2x1024x16x2x128)
                  (broadcastInDim S2x1024x16x2x128 ![0, 1, 2, 3, 4] bcast_S2x1024x1x1x1_S2x1024x16x2x128_0_1_2_3_4
                    (broadcastInDim S2x1024x1x1x1 ![0, 1] bcast_S2x1024_S2x1024x1x1x1_0_1 a9)))
                (extf FTy.f32 (shapeCast S2x1024x16x2x128 a6 shapeCasts_S2x1024x32x128_S2x1024x16x2x128) bitsLt_bf16_f32))
              (constant S_ FTy.f32 0#32) reducesTo_S2x1024x16x2x128_S2x1024x16x2_d4 h_S_)
            transposes_S2x1024x16x2_S2x16x2x1024_0_2_3_1))))

/-- The gradient of the queries from the derivatives `X` of the scores. -/
def refDq (X : FVec Ideal S2x16x2x1024x1024 .f32) : FVec Ideal S2x32x1024x128 .bf16 :=
  shapeCast S2x32x1024x128
    (truncf .bf16
      (mulf
        (broadcastInDim S2x16x2x1024x128 ![0, 1, 2, 3, 4] bcast_S2x16x1x1x1_S2x16x2x1024x128_0_1_2_3_4
          (broadcastInDim S2x16x1x1x1 ![0, 1] bcast_S2x16_S2x16x1x1x1_0_1
            (mulf (broadcastInDim S2x16 ![] bcast_S_S2x16 (constant S_ FTy.f32 1035273459#32)) a3)))
        (Host.dotGeneral dot_S2x16x2x1024x1024_S2x1024x16x128_S2x16x2x1024x128_4_1_23_3_01_02 none
          (extf .f32 (truncf .bf16 X bitsLt_bf16_f32) bitsLt_bf16_f32) k))
      bitsLt_bf16_f32)
    shapeCasts_S2x16x2x1024x128_S2x32x1024x128

/-- The gradient of the keys from the derivatives `X` of the scores. -/
def refDk (X : FVec Ideal S2x16x2x1024x1024 .f32) : FVec Ideal S2x16x1024x128 .bf16 :=
  truncf .bf16
    (Host.reduceAdd
      (mulf
        (broadcastInDim S2x16x2x1024x128 ![0, 1, 2, 3, 4] bcast_S2x16x2x1x1_S2x16x2x1024x128_0_1_2_3_4
          (broadcastInDim S2x16x2x1x1 ![0, 1, 2] bcast_S2x16x2_S2x16x2x1x1_0_1_2
            (mulf (broadcastInDim S2x16x2 ![] bcast_S_S2x16x2 (constant S_ FTy.f32 1035273459#32))
              (shapeCast S2x16x2 a1 shapeCasts_S2x32_S2x16x2))))
        (Host.dotGeneral dot_S2x16x2x1024x1024_S2x1024x16x2x128_S2x16x2x1024x128_3_1_4_4_012_023 none
          (extf .f32 (truncf .bf16 X bitsLt_bf16_f32) bitsLt_bf16_f32)
          (shapeCast S2x1024x16x2x128 q shapeCasts_S2x1024x32x128_S2x1024x16x2x128)))
      (constant S_ FTy.f32 0#32) reducesTo_S2x16x2x1024x128_S2x16x1024x128_d2 h_S_)
    bitsLt_bf16_f32

/-- The gradient of the values from the probabilities `X`. -/
def refDv (X : FVec Ideal S2x16x2x1024x1024 .f32) : FVec Ideal S2x16x1024x128 .bf16 :=
  truncf .bf16
    (Host.reduceAdd
      (Host.dotGeneral dot_S2x16x2x1024x1024_S2x1024x16x2x128_S2x16x2x1024x128_3_1_4_4_012_023 none
        (extf .f32
          (truncf .bf16
            (mulf X
              (broadcastInDim S2x16x2x1024x1024 ![0, 1, 2, 3, 4] bcast_S2x1x1x1024x1_S2x16x2x1024x1024_0_1_2_3_4
                (broadcastInDim S2x1x1x1024x1 ![0, 3] bcast_S2x1024_S2x1x1x1024x1_0_3 a9)))
            bitsLt_bf16_f32)
          bitsLt_bf16_f32)
        (shapeCast S2x1024x16x2x128 dd shapeCasts_S2x1024x32x128_S2x1024x16x2x128))
      (constant S_ FTy.f32 0#32) reducesTo_S2x16x2x1024x128_S2x16x1024x128_d2 h_S_)
    bitsLt_bf16_f32

/-- The row each slot stands for. -/
def refRow : IVec S2x1152 32 :=
  concatenate S2x1152 1
    [⟨S2x1024, broadcastInDim S2x1024 ![1] bcast_S1024_S2x1024_1 (iotaInDim S1024 32 0)⟩,
      ⟨S2x128,
        shapeCast S2x128
          (addi
            (broadcastInDim S2x16x8 ![0, 1, 2] bcast_S2x16x1_S2x16x8_0_1_2
              (muli
                (broadcastInDim S2x16x1 ![0, 1] bcast_S2x16_S2x16x1_0_1
                  (extractStridedSlice S2x16 ![0, 0] a13 slices_S2x128_S2x16_0_0))
                (broadcastInDim S2x16x1 ![] bcast_S_S2x16x1 (constantI S_ 32 8#32))))
            (broadcastInDim S2x16x8 ![0, 1, 2] bcast_S1x1x8_S2x16x8_0_1_2
              (broadcastInDim S1x1x8 ![2] bcast_S8_S1x1x8_2 (iotaInDim S8 32 0))))
          shapeCasts_S2x16x8_S2x128⟩]
    concatenates_S2x1024_S2x128_S2x1152_d1

/-- The gathered derivatives of the scores, from the derivatives `X`. -/
def refEll (X : FVec Ideal S2x16x2x1024x1024 .f32) : FVec Ideal S2x32x1152x128 .f32 :=
  mulf
    (transpose S2x32x1152x128 [0, 2, 1, 3]
      (Host.dotGeneral dot_S2x32x1152x1024_S2x1152x128x1024_S2x1152x32x128_3_3_1_2_02_01 none
        (transpose S2x32x1152x1024 [0, 1, 3, 2]
          (Host.dotGeneral dot_S2x32x1024x1024_S2x1152x1024_S2x32x1024x1152_2_2_13_1_0_0 none
            (shapeCast S2x32x1024x1024 X shapeCasts_S2x16x2x1024x1024_S2x32x1024x1024)
            (uitofp FTy.f32
              (cmpi CmpIPredicate.eq
                (broadcastInDim S2x1152x1024 ![0, 1, 2] bcast_S2x1152x1_S2x1152x1024_0_1_2
                  (broadcastInDim S2x1152x1 ![0, 1] bcast_S2x1152_S2x1152x1_0_1 (refRow a13)))
                (broadcastInDim S2x1152x1024 ![0, 1, 2] bcast_S1x1x1024_S2x1152x1024_0_1_2
                  (broadcastInDim S1x1x1024 ![2] bcast_S1024_S1x1x1024_2 (iotaInDim S1024 32 0))))))
          transposes_S2x32x1024x1152_S2x32x1152x1024_0_1_3_2)
        (uitofp FTy.f32
          (cmpi CmpIPredicate.eq
            (broadcastInDim S2x1152x128x1024 ![0, 1, 2, 3] bcast_S2x1152x128x1_S2x1152x128x1024_0_1_2_3
              (broadcastInDim S2x1152x128x1 ![0, 1, 2] bcast_S2x1152x128_S2x1152x128x1_0_1_2 a11))
            (broadcastInDim S2x1152x128x1024 ![0, 1, 2, 3] bcast_S1x1x1x1024_S2x1152x128x1024_0_1_2_3
              (broadcastInDim S1x1x1x1024 ![3] bcast_S1024_S1x1x1x1024_3 (iotaInDim S1024 32 0))))))
      transposes_S2x1152x32x128_S2x32x1152x128_0_2_1_3)
    (broadcastInDim S2x32x1152x128 ![0, 1, 2, 3] bcast_S2x1x1152x128_S2x32x1152x128_0_1_2_3
      (broadcastInDim S2x1x1152x128 ![0, 2, 3] bcast_S2x1152x128_S2x1x1152x128_0_2_3 a12))

/-- The arguments of the reference's arrays, at coordinates; the bias is given apart, by its powers of two. -/
def refArgs (bias : Fin 2 → Fin 1024 → Fin 1024 → EReal) : Args where
  q b r h d := q (ix4 b r h d)
  qs b h := a1 (ix2 b h)
  k b r n d := k (ix4 b r n d)
  ks b n := a3 (ix2 b n)
  v b r n d := v (ix4 b r n d)
  vs b n := a5 (ix2 b n)
  o b r h d := a6 (ix4 b r h d)
  lse b r h := a7 (ix3 b r h)
  dout b r h d := dd (ix4 b r h d)
  dsc b r := a9 (ix2 b r)
  bias := bias

abbrev smR : EReal := FloatOps.ofBits (F := Ideal) .f32 0x3DB504F3#32

variable (bias : Fin 2 → Fin 1024 → Fin 1024 → EReal) (hc : ∀ b r c, cnt (ix3 b r c) = Ideal.exp2 (bias b r c))

theorem hd_mk (n : Fin 16) (g : Fin 2) (h : n.val * 2 + g.val < 32) : (⟨n.val * 2 + g.val, h⟩ : Fin 32) = hd n g :=
  Fin.ext (show n.val * 2 + g.val = 2 * n.val + g.val by omega)

include hc in
/-- The probabilities at coordinates. -/
theorem refP_at (b : Fin 2) (n : Fin 16) (g : Fin 2) (r c : Fin 1024) :
    refP q k cnt a1 a3 a7 (ix5 b n g r c) = rP smR (refArgs q k v dd a1 a3 a5 a6 a7 a9 bias) b n g r c := by
  unfold rP qk
  pointwise [refP, refArgs]
  simp only [hd_mk, hc]
  rw [Finset.sum_congr rfl fun x _ => mul_comm (k (ix4 b c n x)) (q (ix4 b r (hd n g) x))]

include hc in
/-- The derivatives of the scores at coordinates. -/
theorem refDs_at (b : Fin 2) (n : Fin 16) (g : Fin 2) (r c : Fin 1024) :
    refDs q k v dd cnt a1 a3 a5 a6 a7 a9 (ix5 b n g r c) = rDs smR (refArgs q k v dd a1 a3 a5 a6 a7 a9 bias) b n g r c := by
  unfold rDs
  rw [← refP_at q k v dd cnt a1 a3 a5 a6 a7 a9 bias hc]
  unfold dov
  pointwise [refDs, refArgs]
  simp only [hd_mk]
  rw [Finset.sum_congr rfl fun x _ => mul_comm (v (ix4 b c n x)) (dd (ix4 b r (hd n g) x))]

/-- The gradient of the queries at coordinates. -/
theorem refDq_at (X : FVec Ideal S2x16x2x1024x1024 .f32) (A : Args) (hk : ∀ b r n d, k (ix4 b r n d) = A.k b r n d)
    (hks : ∀ b n, a3 (ix2 b n) = A.ks b n) (hX : ∀ b n g r c, X (ix5 b n g r c) = rDs smR A b n g r c)
    (b : Fin 2) (h : Fin 32) (r : Fin 1024) (d : Fin 128) :
    refDq k a3 X (ix4 b h r d) = rDq smR A b (kvOf h) (grpOf h) r d := by
  unfold rDq
  simp only [← hX, ← hk, ← hks]
  pointwise [refDq]
  rfl

/-- The gradient of the keys at coordinates. -/
theorem refDk_at (X : FVec Ideal S2x16x2x1024x1024 .f32) (A : Args) (hq : ∀ b r h d, q (ix4 b r h d) = A.q b r h d)
    (hqs : ∀ b h, a1 (ix2 b h) = A.qs b h) (hX : ∀ b n g r c, X (ix5 b n g r c) = rDs smR A b n g r c)
    (b : Fin 2) (n : Fin 16) (c : Fin 1024) (d : Fin 128) :
    refDk q a1 X (ix4 b n c d) = rDk smR A b n c d := by
  unfold rDk
  simp only [← hX, ← hq, ← hqs]
  pointwise [refDk]
  simp only [hd_mk]

/-- The gradient of the values at coordinates. -/
theorem refDv_at (X : FVec Ideal S2x16x2x1024x1024 .f32) (A : Args) (hd' : ∀ b r h d, dd (ix4 b r h d) = A.dout b r h d)
    (hs : ∀ b r, a9 (ix2 b r) = A.dsc b r) (hX : ∀ b n g r c, X (ix5 b n g r c) = rP smR A b n g r c)
    (b : Fin 2) (n : Fin 16) (c : Fin 1024) (d : Fin 128) :
    refDv dd a9 X (ix4 b n c d) = rDv smR A b n c d := by
  unfold rDv
  simp only [← hX, ← hd', ← hs]
  pointwise [refDv]
  simp only [hd_mk]

/-- The member of a family that a word names, zero if it names none. -/
def pick (w : BitVec 32) (f : Fin 1024 → EReal) : EReal := if h : w.toNat < 1024 then f ⟨w.toNat, h⟩ else 0

/-- A sum against the indicator of a word is the member the word names. -/
theorem sum_pick (w : BitVec 32) (f : Fin 1024 → EReal) :
    ∑ x : Fin 1024, f x * FloatOps.uitofp (F := Ideal) FTy.f32 (IntOp.cmpi CmpIPredicate.eq w (BitVec.ofNat 32 x.val)) = pick w f := by
  have e : ∀ x : Fin 1024, f x * FloatOps.uitofp (F := Ideal) FTy.f32 (IntOp.cmpi CmpIPredicate.eq w (BitVec.ofNat 32 x.val))
      = if w.toNat = x.val then f x else 0 := fun x => by
    have hx : (BitVec.ofNat 32 x.val).toNat = x.val := by simp only [BitVec.toNat_ofNat]; omega
    by_cases h : w = BitVec.ofNat 32 x.val
    · rw [if_pos (by rw [h, hx])]
      simp [IntOp.cmpi, h, FloatOps.uitofp]
    · rw [if_neg (fun h' => h (BitVec.eq_of_toNat_eq (by rw [hx]; exact h')))]
      simp [IntOp.cmpi, h, FloatOps.uitofp]
  rw [Finset.sum_congr rfl fun x _ => e x]
  unfold pick
  by_cases h : w.toNat < 1024
  · rw [dif_pos h, Finset.sum_eq_single (⟨w.toNat, h⟩ : Fin 1024), if_pos rfl]
    · intro x _ hx
      exact if_neg fun h' => hx (Fin.ext h'.symm)
    · intro h'; exact absurd (Finset.mem_univ _) h'
  · rw [dif_neg h]
    exact Finset.sum_eq_zero fun x _ => if_neg (by omega)

/-- The gathered derivatives at coordinates: the one the slot's row and the word of `idx` name, times the weight. -/
theorem refEll_at (X : FVec Ideal S2x16x2x1024x1024 .f32) (b : Fin 2) (h : Fin 32) (s : Fin 1152) (l : Fin 128) :
    refEll a11 a12 a13 X (ix4 b h s l)
      = pick (a11 (ix3 b s l)) (fun x => pick (refRow a13 (ix2 b s)) fun r => X (ix5 b (kvOf h) (grpOf h) r x)) * a12 (ix3 b s l) := by
  pointwise [refEll]
  rw [← sum_pick]
  simp only [← sum_pick]
  rfl

/-- The row of a slot: its own number, or one of the eight rows of its extra group. -/
theorem refRow_at (b : Fin 2) (s : Fin 1152) :
    refRow a13 (ix2 b s) = if h : s.val < 1024 then BitVec.ofNat 32 s.val
      else a13 (ix2 b ⟨(s.val - 1024) / 8, by omega⟩) * 8#32 + BitVec.ofNat 32 ((s.val - 1024) % 8) := by
  pointwise [refRow]
  rfl

variable (W : Valuation τ sig (Elt Ideal))

set_option maxHeartbeats 1600000 in
/-- What the host operations leave as the gradient of the queries, from any contents of the buffers they start from. -/
theorem tail_dq : StableHlo.after (hostOps1 (F := Ideal)) W (Proc.devRef .tc main_v60) = refDq (W (Proc.devRef .tc main_v0_1)) (W (Proc.devRef .tc main_arg3)) (refDs (W (Proc.devRef .tc main_v0_0)) (W (Proc.devRef .tc main_v0_1)) (W (Proc.devRef .tc main_v0_2)) (W (Proc.devRef .tc main_v0_3)) (W (Proc.devRef .tc main_v0_4)) (W (Proc.devRef .tc main_arg1)) (W (Proc.devRef .tc main_arg3)) (W (Proc.devRef .tc main_arg5)) (W (Proc.devRef .tc main_arg6)) (W (Proc.devRef .tc main_arg7)) (W (Proc.devRef .tc main_arg9))) := by
  simp only [StableHlo.after_cons, StableHlo.after_nil]
  after_results_simp
  after_results_loop
  rfl

set_option maxHeartbeats 1600000 in
/-- What the host operations leave as the gradient of the keys, from any contents of the buffers they start from. -/
theorem tail_dk : StableHlo.after (hostOps1 (F := Ideal)) W (Proc.devRef .tc main_v68) = refDk (W (Proc.devRef .tc main_v0_0)) (W (Proc.devRef .tc main_arg1)) (refDs (W (Proc.devRef .tc main_v0_0)) (W (Proc.devRef .tc main_v0_1)) (W (Proc.devRef .tc main_v0_2)) (W (Proc.devRef .tc main_v0_3)) (W (Proc.devRef .tc main_v0_4)) (W (Proc.devRef .tc main_arg1)) (W (Proc.devRef .tc main_arg3)) (W (Proc.devRef .tc main_arg5)) (W (Proc.devRef .tc main_arg6)) (W (Proc.devRef .tc main_arg7)) (W (Proc.devRef .tc main_arg9))) := by
  simp only [StableHlo.after_cons, StableHlo.after_nil]
  after_results_simp
  after_results_loop
  rfl

set_option maxHeartbeats 1600000 in
/-- What the host operations leave as the gradient of the values, from any contents of the buffers they start from. -/
theorem tail_dv : StableHlo.after (hostOps1 (F := Ideal)) W (Proc.devRef .tc main_v71) = refDv (W (Proc.devRef .tc main_v0_3)) (W (Proc.devRef .tc main_arg9)) (refP (W (Proc.devRef .tc main_v0_0)) (W (Proc.devRef .tc main_v0_1)) (W (Proc.devRef .tc main_v0_4)) (W (Proc.devRef .tc main_arg1)) (W (Proc.devRef .tc main_arg3)) (W (Proc.devRef .tc main_arg7))) := by
  simp only [StableHlo.after_cons, StableHlo.after_nil]
  after_results_simp
  after_results_loop
  rfl

set_option maxHeartbeats 1600000 in
/-- What the host operations leave as the gathered derivatives, from any contents of the buffers they start from. -/
theorem tail_ell : StableHlo.after (hostOps1 (F := Ideal)) W (Proc.devRef .tc main_v106) = refEll (W (Proc.devRef .tc main_arg11)) (W (Proc.devRef .tc main_arg12)) (W (Proc.devRef .tc main_arg13)) (refDs (W (Proc.devRef .tc main_v0_0)) (W (Proc.devRef .tc main_v0_1)) (W (Proc.devRef .tc main_v0_2)) (W (Proc.devRef .tc main_v0_3)) (W (Proc.devRef .tc main_v0_4)) (W (Proc.devRef .tc main_arg1)) (W (Proc.devRef .tc main_arg3)) (W (Proc.devRef .tc main_arg5)) (W (Proc.devRef .tc main_arg6)) (W (Proc.devRef .tc main_arg7)) (W (Proc.devRef .tc main_arg9))) := by
  simp only [StableHlo.after_cons, StableHlo.after_nil]
  after_results_simp
  after_results_loop
  rfl

end Cert.ReferenceIdeal.Proof
end
-- ==== Proof.KernelIdealGather.lean ====
/- One group of eight slots of the gathered derivatives: eight rows of derivatives, of each row the columns that the index
   words name, times the weights. The body makes it of eight column blocks, each gathered by the low seven bits of the words
   and kept where the high bits name the block. -/
module

public import proofs.«01_k».proof.Proof.KernelIdealTiles
public import proofs.«01_k».proof.Proof.ReferenceIdealStages

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Cert.ReferenceIdeal.Proof (pick)

/-! ## Words -/

theorem low_toNat (w : BitVec 32) : (IntOp.andi w 127#32).toNat = w.toNat % 128 := by
  simp only [IntOp.andi, BitVec.toNat_and, BitVec.toNat_ofNat]
  exact Nat.and_two_pow_sub_one_eq_mod _ 7

theorem low_sign (w : BitVec 32) : IntOp.cmpi .slt (IntOp.andi w 127#32) 0#32 = 0#1 := by
  have h := low_toNat w
  have hw : w.toNat % 128 < 128 := Nat.mod_lt _ (by decide)
  have : ¬ (IntOp.andi w 127#32).slt 0#32 = true := by
    rw [BitVec.slt_iff_toInt_lt, BitVec.toInt_eq_toNat_of_lt (by omega)]
    simp
  simp only [IntOp.cmpi]
  rw [Bool.not_eq_true] at this
  rw [this]; rfl

theorem high_eq (w : BitVec 32) (b : ℕ) (hb : b < 8) :
    IntOp.cmpi .eq (IntOp.shrsi .vector w 7#32) (BitVec.ofNat 32 b) = if w.toNat / 128 = b then 1#1 else 0#1 := by
  have hs : IntOp.shrsi .vector w 7#32 = w.sshiftRight 7 := rfl
  have hi : (w.sshiftRight 7).toInt = w.toInt / 128 := by
    rw [BitVec.toInt_sshiftRight, Int.shiftRight_eq_div_pow]; rfl
  have hbi : (BitVec.ofNat 32 b).toInt = b := by
    rw [BitVec.toInt_eq_toNat_of_lt] <;> rw [BitVec.toNat_ofNat] <;> omega
  have key : w.sshiftRight 7 = BitVec.ofNat 32 b ↔ w.toNat / 128 = b := by
    rw [← BitVec.toInt_inj, hi, hbi]
    have hlt := w.isLt
    simp only [BitVec.toInt]
    split <;> omega
  rw [hs]
  simp only [IntOp.cmpi]
  by_cases h : w.toNat / 128 = b
  · rw [if_pos h, key.mpr h, beq_self_eq_true]; rfl
  · rw [if_neg h]
    have : ¬ w.sshiftRight 7 = BitVec.ofNat 32 b := fun e => h (key.mp e)
    rw [beq_eq_false_iff_ne.mpr this]; rfl

/-! ## The gather -/

/-- The columns of one block that the words name, by their low bits. -/
def colGather (L : IVec S8x128 32) (V : Vec Ideal S8x128 .f32) : FVec Ideal S8x128 .f32 :=
  dynamicGather 1 V (shapeCast S8x128 (shapeCast S8x128x1 (select (cmpi .slt L (broadcast S8x128 0#32)) (addi L (broadcast S8x128 128#32)) L) shapeCasts_S8x128_S8x128x1) shapeCasts_S8x128x1_S8x128)

/-- Those, where the high bits name the block; elsewhere what was found before. -/
def colKeep (b : ℕ) (L H : IVec S8x128 32) (V : Vec Ideal S8x128 .f32) (P : FVec Ideal S8x128 .f32) : FVec Ideal S8x128 .f32 :=
  select (cmpi .eq H (broadcast S8x128 (BitVec.ofNat 32 b))) (colGather L V) P

/-- The words of a group, without the unit axis; their low bits; their high bits. -/
def wordsOf (Y : Vec Ideal S1x8x128 .i32) : IVec S8x128 32 := shapeCast S8x128 Y shapeCasts_S1x8x128_S8x128
def lowOf (Y : Vec Ideal S1x8x128 .i32) : IVec S8x128 32 := andi (wordsOf Y) (broadcast S8x128 127#32)
def highOf (Y : Vec Ideal S1x8x128 .i32) : IVec S8x128 32 := shrsi (wordsOf Y) (broadcast S8x128 7#32)

/-- What the words name in the eight blocks, times the weights. -/
def rowGather (Y : Vec Ideal S1x8x128 .i32) (V : Fin 8 → Vec Ideal S8x128 .f32) (M : Vec Ideal S1x8x128 .f32) : FVec Ideal S1x1x8x128 .f32 :=
  shapeCast S1x1x8x128
    (mulf (colKeep 7 (lowOf Y) (highOf Y) (V 7) (colKeep 6 (lowOf Y) (highOf Y) (V 6) (colKeep 5 (lowOf Y) (highOf Y) (V 5)
      (colKeep 4 (lowOf Y) (highOf Y) (V 4) (colKeep 3 (lowOf Y) (highOf Y) (V 3) (colKeep 2 (lowOf Y) (highOf Y) (V 2)
      (colKeep 1 (lowOf Y) (highOf Y) (V 1) (colKeep 0 (lowOf Y) (highOf Y) (V 0)
        (broadcast S8x128 (Scalar.ofBits (F := Ideal) .f32 0x00000000#32))))))))))
      (shapeCast S8x128 M shapeCasts_S1x8x128_S8x128))
    shapeCasts_S8x128_S1x1x8x128

theorem wordsOf_at (Y : Vec Ideal S1x8x128 .i32) (r : Fin 8) (l : Fin 128) : wordsOf Y (ix2 r l) = Y (ix3 0 r l) := by
  pointwise [wordsOf]

theorem colGather_at (Y : Vec Ideal S1x8x128 .i32) (V : Vec Ideal S8x128 .f32) (r : Fin 8) (l : Fin 128) :
    colGather (lowOf Y) V (ix2 r l) = V (ix2 r ⟨(Y (ix3 0 r l)).toNat % 128, Nat.mod_lt _ (by decide)⟩) := by
  have e : ∀ j, lowOf Y j = IntOp.andi (wordsOf Y j) 127#32 := fun _ => rfl
  have hsel : select (cmpi .slt (lowOf Y) (broadcast S8x128 0#32)) (addi (lowOf Y) (broadcast S8x128 128#32)) (lowOf Y) = lowOf Y := by
    funext j
    show (if IntOp.cmpi .slt (IntOp.andi (wordsOf Y j) 127#32) 0#32 = 1#1 then _ else _) = _
    rw [low_sign]; rfl
  unfold colGather
  rw [hsel]
  pointwise
  have h : (lowOf Y (ix2 r l)).toNat % 128 = (Y (ix3 0 r l)).toNat % 128 := by
    rw [e, wordsOf_at, low_toNat]; exact Nat.mod_mod _ _
  exact congrArg V (congrArg (ix2 r) (Fin.ext h))

theorem colKeep_at (b : ℕ) (hb : b < 8) (Y : Vec Ideal S1x8x128 .i32) (V : Vec Ideal S8x128 .f32) (P : FVec Ideal S8x128 .f32)
    (r : Fin 8) (l : Fin 128) (f : Fin 1024 → EReal) (hV : ∀ k : Fin 128, V (ix2 r k) = f ⟨128 * b + k, by omega⟩)
    (hP : P (ix2 r l) = if h : (Y (ix3 0 r l)).toNat < 128 * b then f ⟨(Y (ix3 0 r l)).toNat, by omega⟩ else 0) :
    colKeep b (lowOf Y) (highOf Y) V P (ix2 r l)
      = if h : (Y (ix3 0 r l)).toNat < 128 * (b + 1) then f ⟨(Y (ix3 0 r l)).toNat, by omega⟩ else 0 := by
  show (if IntOp.cmpi .eq (IntOp.shrsi .vector (wordsOf Y (ix2 r l)) 7#32) (BitVec.ofNat 32 b) = 1#1 then colGather (lowOf Y) V (ix2 r l) else P (ix2 r l)) = _
  rw [high_eq _ b hb, wordsOf_at, colGather_at, hV, hP]
  by_cases h : (Y (ix3 0 r l)).toNat / 128 = b
  · rw [if_pos h, if_pos rfl, dif_pos (by omega)]
    exact congrArg f (Fin.ext (by show 128 * b + (Y (ix3 0 r l)).toNat % 128 = (Y (ix3 0 r l)).toNat; omega))
  · rw [if_neg h, if_neg (by decide)]
    by_cases h' : (Y (ix3 0 r l)).toNat < 128 * b
    · rw [dif_pos h', dif_pos (by omega)]
    · rw [dif_neg h', dif_neg (by omega)]

/-- One group of slots at coordinates. -/
theorem rowGather_at (Y : Vec Ideal S1x8x128 .i32) (V : Fin 8 → Vec Ideal S8x128 .f32) (M : Vec Ideal S1x8x128 .f32)
    (r : Fin 8) (l : Fin 128) (f : Fin 1024 → EReal) (hV : ∀ (b : Fin 8) (k : Fin 128), V b (ix2 r k) = f ⟨128 * (b : ℕ) + k, by omega⟩) :
    rowGather Y V M (ix4 0 0 r l) = pick (Y (ix3 0 r l)) f * M (ix3 0 r l) := by
  have hz : (broadcast S8x128 (Scalar.ofBits (F := Ideal) .f32 0x00000000#32) : FVec Ideal S8x128 .f32) (ix2 r l)
      = if h : (Y (ix3 0 r l)).toNat < 128 * 0 then f ⟨(Y (ix3 0 r l)).toNat, by omega⟩ else 0 := by
    rw [dif_neg (by omega)]; exact Ideal.ofBits_zero_f32
  have h0 := colKeep_at 0 (by decide) Y (V 0) _ r l f (hV 0) hz
  have h1 := colKeep_at 1 (by decide) Y (V 1) _ r l f (hV 1) h0
  have h2 := colKeep_at 2 (by decide) Y (V 2) _ r l f (hV 2) h1
  have h3 := colKeep_at 3 (by decide) Y (V 3) _ r l f (hV 3) h2
  have h4 := colKeep_at 4 (by decide) Y (V 4) _ r l f (hV 4) h3
  have h5 := colKeep_at 5 (by decide) Y (V 5) _ r l f (hV 5) h4
  have h6 := colKeep_at 6 (by decide) Y (V 6) _ r l f (hV 6) h5
  have h7 := colKeep_at 7 (by decide) Y (V 7) _ r l f (hV 7) h6
  refine Eq.trans ?_ (congrArg₂ (· * ·) h7 (rfl : M (ix3 0 r l) = M (ix3 0 r l)))
  pointwise [rowGather]

/-- The gathered derivatives of a block of slots: from the words, the weights, the row each slot stands for and the
    derivatives of each of two heads. -/
def ellG (X : Vec Ideal S1x1152x128 .i32) (M : Vec Ideal S1x1152x128 .f32) (row : Fin 1152 → Fin 1024)
    (D : Fin 2 → Vec Ideal S1024x1024 .f32) : Vec Ideal S1x2x1152x128 .f32 :=
  fun y => pick (X (ix3 0 (y 2) (y 3))) (fun x => D (y 1) (ix2 (row (y 2)) x)) * M (ix3 0 (y 2) (y 3))

/-- Where an element of a stored group lies, and where its word and weight do. -/
theorem emb4 (g : Fin 2) (s0 : ℕ) (i4) (r : Fin 8) (l : Fin 128) (hs : s0 + (r : ℕ) < 1152) :
    (Rect.unit (s := S1x2x1152x128) ![0, (g : ℕ), s0, 0] S1x1x8x128.size i4).emb (ix4 0 0 r l) = ix4 0 g ⟨s0 + r, hs⟩ l := by
  refine funext fun a => Fin.ext ?_
  fin_cases a
  · show 0 + 1 * 0 = 0; rfl
  · show (g : ℕ) + 1 * 0 = g; omega
  · show s0 + 1 * (r : ℕ) = s0 + r; omega
  · show 0 + 1 * (l : ℕ) = l; omega
theorem emb3 (s0 : ℕ) (i3) (r : Fin 8) (l : Fin 128) (hs : s0 + (r : ℕ) < 1152) :
    (Rect.unit (s := S1x1152x128) ![0, s0, 0] S1x8x128.size i3).emb (ix3 0 r l) = ix3 0 ⟨s0 + r, hs⟩ l := by
  refine funext fun a => Fin.ext ?_
  fin_cases a
  · show 0 + 1 * 0 = 0; rfl
  · show s0 + 1 * (r : ℕ) = s0 + r; omega
  · show 0 + 1 * (l : ℕ) = l; omega
theorem emb2 (o b : ℕ) (i2) (r : Fin 8) (k : Fin 128) (ho : o + (r : ℕ) < 1024) (hb : 128 * b + (k : ℕ) < 1024) :
    (Rect.unit (s := S1024x1024) ![o, 128 * b] S8x128.size i2).emb (ix2 r k) = ix2 ⟨o + r, ho⟩ ⟨128 * b + k, hb⟩ := by
  refine funext fun a => Fin.ext ?_
  fin_cases a
  · show o + 1 * (r : ℕ) = o + r; omega
  · show 128 * b + 1 * (k : ℕ) = 128 * b + k; omega

theorem ellG_at (X : Vec Ideal S1x1152x128 .i32) (M : Vec Ideal S1x1152x128 .f32) (row : Fin 1152 → Fin 1024)
    (D : Fin 2 → Vec Ideal S1024x1024 .f32) (g : Fin 2) (s : Fin 1152) (l : Fin 128) :
    ellG X M row D (ix4 0 g s l) = pick (X (ix3 0 s l)) (fun x => D g (ix2 (row s) x)) * M (ix3 0 s l) := rfl

/-- A group of eight slots gathered from loads, as it is stored: a block of the gathered derivatives. -/
theorem gather_at (X : Vec Ideal S1x1152x128 .i32) (M : Vec Ideal S1x1152x128 .f32) (row : Fin 1152 → Fin 1024)
    (D : Fin 2 → Vec Ideal S1024x1024 .f32) (g : Fin 2) (s0 o : ℕ) (hs : s0 + 8 ≤ 1152) (ho : o + 8 ≤ 1024)
    (hrow : ∀ (s : Fin 1152) (r : ℕ), (s : ℕ) = s0 + r → r < 8 → (row s : ℕ) = o + r)
    (arg13 : Memref sig .tc .vmem S1x1152x128 .i32) (harg13 : arg13.IsWhole) (arg14 : Memref sig .tc .vmem S1x1152x128 .f32) (harg14 : arg14.IsWhole)
    (arg21 : Memref sig .tc .vmem S1024x1024 .f32) (F21 : arg21.view.ty.Contents (Elt Ideal))
    (hD : ∀ (q : Rect S1024x1024) (x : q.shape.Idx), View.readAt (Elt Ideal) arg21.view q.toLoadRect F21 x = D g (q.emb x))
    (i3) (i2 : ∀ (b : Fin 8) (a : Fin 2), (![o, 128 * (b : ℕ)] : Fin 2 → ℕ) a + S8x128.size a ≤ S1024x1024.size a) (i4) (r : Fin 8) (l : Fin 128) :
    rowGather (View.readAt (Elt Ideal) arg13.view (Rect.unit (s := S1x1152x128) ![0, s0, 0] S1x8x128.size i3).toLoadRect (harg13.unread X))
      (fun b => View.readAt (Elt Ideal) arg21.view (Rect.unit (s := S1024x1024) ![o, 128 * (b : ℕ)] S8x128.size (i2 b)).toLoadRect F21)
      (View.readAt (Elt Ideal) arg14.view (Rect.unit (s := S1x1152x128) ![0, s0, 0] S1x8x128.size i3).toLoadRect (harg14.unread M)) (ix4 0 0 r l)
    = ellG X M row D ((Rect.unit (s := S1x2x1152x128) ![0, (g : ℕ), s0, 0] S1x1x8x128.size i4).emb (ix4 0 0 r l)) := by
  have hr : (r : ℕ) < 8 := r.isLt
  have hrw : row ⟨s0 + r, by omega⟩ = ⟨o + r, by omega⟩ := Fin.ext (hrow ⟨s0 + r, by omega⟩ r rfl hr)
  refine (rowGather_at _ _ _ r l (fun k => D g (ix2 ⟨o + r, by omega⟩ k)) fun b k => ?_).trans ?_
  · exact (hD _ _).trans (congrArg (D g) (emb2 o b _ r k _ _))
  · rw [emb4 g s0 i4 r l (by omega), ellG_at, hrw]
    refine congrArg₂ (fun w v => pick w (fun k => D g (ix2 ⟨o + r, by omega⟩ k)) * v) ?_ ?_
    · exact (readAt_unread arg13 harg13 X _ _).trans (congrArg X (emb3 s0 i3 r l (by omega)))
    · exact (readAt_unread arg14 harg14 M _ _).trans (congrArg M (emb3 s0 i3 r l (by omega)))

/-- A list of one store: eight slots of one head, from a slot on, a block of `G`. -/
def GroupOf (G : Vec Ideal S1x2x1152x128 .f32) (g s0 : ℕ) (L : List (View.Piece (Elt Ideal) S1x2x1152x128 .f32)) : Prop :=
  ∃ i4 w, L = [⟨Rect.unit (s := S1x2x1152x128) ![0, g, s0, 0] S1x1x8x128.size i4, w⟩]
    ∧ ∀ x, w x = G ((Rect.unit (s := S1x2x1152x128) ![0, g, s0, 0] S1x1x8x128.size i4).emb x)

theorem inb3 (s0 : ℕ) (h : s0 + 8 ≤ 1152) (o3 : Fin 3 → ℕ) (h3 : o3 = ![0, s0, 0]) (a : Fin 3) : o3 a + S1x8x128.size a ≤ S1x1152x128.size a := by
  subst h3
  fin_cases a
  · show 0 + 1 ≤ 1; omega
  · exact h
  · show 0 + 128 ≤ 128; omega
theorem inb2 (o : ℕ) (h : o + 8 ≤ 1024) (o2 : Fin 8 → Fin 2 → ℕ) (h2 : ∀ b : Fin 8, o2 b = ![o, 128 * (b : ℕ)]) (b : Fin 8) (a : Fin 2) :
    o2 b a + S8x128.size a ≤ S1024x1024.size a := by
  rw [h2]
  fin_cases a
  · exact h
  · show 128 * (b : ℕ) + 128 ≤ 1024; omega
theorem inb4 (g : Fin 2) (s0 : ℕ) (h : s0 + 8 ≤ 1152) (o4 : Fin 4 → ℕ) (h4 : o4 = ![0, (g : ℕ), s0, 0]) (a : Fin 4) :
    o4 a + S1x1x8x128.size a ≤ S1x2x1152x128.size a := by
  subst h4
  fin_cases a
  · show 0 + 1 ≤ 1; omega
  · show (g : ℕ) + 1 ≤ 2; omega
  · exact h
  · show 0 + 128 ≤ 128; omega

/-- The same, as the list of the one store. -/
theorem gather_group (X : Vec Ideal S1x1152x128 .i32) (M : Vec Ideal S1x1152x128 .f32) (row : Fin 1152 → Fin 1024)
    (D : Fin 2 → Vec Ideal S1024x1024 .f32) (g : Fin 2) (s0 o : ℕ) (hs : s0 + 8 ≤ 1152) (ho : o + 8 ≤ 1024)
    (hrow : ∀ (s : Fin 1152) (r : ℕ), (s : ℕ) = s0 + r → r < 8 → (row s : ℕ) = o + r)
    (arg13 : Memref sig .tc .vmem S1x1152x128 .i32) (harg13 : arg13.IsWhole) (arg14 : Memref sig .tc .vmem S1x1152x128 .f32) (harg14 : arg14.IsWhole)
    (arg21 : Memref sig .tc .vmem S1024x1024 .f32) (F21 : arg21.view.ty.Contents (Elt Ideal))
    (hD : ∀ (q : Rect S1024x1024) (x : q.shape.Idx), View.readAt (Elt Ideal) arg21.view q.toLoadRect F21 x = D g (q.emb x))
    (o3 : Fin 3 → ℕ) (h3 : o3 = ![0, s0, 0]) (o2 : Fin 8 → Fin 2 → ℕ) (h2 : ∀ b : Fin 8, o2 b = ![o, 128 * (b : ℕ)])
    (o4 : Fin 4 → ℕ) (h4 : o4 = ![0, (g : ℕ), s0, 0]) (L : List (View.Piece (Elt Ideal) S1x2x1152x128 .f32))
    (hL : L = [⟨Rect.unit (s := S1x2x1152x128) o4 S1x1x8x128.size (inb4 g s0 hs o4 h4),
      rowGather (View.readAt (Elt Ideal) arg13.view (Rect.unit (s := S1x1152x128) o3 S1x8x128.size (inb3 s0 hs o3 h3)).toLoadRect (harg13.unread X))
        (fun b => View.readAt (Elt Ideal) arg21.view (Rect.unit (s := S1024x1024) (o2 b) S8x128.size (inb2 o ho o2 h2 b)).toLoadRect F21)
        (View.readAt (Elt Ideal) arg14.view (Rect.unit (s := S1x1152x128) o3 S1x8x128.size (inb3 s0 hs o3 h3)).toLoadRect (harg14.unread M))⟩]) :
    GroupOf (ellG X M row D) g s0 L := by
  subst h3 h4
  obtain rfl : o2 = fun (b : Fin 8) => ![o, 128 * (b : ℕ)] := funext h2
  refine ⟨_, _, hL, fun x => ?_⟩
  have ex : x = ix4 0 0 (x 2) (x 3) := (eq_ix4 x).trans (congrArg₂ (fun a b : Fin 1 => ix4 (n0 := 1) (n1 := 1) (n2 := 8) (n3 := 128) a b (x 2) (x 3)) (Subsingleton.elim (α := Fin 1) _ _) (Subsingleton.elim (α := Fin 1) _ _))
  rw [ex]
  exact gather_at X M row D g s0 o hs ho hrow arg13 harg13 arg14 harg14 arg21 F21 hD _ _ _ (x 2) (x 3)

/-- The stores of a loop's trips, the last in front: blocks of `G`. -/
theorem groups_blocks (G : Vec Ideal S1x2x1152x128 .f32) (g base N : ℕ) (f : ℕ → List (View.Piece (Elt Ideal) S1x2x1152x128 .f32))
    (T : Fin N → List (View.Piece (Elt Ideal) S1x2x1152x128 .f32)) (h0 : f 0 = []) (hs : ∀ k : Fin N, f (k + 1) = T k ++ f k)
    (hT : ∀ k : Fin N, GroupOf G g (base + 8 * k) (T k)) : ∀ n ≤ N, ∀ p ∈ f n, ∀ x, p.2 x = G (p.1.emb x)
  | 0, _, p, hp, x => by rw [h0] at hp; exact absurd hp List.not_mem_nil
  | n + 1, hn, p, hp, x => by
    rw [hs ⟨n, hn⟩, List.mem_append] at hp
    rcases hp with hp | hp
    · obtain ⟨i4, w, e, hw⟩ := hT ⟨n, hn⟩
      rw [e, List.mem_singleton] at hp
      subst hp
      exact hw x
    · exact groups_blocks G g base N f T h0 hs hT n (by omega) p hp x

/-- They reach every slot of the trips. -/
theorem groups_cover (G : Vec Ideal S1x2x1152x128 .f32) (g base N : ℕ) (f : ℕ → List (View.Piece (Elt Ideal) S1x2x1152x128 .f32))
    (T : Fin N → List (View.Piece (Elt Ideal) S1x2x1152x128 .f32)) (hs : ∀ k : Fin N, f (k + 1) = T k ++ f k)
    (hT : ∀ k : Fin N, GroupOf G g (base + 8 * k) (T k)) (y : S1x2x1152x128.Idx) (hg : (y 1 : ℕ) = g) (hb : base ≤ (y 2 : ℕ)) :
    ∀ n ≤ N, (y 2 : ℕ) < base + 8 * n → ∃ p ∈ f n, y ∈ p.1.set
  | 0, _, hy => by omega
  | n + 1, hn, hy => by
    rw [hs ⟨n, hn⟩]
    by_cases h : (y 2 : ℕ) < base + 8 * n
    · obtain ⟨p, hp, hy'⟩ := groups_cover G g base N f T hs hT y hg hb n (by omega) h
      exact ⟨p, List.mem_append_right _ hp, hy'⟩
    · obtain ⟨i4, w, e, hw⟩ := hT ⟨n, hn⟩
      refine ⟨_, List.mem_append_left _ (by rw [e]; exact List.mem_singleton.mpr rfl), ?_⟩
      have h0 : (y 0 : ℕ) < 1 := (y 0).isLt
      have h3 : (y 3 : ℕ) < 128 := (y 3).isLt
      refine (Rect.mem_set_unit (inb := i4)).mpr fun a => ?_
      fin_cases a
      · show 0 ≤ (y 0 : ℕ) ∧ (y 0 : ℕ) < 0 + 1; omega
      · show g ≤ (y 1 : ℕ) ∧ (y 1 : ℕ) < g + 1; omega
      · show base + 8 * n ≤ (y 2 : ℕ) ∧ (y 2 : ℕ) < base + 8 * n + 8; omega
      · show 0 ≤ (y 3 : ℕ) ∧ (y 3 : ℕ) < 0 + 128; omega

/-- Stores that are blocks of `G` and reach every slot of one head in a range. -/
def Slots (G : Vec Ideal S1x2x1152x128 .f32) (g lo hi : ℕ) (L : List (View.Piece (Elt Ideal) S1x2x1152x128 .f32)) : Prop :=
  (∀ p ∈ L, ∀ x, p.2 x = G (p.1.emb x)) ∧
    ∀ y : S1x2x1152x128.Idx, (y 1 : ℕ) = g → lo ≤ (y 2 : ℕ) → (y 2 : ℕ) < hi → ∃ p ∈ L, y ∈ p.1.set

theorem Slots.of_groups (G : Vec Ideal S1x2x1152x128 .f32) (g base N : ℕ) (f : ℕ → List (View.Piece (Elt Ideal) S1x2x1152x128 .f32))
    (T : Fin N → List (View.Piece (Elt Ideal) S1x2x1152x128 .f32)) (h0 : f 0 = []) (hs : ∀ k : Fin N, f (k + 1) = T k ++ f k)
    (hT : ∀ k : Fin N, GroupOf G g (base + 8 * k) (T k)) (hi : ℕ) (hN : hi = base + 8 * N) : Slots G g base hi (f N) :=
  ⟨groups_blocks G g base N f T h0 hs hT N le_rfl, fun y hg hb hy => groups_cover G g base N f T hs hT y hg hb N le_rfl (by omega)⟩

theorem Slots.empty (G : Vec Ideal S1x2x1152x128 .f32) (L : List (View.Piece (Elt Ideal) S1x2x1152x128 .f32)) (h : L = []) : Slots G 0 0 0 L :=
  ⟨fun p hp => by rw [h] at hp; exact absurd hp List.not_mem_nil, fun y _ _ hy => by omega⟩

/-- The stores of the six loops, the last in front: blocks of `G`, and every slot below a bound is reached. -/
theorem six_loops (G : Vec Ideal S1x2x1152x128 .f32) (L1 L2 L3 L4 L5 L6 : List (View.Piece (Elt Ideal) S1x2x1152x128 .f32)) (hi : ℕ)
    (h6 : Slots G 0 0 0 L6) (h5 : Slots G 1 1024 hi L5) (h4 : Slots G 1 0 1024 L4) (h3 : Slots G 0 0 0 L3) (h2 : Slots G 0 1024 hi L2)
    (h1 : Slots G 0 0 1024 L1) :
    (∀ p ∈ L6 ++ (L5 ++ (L4 ++ (L3 ++ (L2 ++ L1)))), ∀ x, p.2 x = G (p.1.emb x)) ∧
      ∀ y : S1x2x1152x128.Idx, (y 2 : ℕ) < 1024 ∨ (y 2 : ℕ) < hi → ∃ p ∈ L6 ++ (L5 ++ (L4 ++ (L3 ++ (L2 ++ L1)))), y ∈ p.1.set := by
  refine ⟨fun p hp => ?_, fun y hy => ?_⟩
  · simp only [List.mem_append] at hp
    rcases hp with hp | hp | hp | hp | hp | hp
    exacts [h6.1 p hp, h5.1 p hp, h4.1 p hp, h3.1 p hp, h2.1 p hp, h1.1 p hp]
  · have h1' : (y 1 : ℕ) < 2 := (y 1).isLt
    have key : (∃ p ∈ L5, y ∈ p.1.set) ∨ (∃ p ∈ L4, y ∈ p.1.set) ∨ (∃ p ∈ L2, y ∈ p.1.set) ∨ (∃ p ∈ L1, y ∈ p.1.set) := by
      rcases Nat.lt_or_ge (y 2 : ℕ) 1024 with hl | hl <;> rcases (by omega : (y 1 : ℕ) = 0 ∨ (y 1 : ℕ) = 1) with hg | hg
      · exact .inr (.inr (.inr (h1.2 y hg (Nat.zero_le _) hl)))
      · exact .inr (.inl (h4.2 y hg (Nat.zero_le _) hl))
      · exact .inr (.inr (.inl (h2.2 y hg hl (by omega))))
      · exact .inl (h5.2 y hg hl (by omega))
    rcases key with ⟨p, hp, hm⟩ | ⟨p, hp, hm⟩ | ⟨p, hp, hm⟩ | ⟨p, hp, hm⟩ <;>
      exact ⟨p, by simp only [List.mem_append, hp, true_or, or_true], hm⟩

end Cert.KernelIdeal.Proof
end
-- ==== Proof.KernelIdealSlots.lean ====
/- The stores of the loops that gather derivatives: each trip stores one group of eight slots, a block of the gathered
   derivatives. -/
module

public import proofs.«01_k».proof.Proof.KernelIdealGather
public import proofs.«01_k».proof.Proof.KernelIdealWords

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.Sem

variable (X : Vec Ideal S1x1152x128 .i32) (M : Vec Ideal S1x1152x128 .f32) (row : Fin 1152 → Fin 1024) (D : Fin 2 → Vec Ideal S1024x1024 .f32)
variable (𝒱 : Variants) (c : Dev nD) (bd : Option 𝒱.V) (i : grid0.Coords) (arg2 : Memref sig .tc .smem S3x2x32 .f32) (harg2 : arg2.IsWhole) (arg3 : Memref sig .tc .smem S2x128 .i32) (harg3 : arg3.IsWhole) (arg4 : Memref sig .tc .smem S2x128 .i32) (harg4 : arg4.IsWhole) (arg5 : Memref sig .tc .vmem S1x2x1024x128 .fp8e4m3) (harg5 : arg5.IsWhole) (arg6 : Memref sig .tc .vmem S1x2x1024x128 .fp8e5m2) (harg6 : arg6.IsWhole) (arg7 : Memref sig .tc .vmem S1x2x1024x128 .bf16) (harg7 : arg7.IsWhole) (arg8 : Memref sig .tc .vmem S1x1x1024x128 .fp8e4m3) (harg8 : arg8.IsWhole) (arg9 : Memref sig .tc .vmem S1x1x1024x128 .fp8e4m3) (harg9 : arg9.IsWhole) (arg10 : Memref sig .tc .vmem S1x2x1x1024 .f32) (harg10 : arg10.IsWhole) (arg11 : Memref sig .tc .vmem S1x1024x128 .f32) (harg11 : arg11.IsWhole) (arg12 : Memref sig .tc .vmem S1x1024x1024 .f32) (harg12 : arg12.IsWhole) (arg13 : Memref sig .tc .vmem S1x1152x128 .i32) (harg13 : arg13.IsWhole) (arg14 : Memref sig .tc .vmem S1x1152x128 .f32) (harg14 : arg14.IsWhole) (arg15 : Memref sig .tc .vmem S1x2x1024x128 .bf16) (harg15 : arg15.IsWhole) (arg16 : Memref sig .tc .vmem S1x1x1024x128 .bf16) (harg16 : arg16.IsWhole) (arg17 : Memref sig .tc .vmem S1x1x1024x128 .bf16) (harg17 : arg17.IsWhole) (arg18 : Memref sig .tc .vmem S1x2x1152x128 .f32) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S1024x1024 .f32) (harg21 : arg21.IsWhole) (arg22 : Memref sig .tc .vmem S2x1024x128 .f32) (harg22 : arg22.IsWhole) (arg23 : Memref sig .tc .vmem S128x1024 .f32) (harg23 : arg23.IsWhole) (arg24 : Memref sig .tc .vmem S128x1024 .f32) (harg24 : arg24.IsWhole) (arg0 : BitVec 32) (arg1 : BitVec 32) (v2 : Elt Ideal .f32) (v815 : FVec Ideal S128x256 .f32) (v817 : FVec Ideal S128x256 .f32)

/-- The loop over the groups of all rows, head 0: a trip's store. -/
theorem group_t1 (F21 : arg21.view.ty.Contents (Elt Ideal))
    (hD : ∀ (q : Rect S1024x1024) (x : q.shape.Idx), View.readAt (Elt Ideal) arg21.view q.toLoadRect F21 x = D 0 (q.emb x))
    (hrow : ∀ s : Fin 1152, (s : ℕ) < 1024 → (row s : ℕ) = s) (k : Fin k0_t1_loop.trips) :
    GroupOf (ellG X M row D) 0 (0 + 8 * k) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 (harg13.unread X) (harg14.unread M) F21 k) := by
  have hk : (k : ℕ) < 128 := Nat.lt_of_lt_of_le k.isLt k0_t1_abs.2.1
  refine gather_group X M row D 0 (0 + 8 * k) (8 * k) (by omega) (by omega) (fun s r hs hr => (hrow s (by omega)).trans (by omega)) arg13 harg13 arg14 harg14
    arg21 F21 hD (k0_off4 k) ((k0_off4_eq k).trans (by rw [Nat.zero_add])) ![k0_off5 k, k0_off6 k, k0_off7 k, k0_off8 k, k0_off9 k, k0_off10 k, k0_off11 k, k0_off12 k] ?_
    (k0_off13 k) ((k0_off13_eq k).trans (by rw [Nat.zero_add]; rfl)) _ ?_
  · exact fun b => match b with
      | 0 => k0_off5_eq k | 1 => k0_off6_eq k | 2 => k0_off7_eq k | 3 => k0_off8_eq k | 4 => k0_off9_eq k | 5 => k0_off10_eq k | 6 => k0_off11_eq k | 7 => k0_off12_eq k
  · unfold tripL_k0_t1 trip_k0_t1
    rfl

/-- The loop over the groups of all rows, head 1: a trip's store. -/
theorem group_t4 (F21 : arg21.view.ty.Contents (Elt Ideal))
    (hD : ∀ (q : Rect S1024x1024) (x : q.shape.Idx), View.readAt (Elt Ideal) arg21.view q.toLoadRect F21 x = D 1 (q.emb x))
    (hrow : ∀ s : Fin 1152, (s : ℕ) < 1024 → (row s : ℕ) = s) (k : Fin k0_t4_loop.trips) :
    GroupOf (ellG X M row D) 1 (0 + 8 * k) (tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg13.unread X) (harg14.unread M) F21 k) := by
  have hk : (k : ℕ) < 128 := Nat.lt_of_lt_of_le k.isLt k0_t4_abs.2.1
  refine gather_group X M row D 1 (0 + 8 * k) (8 * k) (by omega) (by omega) (fun s r hs hr => (hrow s (by omega)).trans (by omega)) arg13 harg13 arg14 harg14
    arg21 F21 hD (k0_off38 k) ((k0_off38_eq k).trans (by rw [Nat.zero_add])) ![k0_off39 k, k0_off40 k, k0_off41 k, k0_off42 k, k0_off43 k, k0_off44 k, k0_off45 k, k0_off46 k] ?_
    (k0_off47 k) ((k0_off47_eq k).trans (by rw [Nat.zero_add]; rfl)) _ ?_
  · exact fun b => match b with
      | 0 => k0_off39_eq k | 1 => k0_off40_eq k | 2 => k0_off41_eq k | 3 => k0_off42_eq k | 4 => k0_off43_eq k | 5 => k0_off44_eq k | 6 => k0_off45_eq k | 7 => k0_off46_eq k
  · unfold tripL_k0_t4 trip_k0_t4
    rfl

/-- The loop over the extra groups, head 0: a trip's store. -/
theorem group_t2 (v826 : BitVec 32) (hv : v826.toInt ≤ 16) (k0_hw1 : k0_chk1 i v826) (X3 : arg3.view.ty.Contents (Elt Ideal)) (F21 : arg21.view.ty.Contents (Elt Ideal))
    (hwL : ∀ k : Fin (k0_t2_loop v826).trips, k0_chk2 (k0_word2 (F := Ideal) arg3 i v826 k0_hw1 X3 k))
    (hD : ∀ (q : Rect S1024x1024) (x : q.shape.Idx), View.readAt (Elt Ideal) arg21.view q.toLoadRect F21 x = D 0 (q.emb x))
    (k : Fin (k0_t2_loop v826).trips) (hw' : (k0_word2 (F := Ideal) arg3 i v826 k0_hw1 X3 k : BitVec 32).toNat < 128)
    (hrow : ∀ (s : Fin 1152) (r : ℕ), (s : ℕ) = 1024 + 8 * k + r → r < 8 → (row s : ℕ) = 8 * (k0_word2 (F := Ideal) arg3 i v826 k0_hw1 X3 k : BitVec 32).toNat + r) :
    GroupOf (ellG X M row D) 0 (1024 + 8 * k) (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X3 (harg13.unread X) (harg14.unread M) F21 hwL k).1 := by
  have ht := trips_t2 v826
  have hk0 := k.isLt
  have hk : (k : ℕ) < 16 := by omega
  have es := slot_toNat hk
  have eg := grp_toNat hw'
  refine gather_group X M row D 0 (1024 + 8 * k) _ (by omega) (by omega) hrow arg13 harg13 arg14 harg14
    arg21 F21 hD (k0_off16 v826 k) (congrArg (fun a : ℕ => (![0, a, 0] : Fin 3 → ℕ)) es) ![k0_off17 (k0_word2 (F := Ideal) arg3 i v826 k0_hw1 X3 k), k0_off18 (k0_word2 (F := Ideal) arg3 i v826 k0_hw1 X3 k), k0_off19 (k0_word2 (F := Ideal) arg3 i v826 k0_hw1 X3 k), k0_off20 (k0_word2 (F := Ideal) arg3 i v826 k0_hw1 X3 k), k0_off21 (k0_word2 (F := Ideal) arg3 i v826 k0_hw1 X3 k), k0_off22 (k0_word2 (F := Ideal) arg3 i v826 k0_hw1 X3 k), k0_off23 (k0_word2 (F := Ideal) arg3 i v826 k0_hw1 X3 k), k0_off24 (k0_word2 (F := Ideal) arg3 i v826 k0_hw1 X3 k)] ?_
    (k0_off25 v826 k) (congrArg (fun a : ℕ => (![0, 0, a, 0] : Fin 4 → ℕ)) es) _ ?_
  · exact fun b => match b with
      | 0 => congrArg (fun a : ℕ => (![a, 0] : Fin 2 → ℕ)) eg | 1 => congrArg (fun a : ℕ => (![a, 128] : Fin 2 → ℕ)) eg | 2 => congrArg (fun a : ℕ => (![a, 256] : Fin 2 → ℕ)) eg | 3 => congrArg (fun a : ℕ => (![a, 384] : Fin 2 → ℕ)) eg | 4 => congrArg (fun a : ℕ => (![a, 512] : Fin 2 → ℕ)) eg | 5 => congrArg (fun a : ℕ => (![a, 640] : Fin 2 → ℕ)) eg | 6 => congrArg (fun a : ℕ => (![a, 768] : Fin 2 → ℕ)) eg | 7 => congrArg (fun a : ℕ => (![a, 896] : Fin 2 → ℕ)) eg
  · unfold trip_k0_t2
    rfl

/-- The loop over the extra groups, head 1: a trip's store. -/
theorem group_t5 (v1678 : BitVec 32) (hv : v1678.toInt ≤ 16) (k0_hw4 : k0_chk4 i v1678) (X3 : arg3.view.ty.Contents (Elt Ideal)) (F21 : arg21.view.ty.Contents (Elt Ideal))
    (hwL : ∀ k : Fin (k0_t5_loop v1678).trips, k0_chk5 (k0_word5 (F := Ideal) arg3 i v1678 k0_hw4 X3 k))
    (hD : ∀ (q : Rect S1024x1024) (x : q.shape.Idx), View.readAt (Elt Ideal) arg21.view q.toLoadRect F21 x = D 1 (q.emb x))
    (k : Fin (k0_t5_loop v1678).trips) (hw' : (k0_word5 (F := Ideal) arg3 i v1678 k0_hw4 X3 k : BitVec 32).toNat < 128)
    (hrow : ∀ (s : Fin 1152) (r : ℕ), (s : ℕ) = 1024 + 8 * k + r → r < 8 → (row s : ℕ) = 8 * (k0_word5 (F := Ideal) arg3 i v1678 k0_hw4 X3 k : BitVec 32).toNat + r) :
    GroupOf (ellG X M row D) 1 (1024 + 8 * k) (trip_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X3 (harg13.unread X) (harg14.unread M) F21 hwL k).1 := by
  have ht := trips_t5 v1678
  have hk0 := k.isLt
  have hk : (k : ℕ) < 16 := by omega
  have es := slot_toNat hk
  have eg := grp_toNat hw'
  refine gather_group X M row D 1 (1024 + 8 * k) _ (by omega) (by omega) hrow arg13 harg13 arg14 harg14
    arg21 F21 hD (k0_off50 v1678 k) (congrArg (fun a : ℕ => (![0, a, 0] : Fin 3 → ℕ)) es) ![k0_off51 (k0_word5 (F := Ideal) arg3 i v1678 k0_hw4 X3 k), k0_off52 (k0_word5 (F := Ideal) arg3 i v1678 k0_hw4 X3 k), k0_off53 (k0_word5 (F := Ideal) arg3 i v1678 k0_hw4 X3 k), k0_off54 (k0_word5 (F := Ideal) arg3 i v1678 k0_hw4 X3 k), k0_off55 (k0_word5 (F := Ideal) arg3 i v1678 k0_hw4 X3 k), k0_off56 (k0_word5 (F := Ideal) arg3 i v1678 k0_hw4 X3 k), k0_off57 (k0_word5 (F := Ideal) arg3 i v1678 k0_hw4 X3 k), k0_off58 (k0_word5 (F := Ideal) arg3 i v1678 k0_hw4 X3 k)] ?_
    (k0_off59 v1678 k) (congrArg (fun a : ℕ => (![0, 1, a, 0] : Fin 4 → ℕ)) es) _ ?_
  · exact fun b => match b with
      | 0 => congrArg (fun a : ℕ => (![a, 0] : Fin 2 → ℕ)) eg | 1 => congrArg (fun a : ℕ => (![a, 128] : Fin 2 → ℕ)) eg | 2 => congrArg (fun a : ℕ => (![a, 256] : Fin 2 → ℕ)) eg | 3 => congrArg (fun a : ℕ => (![a, 384] : Fin 2 → ℕ)) eg | 4 => congrArg (fun a : ℕ => (![a, 512] : Fin 2 → ℕ)) eg | 5 => congrArg (fun a : ℕ => (![a, 640] : Fin 2 → ℕ)) eg | 6 => congrArg (fun a : ℕ => (![a, 768] : Fin 2 → ℕ)) eg | 7 => congrArg (fun a : ℕ => (![a, 896] : Fin 2 → ℕ)) eg
  · unfold trip_k0_t5
    rfl

/-- The loop over the groups of all rows, head 0: its stores. -/
theorem slots_t1 (F21 : arg21.view.ty.Contents (Elt Ideal))
    (hD : ∀ (q : Rect S1024x1024) (x : q.shape.Idx), View.readAt (Elt Ideal) arg21.view q.toLoadRect F21 x = D 0 (q.emb x))
    (hrow : ∀ s : Fin 1152, (s : ℕ) < 1024 → (row s : ℕ) = s) :
    Slots (ellG X M row D) 0 0 1024 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 (harg13.unread X) (harg14.unread M) F21 k0_t1_loop.trips) :=
  Slots.of_groups _ 0 0 k0_t1_loop.trips (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 (harg13.unread X) (harg14.unread M) F21) _ rfl
    (fun k => pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 (harg13.unread X) (harg14.unread M) F21 k)
    (group_t1 X M row D 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 F21 hD hrow) 1024 (by decide)

/-- The loop over the groups of all rows, head 1: its stores. -/
theorem slots_t4 (F21 : arg21.view.ty.Contents (Elt Ideal))
    (hD : ∀ (q : Rect S1024x1024) (x : q.shape.Idx), View.readAt (Elt Ideal) arg21.view q.toLoadRect F21 x = D 1 (q.emb x))
    (hrow : ∀ s : Fin 1152, (s : ℕ) < 1024 → (row s : ℕ) = s) :
    Slots (ellG X M row D) 1 0 1024 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg13.unread X) (harg14.unread M) F21 k0_t4_loop.trips) :=
  Slots.of_groups _ 1 0 k0_t4_loop.trips (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg13.unread X) (harg14.unread M) F21) _ rfl
    (fun k => pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg13.unread X) (harg14.unread M) F21 k)
    (group_t4 X M row D 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 F21 hD hrow) 1024 (by decide)

/-- The loop over the extra groups, head 0: its stores. -/
theorem slots_t2 (v826 : BitVec 32) (hv : v826.toInt ≤ 16) (k0_hw1 : k0_chk1 i v826) (X3 : arg3.view.ty.Contents (Elt Ideal)) (F21 : arg21.view.ty.Contents (Elt Ideal))
    (hwL : ∀ k : Fin (k0_t2_loop v826).trips, k0_chk2 (k0_word2 (F := Ideal) arg3 i v826 k0_hw1 X3 k))
    (hD : ∀ (q : Rect S1024x1024) (x : q.shape.Idx), View.readAt (Elt Ideal) arg21.view q.toLoadRect F21 x = D 0 (q.emb x))
    (hw' : ∀ k : Fin (k0_t2_loop v826).trips, (k0_word2 (F := Ideal) arg3 i v826 k0_hw1 X3 k : BitVec 32).toNat < 128)
    (hrow : ∀ (k : Fin (k0_t2_loop v826).trips) (s : Fin 1152) (r : ℕ), (s : ℕ) = 1024 + 8 * k + r → r < 8 → (row s : ℕ) = 8 * (k0_word2 (F := Ideal) arg3 i v826 k0_hw1 X3 k : BitVec 32).toNat + r) :
    Slots (ellG X M row D) 0 1024 (1024 + 8 * v826.toInt.toNat) (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X3 (harg13.unread X) (harg14.unread M) F21 hwL (k0_t2_loop v826).trips) :=
  Slots.of_groups _ 0 1024 (k0_t2_loop v826).trips (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X3 (harg13.unread X) (harg14.unread M) F21 hwL) _ rfl
    (fun k => pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 k0_hw1 X3 (harg13.unread X) (harg14.unread M) F21 hwL k)
    (fun k => group_t2 X M row D 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v2 v815 v817 v826 hv k0_hw1 X3 F21 hwL hD k (hw' k) (hrow k)) _ (by rw [trips_t2])

/-- The loop over the extra groups, head 1: its stores. -/
theorem slots_t5 (v1678 : BitVec 32) (hv : v1678.toInt ≤ 16) (k0_hw4 : k0_chk4 i v1678) (X3 : arg3.view.ty.Contents (Elt Ideal)) (F21 : arg21.view.ty.Contents (Elt Ideal))
    (hwL : ∀ k : Fin (k0_t5_loop v1678).trips, k0_chk5 (k0_word5 (F := Ideal) arg3 i v1678 k0_hw4 X3 k))
    (hD : ∀ (q : Rect S1024x1024) (x : q.shape.Idx), View.readAt (Elt Ideal) arg21.view q.toLoadRect F21 x = D 1 (q.emb x))
    (hw' : ∀ k : Fin (k0_t5_loop v1678).trips, (k0_word5 (F := Ideal) arg3 i v1678 k0_hw4 X3 k : BitVec 32).toNat < 128)
    (hrow : ∀ (k : Fin (k0_t5_loop v1678).trips) (s : Fin 1152) (r : ℕ), (s : ℕ) = 1024 + 8 * k + r → r < 8 → (row s : ℕ) = 8 * (k0_word5 (F := Ideal) arg3 i v1678 k0_hw4 X3 k : BitVec 32).toNat + r) :
    Slots (ellG X M row D) 1 1024 (1024 + 8 * v1678.toInt.toNat) (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X3 (harg13.unread X) (harg14.unread M) F21 hwL (k0_t5_loop v1678).trips) :=
  Slots.of_groups _ 1 1024 (k0_t5_loop v1678).trips (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X3 (harg13.unread X) (harg14.unread M) F21 hwL) _ rfl
    (fun k => pb_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 k0_hw4 X3 (harg13.unread X) (harg14.unread M) F21 hwL k)
    (fun k => group_t5 X M row D 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1678 hv k0_hw4 X3 F21 hwL hD k (hw' k) (hrow k)) _ (by rw [trips_t5])

end Cert.KernelIdeal.Proof
end
-- ==== Proof.OnWritten.lean ====
/- The side conditions that the mask `written` states, proved. -/
module

public import proofs.«01_k».proof.On_written
public import Idealize.ShloMosaic.Lib.Affine
public import Idealize.ShloMosaic.Lib.Decide
public import Idealize.ShloMosaic.Lib.Exec

@[expose] public section

namespace Cert.On_written.Proof

open Idealize.ShloMosaic

/-- The function's facts, proved: the instance it takes. -/
instance facts : Cert.On_written.Facts where
  bcast_S1152_S1x1152_1 := by decide
  slices_S2x128_S2x1_0_0 := by decide
  bcast_S_S2x1 := by decide
  bcast_S1x1152_S2x1152_0_1 := by decide
  bcast_S2x1_S2x1152_0_1 := by decide
  bcast_S_S2x32x1024x128 := by decide
  bcast_S_S2x16x1024x128 := by decide
  bcast_S2x1152_S2x1x1152x1_0_2 := by decide
  bcast_S2x1x1152x1_S2x32x1152x128_0_1_2_3 := by decide

end Cert.On_written.Proof
end
-- ==== Proof.KernelIdealEll.lean ====
/- The gathered derivatives: a grid point's slots in use, and the array. -/
module

public import proofs.«01_k».proof.Proof.KernelIdealSlots
public import proofs.«01_k».proof.Proof.KernelIdealFinals
public import proofs.«01_k».proof.Proof.OnWritten

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.Sem
open Cert.ReferenceIdeal.Proof (pick)
open Cert.Gradients

variable (m : (ℓ : Loc nD τ sig) → Buf (Elt Ideal) ℓ) (H : ∀ (c : Dev nD) (t : Fin cfg0.N), Hyps m c t) (c : Dev nD) (t : Fin cfg0.N)

/-- A loop of no trips stores nothing. -/
theorem no_trips {α : Type _} (f : ℕ → List α) (h0 : f 0 = []) (n : ℕ) (hn : n = 0) : f n = [] := by rw [hn, h0]

theorem idx_slots : ∀ t : Fin cfg0.N, win0_11.index t = ![t.val / 16, 0, 0] ∧ win0_12.index t = ![t.val / 16, 0, 0]
    ∧ win0_16.index t = ![t.val / 16, t.val % 16, 0, 0] ∧ (grid0.coords t 0).val = t.val / 16 :=
  (by decide +kernel : ∀ t : Fin grid0.N, _)

/-- The columns and the signs of a grid point's batch. -/
theorem cols_at (s : Fin 1152) (l : Fin 128) : iblk m c 11 t (ix3 0 s l) = m ((c : Thread nD τ).loc main_arg11) (ix3 (tb t) s l) := by
  blk_ext [iblk, V_main_arg11, idx_slots t, tb]
theorem keeps_at (s : Fin 1152) (l : Fin 128) : iblk m c 12 t (ix3 0 s l) = m ((c : Thread nD τ).loc main_arg12) (ix3 (tb t) s l) := by
  blk_ext [iblk, V_main_arg12, idx_slots t, tb]

/-- The word a trip reads names the group of its slots. -/
theorem word2_val (v : BitVec 32) (hv : v.toInt ≤ 16) (hw : k0_chk1 (grid0.coords t) v) (k : Fin (k0_t2_loop v).trips) (hk : (k : ℕ) < 128) :
    (k0_word2 (F := Ideal) (ms0_1 t) (grid0.coords t) v hw ((hs0_1 t).unread (iblk m c 1 t)) k : BitVec 32) = extW m c (ix2 (n0 := 2) (n1 := 128) (tb t) ⟨k, hk⟩) := by
  have hb : (grid0.coords t 0).val < 2 := (grid0.coords t 0).isLt
  have hz : (Scalar.indexCast (BitVec.ofNat 32 (grid0.coords t 0).val)).toNat = (grid0.coords t 0).val := by
    simp only [Scalar.indexCast, BitVec.toNat_ofNat]; omega
  have ht := trips_t2 v
  have hk' : (k : ℕ) < 16 := by have := k.isLt; omega
  simp only [View.readAt_apply, Memref.IsWhole.read_unread]
  rw [iblk_words]
  congr 1; funext a; fin_cases a <;> apply Fin.ext
  · show (Scalar.indexCast (BitVec.ofNat 32 (grid0.coords t 0).val)).toNat + 1 * 0 = _
    rw [hz]; exact (idx_slots t).2.2.2
  · show (Scf.iv 0#32 1#32 (k : ℕ)).toNat + 1 * 0 = (k : ℕ)
    rw [iv_toNat hk']; rfl

/-- The word a trip reads names the group of its slots. -/
theorem word5_val (v : BitVec 32) (hv : v.toInt ≤ 16) (hw : k0_chk4 (grid0.coords t) v) (k : Fin (k0_t5_loop v).trips) (hk : (k : ℕ) < 128) :
    (k0_word5 (F := Ideal) (ms0_1 t) (grid0.coords t) v hw ((hs0_1 t).unread (iblk m c 1 t)) k : BitVec 32) = extW m c (ix2 (n0 := 2) (n1 := 128) (tb t) ⟨k, hk⟩) := by
  have hb : (grid0.coords t 0).val < 2 := (grid0.coords t 0).isLt
  have hz : (Scalar.indexCast (BitVec.ofNat 32 (grid0.coords t 0).val)).toNat = (grid0.coords t 0).val := by
    simp only [Scalar.indexCast, BitVec.toNat_ofNat]; omega
  have ht := trips_t5 v
  have hk' : (k : ℕ) < 16 := by have := k.isLt; omega
  simp only [View.readAt_apply, Memref.IsWhole.read_unread]
  rw [iblk_words]
  congr 1; funext a; fin_cases a <;> apply Fin.ext
  · show (Scalar.indexCast (BitVec.ofNat 32 (grid0.coords t 0).val)).toNat + 1 * 0 = _
    rw [hz]; exact (idx_slots t).2.2.2
  · show (Scf.iv 0#32 1#32 (k : ℕ)).toNat + 1 * 0 = (k : ℕ)
    rw [iv_toNat hk']; rfl

/-- The count a grid point reads is its batch's. -/
theorem count_val : kernelRun.sl.r_12 (F := Ideal) c (grid0.coords t) (ms0_2 t) (hs0_2 t) (iblk m c 2 t) = cntW m c (ix2 (n0 := 2) (n1 := 128) (tb t) 0) := by
  have hb : (grid0.coords t 0).val < 2 := (grid0.coords t 0).isLt
  have hz : (Scalar.indexCast (BitVec.ofNat 32 (grid0.coords t 0).val)).toNat = (grid0.coords t 0).val := by
    simp only [Scalar.indexCast, BitVec.toNat_ofNat]; omega
  unfold kernelRun.sl.r_12
  simp only [View.readAt_apply, Memref.IsWhole.read_unread]
  rw [iblk_counts]; congr 1; funext a; fin_cases a <;> apply Fin.ext
  · show (Scalar.indexCast (BitVec.ofNat 32 (grid0.coords t 0).val)).toNat + 1 * 0 = _
    rw [hz]; exact (idx_slots t).2.2.2
  · rfl

/-- The row of scores a slot gathers from. -/
def rowAt (s : Fin 1152) : Fin 1024 :=
  if h : (s : ℕ) < 1024 then ⟨s, h⟩
  else ⟨(8 * (extW m c (ix2 (n0 := 2) (n1 := 128) (tb t) ⟨((s : ℕ) - 1024) / 8, by omega⟩)).toNat + ((s : ℕ) - 1024) % 8) % 1024, by omega⟩

/-- The derivatives of a grid point's scores, by head. -/
def dsAt (g : Fin 2) : Vec Ideal S1024x1024 .f32 := if (g : ℕ) = 0 then dsG0 c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t) else dsG1 c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t)

theorem dsAt_0 : dsAt m c t 0 = dsG0 c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t) := if_pos rfl
theorem dsAt_1 : dsAt m c t 1 = dsG1 c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t) := if_neg (by decide)

theorem rowAt_low (s : Fin 1152) (h : (s : ℕ) < 1024) : (rowAt m c t s : ℕ) = s := by
  unfold rowAt; rw [dif_pos h]

theorem rowAt_high (k r : ℕ) (hk : k < 128) (hr : r < 8) (s : Fin 1152) (h : (s : ℕ) = 1024 + 8 * k + r)
    (hw : (extW m c (ix2 (n0 := 2) (n1 := 128) (tb t) ⟨k, hk⟩)).toNat < 128) :
    (rowAt m c t s : ℕ) = 8 * (extW m c (ix2 (n0 := 2) (n1 := 128) (tb t) ⟨k, hk⟩)).toNat + r := by
  have e : (⟨((s : ℕ) - 1024) / 8, by omega⟩ : Fin 128) = ⟨k, hk⟩ := Fin.ext (by show ((s : ℕ) - 1024) / 8 = k; omega)
  unfold rowAt
  rw [dif_neg (by omega)]
  show (8 * (extW m c (ix2 (n0 := 2) (n1 := 128) (tb t) ⟨((s : ℕ) - 1024) / 8, _⟩)).toNat + ((s : ℕ) - 1024) % 8) % 1024 = _
  rw [e]; omega

/-- The sixteen stores of derivatives of the first head, read back. -/
theorem ds_read0 (q : Rect S1024x1024) (x : q.shape.Idx) (v : View sig .tc .vmem S1024x1024 .f32) :
    v.readCov (kernelRun.sl.HS2_16 (F := Ideal) c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_3 (iblk m c 0 t) (iblk m c 3 t) (iblk m c 4 t) (iblk m c 5 t) (iblk m c 6 t) (iblk m c 7 t) (iblk m c 8 t) (iblk m c 9 t) (iblk m c 10 t)) q.toLoadRect x = dsAt m c t 0 (q.emb x) := by
  rw [dsAt_0]
  exact readCov_of v _ 16 _ (tiles2_0 c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_3 (iblk m c 0 t) (iblk m c 3 t) (iblk m c 4 t) (iblk m c 5 t) (iblk m c 6 t) (iblk m c 7 t) (iblk m c 8 t) (iblk m c 9 t) (iblk m c 10 t) (dcAt m c t) (dsc_at m c t)) (tiles2_0_cover c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_3 (iblk m c 0 t) (iblk m c 3 t) (iblk m c 4 t) (iblk m c 5 t) (iblk m c 6 t) (iblk m c 7 t) (iblk m c 8 t) (iblk m c 9 t) (iblk m c 10 t)) q x

/-- The sixteen stores of derivatives of the second head, read back. -/
theorem ds_read1 (q : Rect S1024x1024) (x : q.shape.Idx) (v : View sig .tc .vmem S1024x1024 .f32) :
    v.readCov (⟨Rect.unit (s := S1024x1024) ![768, 768] S256x256.size inb_S1024x1024_S256x256_768_768, kernelRun.sl.v1541 (F := Ideal) c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_3 (iblk m c 0 t) (iblk m c 3 t) (iblk m c 4 t) (iblk m c 5 t) (iblk m c 6 t) (iblk m c 7 t) (iblk m c 8 t) (iblk m c 9 t) (iblk m c 10 t)⟩ :: kernelRun.sl.HS2_31 (F := Ideal) c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_3 (iblk m c 0 t) (iblk m c 3 t) (iblk m c 4 t) (iblk m c 5 t) (iblk m c 6 t) (iblk m c 7 t) (iblk m c 8 t) (iblk m c 9 t) (iblk m c 10 t)) q.toLoadRect x = dsAt m c t 1 (q.emb x) := by
  rw [dsAt_1]
  exact readCov_of v _ 16 _ (tiles2_1 c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_3 (iblk m c 0 t) (iblk m c 3 t) (iblk m c 4 t) (iblk m c 5 t) (iblk m c 6 t) (iblk m c 7 t) (iblk m c 8 t) (iblk m c 9 t) (iblk m c 10 t) (dcAt m c t) (dsc_at m c t)) (tiles2_1_cover c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_3 (iblk m c 0 t) (iblk m c 3 t) (iblk m c 4 t) (iblk m c 5 t) (iblk m c 6 t) (iblk m c 7 t) (iblk m c 8 t) (iblk m c 9 t) (iblk m c 10 t)) q x

set_option maxHeartbeats 2000000 in
/-- The stores of a grid point into its slots: blocks of the gathered derivatives, and every slot in use is reached. -/
theorem slots_stores (hW : Words m) :
    (∀ p ∈ (runAt m H c t).2.2.2.1, ∀ x, p.2 x = ellG (iblk m c 11 t) (iblk m c 12 t) (rowAt m c t) (dsAt m c t) (p.1.emb x)) ∧
      ∀ y : S1x2x1152x128.Idx, (y 2 : ℕ) < 1024 ∨ (y 2 : ℕ) < 1024 + 8 * (cntW m c (ix2 (n0 := 2) (n1 := 128) (tb t) 0)).toInt.toNat →
        ∃ p ∈ (runAt m H c t).2.2.2.1, y ∈ p.1.set := by
  have hn := count_val m c t
  have hv : (kernelRun.sl.r_12 (F := Ideal) c (grid0.coords t) (ms0_2 t) (hs0_2 t) (iblk m c 2 t)).toInt ≤ 16 := by rw [hn]; exact (hW c (tb t)).1
  have hlt : ∀ k : Fin 128, ((k : ℕ) : ℤ) < (kernelRun.sl.r_12 (F := Ideal) c (grid0.coords t) (ms0_2 t) (hs0_2 t) (iblk m c 2 t)).toInt → (extW m c (ix2 (n0 := 2) (n1 := 128) (tb t) k)).toNat < 128 := by
    rw [hn]; exact (hW c (tb t)).2
  rw [← hn]
  unfold runAt kernelRun
  dsimp only
  refine six_loops _ _ _ _ _ _ _ _ (Slots.empty _ _ ?_) (slots_t5 (hv := hv) (hD := ?_) (hw' := ?_) (hrow := ?_) ..) (slots_t4 (hD := ?_) (hrow := ?_) ..) (Slots.empty _ _ ?_)
    (slots_t2 (hv := hv) (hD := ?_) (hw' := ?_) (hrow := ?_) ..) (slots_t1 (hD := ?_) (hrow := ?_) ..)
  · exact no_trips _ rfl _ (trips_t6 (kernelRun.sl.r_12 (F := Ideal) c (grid0.coords t) (ms0_2 t) (hs0_2 t) (iblk m c 2 t)))
  · exact fun q x => ds_read1 m c t q x scM0_2.view
  · intro k
    have hk := k.isLt; have ht := trips_t5 (kernelRun.sl.r_12 (F := Ideal) c (grid0.coords t) (ms0_2 t) (hs0_2 t) (iblk m c 2 t))
    rw [word5_val m c t _ hv (chk4_of_le _ _ hv) k (by omega)]
    exact hlt ⟨k, by omega⟩ (by show ((k : ℕ) : ℤ) < _; omega)
  · intro k s r hs hr
    have hk := k.isLt; have ht := trips_t5 (kernelRun.sl.r_12 (F := Ideal) c (grid0.coords t) (ms0_2 t) (hs0_2 t) (iblk m c 2 t))
    rw [word5_val m c t _ hv (chk4_of_le _ _ hv) k (by omega)]
    exact rowAt_high m c t k r (by omega) hr s hs (hlt ⟨k, by omega⟩ (by show ((k : ℕ) : ℤ) < _; omega))
  · exact fun q x => ds_read1 m c t q x scM0_2.view
  · exact rowAt_low m c t
  · exact no_trips _ rfl _ (trips_t3 (kernelRun.sl.r_12 (F := Ideal) c (grid0.coords t) (ms0_2 t) (hs0_2 t) (iblk m c 2 t)))
  · exact fun q x => ds_read0 m c t q x scM0_2.view
  · intro k
    have hk := k.isLt; have ht := trips_t2 (kernelRun.sl.r_12 (F := Ideal) c (grid0.coords t) (ms0_2 t) (hs0_2 t) (iblk m c 2 t))
    rw [word2_val m c t _ hv (chk1_of_le _ _ hv) k (by omega)]
    exact hlt ⟨k, by omega⟩ (by show ((k : ℕ) : ℤ) < _; omega)
  · intro k s r hs hr
    have hk := k.isLt; have ht := trips_t2 (kernelRun.sl.r_12 (F := Ideal) c (grid0.coords t) (ms0_2 t) (hs0_2 t) (iblk m c 2 t))
    rw [word2_val m c t _ hv (chk1_of_le _ _ hv) k (by omega)]
    exact rowAt_high m c t k r (by omega) hr s hs (hlt ⟨k, by omega⟩ (by show ((k : ℕ) : ℤ) < _; omega))
  · exact fun q x => ds_read0 m c t q x scM0_2.view
  · exact rowAt_low m c t

/-- The derivatives by the arguments. -/
theorem dsAt_at (g : Fin 2) (r k : Fin 1024) : dsAt m c t g (ix2 r k) = kDs sm lg (argsAt m c) (tb t) (tn t) g r k := by
  rcases (by omega : g = 0 ∨ g = 1) with rfl | rfl
  · rw [dsAt_0]; exact ds0_at c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t) (argsAt m c) (tb t) (tn t) (q_at m c t) (do_at m c t) (o_at m c t) (k_at m c t) (v_at m c t) (lse_at m c t) (bias_at m c t) (fun _ => rfl) (r_pt m c t) (r1_pt m c t) (r2_pt m c t) r k
  · rw [dsAt_1]; exact ds1_at c (grid0.coords t) (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 5 t) (iblk m c 6 t) (iblk m c 7 t) (iblk m c 8 t) (iblk m c 10 t) (dcAt m c t) (argsAt m c) (tb t) (tn t) (q_at m c t) (do_at m c t) (o_at m c t) (k_at m c t) (v_at m c t) (lse_at m c t) (bias_at m c t) (fun _ => rfl) (r_pt m c t) (r1_pt m c t) (r13_pt m c t) r k

/-- A slot in use gathers from the row the reference names. -/
theorem row_pick (hW : Words m) (s : Fin 1152) (hu : (s : ℕ) < 1024 ∨ (s : ℕ) < 1024 + 8 * (cntW m c (ix2 (n0 := 2) (n1 := 128) (tb t) 0)).toInt.toNat)
    (f : Fin 1024 → EReal) : pick (Cert.ReferenceIdeal.Proof.refRow (extW m c) (ix2 (tb t) s)) f = f (rowAt m c t s) := by
  have key : (Cert.ReferenceIdeal.Proof.refRow (extW m c) (ix2 (tb t) s)).toNat = rowAt m c t s := by
    rw [Cert.ReferenceIdeal.Proof.refRow_at]
    by_cases h : (s : ℕ) < 1024
    · rw [dif_pos h, rowAt_low m c t s h, BitVec.toNat_ofNat]; omega
    · have hl := hW c (tb t)
      have hk : ((s : ℕ) - 1024) / 8 < 128 := by omega
      have hw := hl.2 ⟨((s : ℕ) - 1024) / 8, hk⟩ (by show ((((s : ℕ) - 1024) / 8 : ℕ) : ℤ) < _; omega)
      rw [dif_neg h, rowAt_high m c t _ (((s : ℕ) - 1024) % 8) hk (by omega) s (by omega) hw]
      simp only [BitVec.toNat_add, BitVec.toNat_mul, BitVec.toNat_ofNat]
      omega
  unfold pick
  rw [dif_pos (by rw [key]; exact (rowAt m c t s).isLt)]
  exact congrArg f (Fin.ext key)

/-- The gathered derivatives, as an array of the kernel's. -/
def ellK (y : S2x32x1152x128.Idx) : EReal :=
  pick (m ((c : Thread nD τ).loc main_arg11) (ix3 (y 0) (y 2) (y 3))) (fun x => pick (Cert.ReferenceIdeal.Proof.refRow (extW m c) (ix2 (y 0) (y 2)))
    fun r => kDs sm lg (argsAt m c) (y 0) (kvOf (y 1)) (grpOf (y 1)) r x) * m ((c : Thread nD τ).loc main_arg12) (ix3 (y 0) (y 2) (y 3))

/-- A slot in use. -/
def InUse (y : S2x32x1152x128.Idx) : Prop :=
  (y 2 : ℕ) < 1024 ∨ (y 2 : ℕ) < 1024 + 8 * (cntW m c (ix2 (n0 := 2) (n1 := 128) (y 0) 0)).toInt.toNat

/-- What a grid point leaves in a slot in use, at its place in the array. -/
theorem place16 (hW : Words m) (X : Vec Ideal S1x2x1152x128 .f32) (hX : Leaves16 m H c t X) (y : S1x2x1152x128.Idx) (e : S2x32x1152x128.Idx)
    (h0 : (e 0 : ℕ) = t.val / 16) (h1 : (e 1 : ℕ) = t.val % 16 * 2 + y 1) (h2 : (e 2 : ℕ) = y 2) (h3 : (e 3 : ℕ) = y 3) (hu : InUse m c e) :
    X y = ellK m c e := by
  have hy : (y 1 : ℕ) < 2 := (y 1).isLt
  have e0 : e 0 = tb t := Fin.ext h0
  have e1 : kvOf (e 1) = tn t := Fin.ext (by show (e 1 : ℕ) / 2 = t.val % 16; omega)
  have e1' : grpOf (e 1) = y 1 := Fin.ext (by show (e 1 : ℕ) % 2 = y 1; omega)
  have e2 : e 2 = y 2 := Fin.ext h2
  have e3 : e 3 = y 3 := Fin.ext h3
  unfold InUse at hu
  unfold ellK
  rw [e0, e2] at hu
  rw [e0, e1, e1', e2, e3]
  obtain ⟨f, rfl⟩ := hX
  have hs := slots_stores m H c t hW
  rw [View.read_writes_apply_eq_canon _ _ _ _ (hs.2 y hu)]
  have hc := View.canon_append_of_pieces _ [] _ hs.1 y (hs.2 y hu)
  rw [List.append_nil] at hc
  rw [hc]
  unfold ellG
  rw [cols_at m c t (y 2) (y 3), keeps_at m c t (y 2) (y 3)]
  refine congrArg (· * _) (congrArg (pick _) (funext fun x => ?_))
  rw [row_pick m c t hW (y 2) hu]
  exact dsAt_at m c t (y 1) _ x

/-- The mask at a slot says that the slot is in use. -/
theorem slot_of_mask {F : FTy → Type} [FloatOps F] (x0 x1 x2 x3 x4 x5 x6 x7 x8 x9 x10 x11 x12 x13 x14) (b : Fin 2) (h : Fin 32) (s : Fin 1152) (l : Fin 128)
    (hn : (x14 (ix2 (n0 := 2) (n1 := 128) b 0)).toInt ≤ 16)
    (hi : (Cert.On_written.fn (F := F) x0 x1 x2 x3 x4 x5 x6 x7 x8 x9 x10 x11 x12 x13 x14).2.2.2 (ix4 (n0 := 2) (n1 := 32) (n2 := 1152) (n3 := 128) b h s l) = 1#1) :
    (s : ℕ) < 1024 + 8 * (x14 (ix2 (n0 := 2) (n1 := 128) b 0)).toInt.toNat := by
  have ofBool_eq_one (p : Bool) : (BitVec.ofBool p = 1#1) ↔ p = true := by cases p <;> decide
  change IntOp.cmpi .slt (BitVec.ofNat 32 (s : ℕ)) (IntOp.addi 1024#32 (IntOp.muli 8#32 (IntOp.maxsi (x14 _) 0#32))) = 1#1 at hi
  generalize hw : x14 _ = w at hi
  have e : x14 (ix2 (n0 := 2) (n1 := 128) b 0) = w := by
    rw [← hw]; congr 1; funext a; fin_cases a <;> (apply Fin.ext; simp)
  rw [e] at hn ⊢
  have hs : (BitVec.ofNat 32 (s : ℕ)).toInt = (s : ℤ) := by
    have := s.isLt
    simp only [BitVec.toInt, BitVec.toNat_ofNat]
    rw [Nat.mod_eq_of_lt (by omega), if_pos (by omega)]
  have h0 : (0#32 : BitVec 32).toInt = 0 := rfl
  have hm : ∃ n : ℕ, n ≤ 16 ∧ n = w.toInt.toNat ∧ IntOp.maxsi w 0#32 = BitVec.ofNat 32 n := by
    refine ⟨w.toInt.toNat, by omega, rfl, ?_⟩
    apply BitVec.eq_of_toInt_eq
    have hl : (BitVec.ofNat 32 w.toInt.toNat).toInt = (w.toInt.toNat : ℤ) := by
      simp only [BitVec.toInt, BitVec.toNat_ofNat]
      rw [Nat.mod_eq_of_lt (by omega), if_pos (by omega)]
    rw [hl]
    simp only [IntOp.maxsi, BitVec.sle, BitVec.slt, h0]
    split <;> simp_all <;> omega
  obtain ⟨n, h16, hnw, hm⟩ := hm
  rw [← hnw]
  rw [hm] at hi
  have hr : (IntOp.addi 1024#32 (IntOp.muli 8#32 (BitVec.ofNat 32 n))).toInt = (1024 + 8 * n : ℤ) := by
    simp only [IntOp.addi, IntOp.muli, BitVec.toInt, BitVec.toNat_add, BitVec.toNat_mul, BitVec.toNat_ofNat]
    rw [if_pos (by omega)]; omega
  simp only [IntOp.cmpi, ofBool_eq_one, BitVec.slt, decide_eq_true_eq, hs, hr] at hi
  omega

/-- The array of the gathered derivatives after the run, at the slots in use. -/
theorem final16 (hW : Words m) {r : PUnit × MemSt nD τ sig (Elt Ideal)}
    (h : Pipeline.RDat.FramePost (cfgs 0) (fun c => (dats m H 0 c).toRRel marked (Rl m H c)) (V m) r) (y : S2x32x1152x128.Idx) (hu : InUse m c y) :
    r.2.mem ((c.tc : Thread nD τ).loc main_v19_3) y = ellK m c y := by
  obtain ⟨after, ha, hr⟩ := Pipeline.RDat.FramePost.exists_exact h c
  have h16 := hr 16
  have hl : ∀ t, (cfg0.win 16).flush t = true → Leaves16 m H c t (after 16 t) := fun t hf => by
    obtain ⟨Y, -, hY⟩ := ha 16 t hf
    exact hY
  refine (congrFun h16 y).trans ?_
  have key := Pipeline.Dat.arrAt_forall_of_covers (dat := ((dats m H 0 c).toRRel marked (Rl m H c)).withAfter after) 16 (fun i v => InUse m c i → v = ellK m c i) (by decide +kernel) (fun t hf y hu => ?_) y
  · exact key hu
  blk_simp
  exact place16 m H c t hW _ (hl t hf) _ _ (by blk_simp [idx_slots t]) (by blk_simp [idx_slots t]) (by blk_simp [idx_slots t]) (by blk_simp [idx_slots t]) hu

end Cert.KernelIdeal.Proof
end
-- ==== Proof.ReferenceIdealRun.lean ====
/- What the reference's run leaves in its results, as functions of its arguments. -/
module

public import proofs.«01_k».proof.Proof.ReferenceIdealStages

@[expose] public section

set_option maxRecDepth 16384

noncomputable section

namespace Cert.ReferenceIdeal.Proof

open Cert.ReferenceIdeal Cert.ReferenceIdeal.Gen
open Idealize.ShloMosaic Idealize.ShloMosaic.TcCoe
open Idealize.SL Idealize.SL.Sem

open Cert.Gradients

variable (m : (ℓ : Loc nD τ sig) → Buf (Elt Ideal) ℓ) (ρ : Dev nD → PrngReg) (c : Dev nD)

/-! ## What the reading of the codes leaves -/

/-- Every window's block is its array. -/
theorem idx : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0] :=
  (by decide +kernel : ∀ t : Fin grid0.N, _)

/-- The codes of the queries, as numbers. -/
theorem final5 : (dats m 0 c).arrAt 5 (cfgs 0).N = fun y : S2x1024x32x128.Idx => m ((c : Thread nD τ).loc main_arg0) y := by
  refine (dats m 0 c).arrAt_eq_of_after_last 5 t0_0 (by decide +kernel) _ fun j => ?_
  blk_simp
  rw [after0_5]
  frame_out
  blk_point [iblk, V, idx t0_0]

/-- The codes of the keys, as numbers. -/
theorem final6 : (dats m 0 c).arrAt 6 (cfgs 0).N = fun y : S2x1024x16x128.Idx => m ((c : Thread nD τ).loc main_arg2) y := by
  refine (dats m 0 c).arrAt_eq_of_after_last 6 t0_0 (by decide +kernel) _ fun j => ?_
  blk_simp
  rw [after0_6]
  frame_out
  blk_point [iblk, V, idx t0_0]

/-- The codes of the values, as numbers. -/
theorem final7 : (dats m 0 c).arrAt 7 (cfgs 0).N = fun y : S2x1024x16x128.Idx => m ((c : Thread nD τ).loc main_arg4) y := by
  refine (dats m 0 c).arrAt_eq_of_after_last 7 t0_0 (by decide +kernel) _ fun j => ?_
  blk_simp
  rw [after0_7]
  frame_out
  blk_point [iblk, V, idx t0_0]

/-- The codes of the incoming gradient, as numbers. -/
theorem final8 : (dats m 0 c).arrAt 8 (cfgs 0).N = fun y : S2x1024x32x128.Idx => m ((c : Thread nD τ).loc main_arg8) y := by
  refine (dats m 0 c).arrAt_eq_of_after_last 8 t0_0 (by decide +kernel) _ fun j => ?_
  blk_simp
  rw [after0_8]
  frame_out
  blk_point [iblk, V, idx t0_0]

/-- Two to the biases. -/
theorem final9 : (dats m 0 c).arrAt 9 (cfgs 0).N = fun y : S2x1024x1024.Idx => Ideal.exp2 (m ((c : Thread nD τ).loc main_arg10) y : EReal) := by
  refine (dats m 0 c).arrAt_eq_of_after_last 9 t0_0 (by decide +kernel) _ fun j => ?_
  blk_simp
  rw [after0_9]
  frame_out
  refine congrArg Ideal.exp2 ?_
  blk_point [iblk, V, idx t0_0]

/-! ## The buffers the host operations start from -/

/-- The buffers' contents after the reading of the codes. -/
abbrev Wt : Valuation τ sig (Elt Ideal) :=
  Pipeline.withArrays (cfgs 0).spec c (V0 m c) fun w => (dats m 0 c).arrAt w (cfgs 0).N

theorem Wt_out0 : Wt m c (Proc.devRef .tc main_v0_0) = (dats m 0 c).arrAt 5 (cfgs 0).N :=
  Pipeline.withArrays_arr (cfgs 0).spec (by decide) c (V0 m c) (fun w => (dats m 0 c).arrAt w (cfgs 0).N) 5
theorem Wt_out1 : Wt m c (Proc.devRef .tc main_v0_1) = (dats m 0 c).arrAt 6 (cfgs 0).N :=
  Pipeline.withArrays_arr (cfgs 0).spec (by decide) c (V0 m c) (fun w => (dats m 0 c).arrAt w (cfgs 0).N) 6
theorem Wt_out2 : Wt m c (Proc.devRef .tc main_v0_2) = (dats m 0 c).arrAt 7 (cfgs 0).N :=
  Pipeline.withArrays_arr (cfgs 0).spec (by decide) c (V0 m c) (fun w => (dats m 0 c).arrAt w (cfgs 0).N) 7
theorem Wt_out3 : Wt m c (Proc.devRef .tc main_v0_3) = (dats m 0 c).arrAt 8 (cfgs 0).N :=
  Pipeline.withArrays_arr (cfgs 0).spec (by decide) c (V0 m c) (fun w => (dats m 0 c).arrAt w (cfgs 0).N) 8
theorem Wt_out4 : Wt m c (Proc.devRef .tc main_v0_4) = (dats m 0 c).arrAt 9 (cfgs 0).N :=
  Pipeline.withArrays_arr (cfgs 0).spec (by decide) c (V0 m c) (fun w => (dats m 0 c).arrAt w (cfgs 0).N) 9
theorem Wt_arg1 : Wt m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem Wt_arg3 : Wt m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem Wt_arg5 : Wt m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)
theorem Wt_arg6 : Wt m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)
theorem Wt_arg7 : Wt m c (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)
theorem Wt_arg9 : Wt m c (Proc.devRef .tc main_arg9) = m ((c : Thread nD τ).loc main_arg9) :=
  (Pipeline.withArrays_of_ne _ c (V0 m c) _ main_arg9 (by exact (by decide : ∀ w, Pipeline.arrRef spec0 w ≠ main_arg9))).trans (V_main_arg9 m c)
theorem Wt_arg11 : Wt m c (Proc.devRef .tc main_arg11) = m ((c : Thread nD τ).loc main_arg11) :=
  (Pipeline.withArrays_of_ne _ c (V0 m c) _ main_arg11 (by exact (by decide : ∀ w, Pipeline.arrRef spec0 w ≠ main_arg11))).trans (V_main_arg11 m c)
theorem Wt_arg12 : Wt m c (Proc.devRef .tc main_arg12) = m ((c : Thread nD τ).loc main_arg12) :=
  (Pipeline.withArrays_of_ne _ c (V0 m c) _ main_arg12 (by exact (by decide : ∀ w, Pipeline.arrRef spec0 w ≠ main_arg12))).trans (V_main_arg12 m c)
theorem Wt_arg13 : Wt m c (Proc.devRef .tc main_arg13) = m ((c : Thread nD τ).loc main_arg13) :=
  (Pipeline.withArrays_of_ne _ c (V0 m c) _ main_arg13 (by exact (by decide : ∀ w, Pipeline.arrRef spec0 w ≠ main_arg13))).trans (V_main_arg13 m c)

/-- The arguments a run starts from. -/
def argsR : Args where
  q b r h d := (m ((c : Thread nD τ).loc main_arg0) : FVec Ideal S2x1024x32x128 .fp8e4m3) (ix4 b r h d)
  qs b h := (m ((c : Thread nD τ).loc main_arg1) : FVec Ideal S2x32 .f32) (ix2 b h)
  k b r n d := (m ((c : Thread nD τ).loc main_arg2) : FVec Ideal S2x1024x16x128 .fp8e4m3) (ix4 b r n d)
  ks b n := (m ((c : Thread nD τ).loc main_arg3) : FVec Ideal S2x16 .f32) (ix2 b n)
  v b r n d := (m ((c : Thread nD τ).loc main_arg4) : FVec Ideal S2x1024x16x128 .fp8e4m3) (ix4 b r n d)
  vs b n := (m ((c : Thread nD τ).loc main_arg5) : FVec Ideal S2x16 .f32) (ix2 b n)
  o b r h d := (m ((c : Thread nD τ).loc main_arg6) : FVec Ideal S2x1024x32x128 .bf16) (ix4 b r h d)
  lse b r h := (m ((c : Thread nD τ).loc main_arg7) : FVec Ideal S2x1024x32 .f32) (ix3 b r h)
  dout b r h d := (m ((c : Thread nD τ).loc main_arg8) : FVec Ideal S2x1024x32x128 .fp8e5m2) (ix4 b r h d)
  dsc b r := (m ((c : Thread nD τ).loc main_arg9) : FVec Ideal S2x1024 .f32) (ix2 b r)
  bias b r c' := (m ((c : Thread nD τ).loc main_arg10) : FVec Ideal S2x1024x1024 .f32) (ix3 b r c')

/-- The derivatives of the scores, of a run's buffers. -/
abbrev dsR : FVec Ideal S2x16x2x1024x1024 .f32 :=
  refDs (Wt m c (Proc.devRef .tc main_v0_0)) (Wt m c (Proc.devRef .tc main_v0_1)) (Wt m c (Proc.devRef .tc main_v0_2)) (Wt m c (Proc.devRef .tc main_v0_3)) (Wt m c (Proc.devRef .tc main_v0_4)) (Wt m c (Proc.devRef .tc main_arg1)) (Wt m c (Proc.devRef .tc main_arg3)) (Wt m c (Proc.devRef .tc main_arg5)) (Wt m c (Proc.devRef .tc main_arg6)) (Wt m c (Proc.devRef .tc main_arg7)) (Wt m c (Proc.devRef .tc main_arg9))

/-- The probabilities, of a run's buffers. -/
abbrev pR : FVec Ideal S2x16x2x1024x1024 .f32 :=
  refP (Wt m c (Proc.devRef .tc main_v0_0)) (Wt m c (Proc.devRef .tc main_v0_1)) (Wt m c (Proc.devRef .tc main_v0_4)) (Wt m c (Proc.devRef .tc main_arg1)) (Wt m c (Proc.devRef .tc main_arg3)) (Wt m c (Proc.devRef .tc main_arg7))

theorem args_Wt : refArgs (Wt m c (Proc.devRef .tc main_v0_0)) (Wt m c (Proc.devRef .tc main_v0_1)) (Wt m c (Proc.devRef .tc main_v0_2)) (Wt m c (Proc.devRef .tc main_v0_3)) (Wt m c (Proc.devRef .tc main_arg1)) (Wt m c (Proc.devRef .tc main_arg3)) (Wt m c (Proc.devRef .tc main_arg5)) (Wt m c (Proc.devRef .tc main_arg6)) (Wt m c (Proc.devRef .tc main_arg7)) (Wt m c (Proc.devRef .tc main_arg9)) (argsR m c).bias = argsR m c := by
  unfold refArgs
  rw [Wt_out0, Wt_out1, Wt_out2, Wt_out3, final5, final6, final7, final8, Wt_arg1, Wt_arg3, Wt_arg5, Wt_arg6, Wt_arg7, Wt_arg9]
  rfl

theorem count_Wt (b : Fin 2) (r k : Fin 1024) :
    (Wt m c (Proc.devRef .tc main_v0_4) : FVec Ideal S2x1024x1024 .f32) (ix3 b r k) = Ideal.exp2 ((argsR m c).bias b r k) := by
  rw [Wt_out4, final9]
  rfl

/-- The derivatives of the scores by the arguments. -/
theorem dsR_at (b : Fin 2) (n : Fin 16) (g : Fin 2) (r k : Fin 1024) : dsR m c (ix5 b n g r k) = rDs smR (argsR m c) b n g r k :=
  (refDs_at _ _ _ _ _ _ _ _ _ _ _ _ (count_Wt m c) b n g r k).trans (by rw [args_Wt])

/-- The probabilities by the arguments. -/
theorem pR_at (b : Fin 2) (n : Fin 16) (g : Fin 2) (r k : Fin 1024) : pR m c (ix5 b n g r k) = rP smR (argsR m c) b n g r k :=
  (refP_at _ _ (Wt m c (Proc.devRef .tc main_v0_2)) (Wt m c (Proc.devRef .tc main_v0_3)) _ _ _ (Wt m c (Proc.devRef .tc main_arg5)) (Wt m c (Proc.devRef .tc main_arg6)) _ (Wt m c (Proc.devRef .tc main_arg9)) _ (count_Wt m c) b n g r k).trans (by rw [args_Wt])

/-! ## The results -/

/-- The gradient of the queries at coordinates. -/
theorem res_dq (b : Fin 2) (h : Fin 32) (r : Fin 1024) (d : Fin 128) :
    (StableHlo.after (hostOps1 (F := Ideal)) (Wt m c) (Proc.devRef .tc main_v60) : FVec Ideal S2x32x1024x128 .bf16) (ix4 b h r d)
      = rDq smR (argsR m c) b (kvOf h) (grpOf h) r d := by
  rw [tail_dq]
  refine refDq_at _ _ _ (argsR m c) (fun b r n d => ?_) (fun b n => ?_) (dsR_at m c) b h r d
  · rw [Wt_out1, final6]; rfl
  · rw [Wt_arg3]; rfl

/-- The gradient of the keys at coordinates. -/
theorem res_dk (b : Fin 2) (n : Fin 16) (k : Fin 1024) (d : Fin 128) :
    (StableHlo.after (hostOps1 (F := Ideal)) (Wt m c) (Proc.devRef .tc main_v68) : FVec Ideal S2x16x1024x128 .bf16) (ix4 b n k d)
      = rDk smR (argsR m c) b n k d := by
  rw [tail_dk]
  refine refDk_at _ _ _ (argsR m c) (fun b r n d => ?_) (fun b n => ?_) (dsR_at m c) b n k d
  · rw [Wt_out0, final5]; rfl
  · rw [Wt_arg1]; rfl

/-- The gradient of the values at coordinates. -/
theorem res_dv (b : Fin 2) (n : Fin 16) (k : Fin 1024) (d : Fin 128) :
    (StableHlo.after (hostOps1 (F := Ideal)) (Wt m c) (Proc.devRef .tc main_v71) : FVec Ideal S2x16x1024x128 .bf16) (ix4 b n k d)
      = rDv smR (argsR m c) b n k d := by
  rw [tail_dv]
  refine refDv_at _ _ _ (argsR m c) (fun b r n d => ?_) (fun b r => ?_) (pR_at m c) b n k d
  · rw [Wt_out3, final8]; rfl
  · rw [Wt_arg9]; rfl

/-- The gathered derivatives of the scores by the words of `idx`, the weights, the words of `ext_g` and the arguments. -/
def rEll (a11 : IVec S2x1152x128 32) (a12 : FVec Ideal S2x1152x128 .f32) (a13 : IVec S2x128 32) (A : Args)
    (b : Fin 2) (h : Fin 32) (s : Fin 1152) (l : Fin 128) : EReal :=
  pick (a11 (ix3 b s l)) (fun x => pick (refRow a13 (ix2 b s)) fun r => rDs smR A b (kvOf h) (grpOf h) r x) * a12 (ix3 b s l)

/-- The gathered derivatives of the scores at coordinates. -/
theorem res_ell (b : Fin 2) (h : Fin 32) (s : Fin 1152) (l : Fin 128) :
    (StableHlo.after (hostOps1 (F := Ideal)) (Wt m c) (Proc.devRef .tc main_v106) : FVec Ideal S2x32x1152x128 .f32) (ix4 b h s l)
      = rEll (m ((c : Thread nD τ).loc main_arg11)) (m ((c : Thread nD τ).loc main_arg12)) (m ((c : Thread nD τ).loc main_arg13)) (argsR m c) b h s l := by
  rw [tail_ell, refEll_at, Wt_arg11, Wt_arg12, Wt_arg13]
  unfold rEll
  congr 1
  refine congrArg (pick _) (funext fun x => congrArg (pick _) (funext fun r => ?_))
  exact dsR_at m c b (kvOf h) (grpOf h) r x

/-- A result buffer after the run holds what the host operations leave in it. -/
theorem tail_eq (b : Ref sig .tc) : Pipeline.afterTail₀ cfgs (dats m) 0 (V0 m) [hostOps1] c b = StableHlo.after hostOps1 (Wt m c) (Proc.devRef .tc b) := by
  unfold Pipeline.afterTail₀
  rw [List.flatten_cons, List.flatten_nil, List.append_nil]

/-- The run: the results by the arguments, and the arguments as launched. -/
theorem run : θ_run defs (onTc (τ := τ) (main (F := Ideal))) ⟨m, fun _ => 0, ρ⟩ (fun r => ∀ c : Dev nD,
      r.2.mem ((c.tc : Thread nD τ).loc main_v60) = (fun y : S2x32x1024x128.Idx => rDq smR (argsR m c) (y 0) (kvOf (y 1)) (grpOf (y 1)) (y 2) (y 3))
      ∧ r.2.mem ((c.tc : Thread nD τ).loc main_v68) = (fun y : S2x16x1024x128.Idx => rDk smR (argsR m c) (y 0) (y 1) (y 2) (y 3))
      ∧ r.2.mem ((c.tc : Thread nD τ).loc main_v71) = (fun y : S2x16x1024x128.Idx => rDv smR (argsR m c) (y 0) (y 1) (y 2) (y 3))
      ∧ r.2.mem ((c.tc : Thread nD τ).loc main_v106) = (fun y : S2x32x1152x128.Idx => rEll (m ((c : Thread nD τ).loc main_arg11)) (m ((c : Thread nD τ).loc main_arg12)) (m ((c : Thread nD τ).loc main_arg13)) (argsR m c) (y 0) (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_v60 (Pipeline.mem_restRefs_of main_v60 (by decide) (by decide))).trans ((tail_eq m c main_v60).trans
        (funext fun y : S2x32x1024x128.Idx => (congrArg _ (eq_ix4 y)).trans (res_dq m c (y 0) (y 1) (y 2) (y 3)))),
      ((h c).2 main_v68 (Pipeline.mem_restRefs_of main_v68 (by decide) (by decide))).trans ((tail_eq m c main_v68).trans
        (funext fun y : S2x16x1024x128.Idx => (congrArg _ (eq_ix4 y)).trans (res_dk m c (y 0) (y 1) (y 2) (y 3)))),
      ((h c).2 main_v71 (Pipeline.mem_restRefs_of main_v71 (by decide) (by decide))).trans ((tail_eq m c main_v71).trans
        (funext fun y : S2x16x1024x128.Idx => (congrArg _ (eq_ix4 y)).trans (res_dv m c (y 0) (y 1) (y 2) (y 3)))),
      ((h c).2 main_v106 (Pipeline.mem_restRefs_of main_v106 (by decide) (by decide))).trans ((tail_eq m c main_v106).trans
        (funext fun y : S2x32x1152x128.Idx => (congrArg _ (eq_ix4 y)).trans (res_ell m c (y 0) (y 1) (y 2) (y 3)))),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      ((h c).1 3).trans (((dats m 0 c).arrAt_in 3 rfl _).trans ((A_eq m c 3).trans (V_main_arg8 m c))),
      (((h c).2 main_arg9 (Pipeline.mem_restRefs_of main_arg9 (by decide) (by decide))).trans (W_main_arg9 m (dats m) c)),
      ((h c).1 4).trans (((dats m 0 c).arrAt_in 4 rfl _).trans ((A_eq m c 4).trans (V_main_arg10 m c))),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩) (run_main m ρ)

end Cert.ReferenceIdeal.Proof
end
-- ==== Proof.Algebraic.lean ====
/- The value claim: the idealized kernel and the reference leave equal results. -/
module

public import proofs.«01_k».proof.Defs
public import proofs.«01_k».proof.Proof.KernelIdealResults
public import proofs.«01_k».proof.Proof.KernelIdealEll
public import proofs.«01_k».proof.Proof.ReferenceIdealRun
public import proofs.«01_k».proof.Proof.OnWritten
public import proofs.«01_k».proof.Proof.Gen.Pre_admissible

@[expose] public section

set_option maxRecDepth 16384

noncomputable section

namespace Cert.Proof

open Idealize.ShloMosaic Idealize.ShloMosaic.TcCoe Idealize.ShloMosaic.Pipeline
open Idealize.SL Idealize.SL.Sem

open Cert.Gradients

open Cert.KernelIdeal Cert.KernelIdeal.Gen Cert.KernelIdeal.Proof

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories that agree on the arguments, the two programs compute from the same numbers. -/
theorem args_agree (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Proof.argsR m' c = argsAt m c := by
  unfold Cert.ReferenceIdeal.Proof.argsR
  rw [h0, h1, h2, h3, h4, h5, h6, h7, h8, h9, h10]
  rfl

/-- The idealized kernel and the reference, from memories that agree on the arguments, leave equal results where they are
    written, and leave the arguments. -/
theorem algebraic : Cert.algebraic_KernelIdeal_ReferenceIdeal_on_written (hKernelIdeal := Cert.KernelIdeal.Gen.facts)
    (hReferenceIdeal := Cert.ReferenceIdeal.Gen.facts) (hPre_admissible := Cert.Pre_admissible.Gen.facts)
    (hOn_written := Cert.On_written.Proof.facts) := by
  intro m g m' g' hpre hagree
  have H : ∀ c t, Hyps m c t := hyps_of_pre m hpre
  have hs : ∀ c b r, 0 ≤ (argsAt m c).dsc b r ∧ (argsAt m c).dsc b r ≠ ⊤ := fun c b r => scale_of_pre _ _ _ _ _ _ _ _ _ _ _ _ _ _ _ (hpre c) b r
  have hargs : ∀ c, Cert.ReferenceIdeal.Proof.argsR m' c = argsAt m c := fun c => by
    obtain ⟨h0, h1, h2, h3, h4, h5, h6, h7, h8, h9, h10, -⟩ := hagree c
    exact args_agree m m' c h0 h1 h2 h3 h4 h5 h6 h7 h8 h9 h10
  refine ⟨fun c => fun y : S2x32x1024x128.Idx => rDq sm (argsAt m c) (y 0) (kvOf (y 1)) (grpOf (y 1)) (y 2) (y 3),
    fun c => fun y : S2x16x1024x128.Idx => rDk sm (argsAt m c) (y 0) (y 1) (y 2) (y 3),
    fun c => fun y : S2x16x1024x128.Idx => rDv sm (argsAt m c) (y 0) (y 1) (y 2) (y 3),
    fun c => fun y : S2x32x1152x128.Idx => Cert.ReferenceIdeal.Proof.rEll (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (argsAt m c) (y 0) (y 1) (y 2) (y 3), ?_, ?_⟩
  · refine (θ_run defs _ _).mono (fun r h c => ⟨fun i _ => ?_, fun i _ => ?_, fun i _ => ?_, fun i hi => ?_,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      (in_end m H h.1 c 10 rfl).trans (V_main_arg10 m c),
      (in_end m H h.1 c 11 rfl).trans (V_main_arg11 m c),
      (in_end m H h.1 c 12 rfl).trans (V_main_arg12 m c),
      (in_end m H h.1 c 1 rfl).trans (V_main_arg13 m c),
      (in_end m H h.1 c 2 rfl).trans (V_main_arg14 m c)⟩) (run_main_quiescent m g H)
    · refine (congrFun ((out_end m H h.1 c 13 (by decide)).trans (final13 m H c)) i).trans ?_
      rw [lg_eq]
      exact kDq_eq sm _ _ _ _ (fun b r => (hs c b r).1) (fun b r => (hs c b r).2) _ _
    · refine (congrFun ((out_end m H h.1 c 14 (by decide)).trans (final14 m H c)) i).trans ?_
      rw [lg_eq]
      exact kDk_eq sm _ _ _ (fun b r => (hs c b r).1) (fun b r => (hs c b r).2) _ _
    · refine (congrFun ((out_end m H h.1 c 15 (by decide)).trans (final15 m H c)) i).trans ?_
      rw [lg_eq]
      exact kDv_eq sm _ _ _ _ _
    · have hW : Words m := fun c b => words_of_pre _ _ _ _ _ _ _ _ _ _ _ _ _ _ _ (hpre c) b
      refine (final16 m H c hW h.1 i (.inr (slot_of_mask _ _ _ _ _ _ _ _ _ _ _ _ _ _ _ (i 0) (i 1) (i 2) (i 3) (hW c (i 0)).1 ((congrArg _ (eq_ix4 i).symm).trans hi)))).trans ?_
      unfold ellK Cert.ReferenceIdeal.Proof.rEll
      rw [lg_eq]
      exact congrArg (· * _) (congrArg (Cert.ReferenceIdeal.Proof.pick _) (funext fun x => congrArg (Cert.ReferenceIdeal.Proof.pick _)
        (funext fun r => kDs_eq sm _ _ _ _ (fun b r => (hs c b r).1) (fun b r => (hs c b r).2) r x)))
  · refine (θ_run Cert.ReferenceIdeal.defs _ _).mono (fun r h c => ?_) (Cert.ReferenceIdeal.Proof.run m' g')
    obtain ⟨r0, r1, r2, r3, ha⟩ := h c
    obtain ⟨-, -, -, -, -, -, -, -, -, -, -, h11, h12, h13, -⟩ := hagree c
    rw [hargs c] at r0 r1 r2 r3
    rw [h11, h12, h13] at r3
    exact ⟨fun i _ => congrFun r0 i, fun i _ => congrFun r1 i, fun i _ => congrFun r2 i, fun i _ => congrFun r3 i, ha⟩

end Cert.Proof
end
-- ==== Proof.lean ====
module

public import proofs.«01_k».proof.Defs
public import proofs.«01_k».proof.Proof.KernelWords
public import proofs.«01_k».proof.Proof.KernelIdealWords
public import proofs.«01_k».proof.Proof.Gen.ReferenceIdeal
public import proofs.«01_k».proof.Proof.Gen.ReferenceIdeal.Frame
public import proofs.«01_k».proof.Proof.Gen.Pre_admissible
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_admissible.Gen.facts,
  Cert.On_written.Proof.facts,
  fun m ρ h => Cert.Kernel.Proof.frame m ρ (Cert.Kernel.Proof.hyps_of_pre m h),
  fun m ρ h => Cert.KernelIdeal.Proof.frame m ρ (Cert.KernelIdeal.Proof.hyps_of_pre m h),
  fun m ρ _ => Cert.ReferenceIdeal.Gen.frame m ρ,
  fun m ρ _ => Cert.ReferenceIdeal.Gen.frame m ρ,
  IdealRules.named_const.statement _ _ _ _ _ (by simp [Cert.KernelIdeal.κ]),
  Cert.Proof.algebraic⟩

end Cert.Proof

end
